-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_KernelIdeal_in_domain [hPre_in_domain : Cert.Pre_in_domain.Facts] (m : (ℓ : Loc Cert.KernelIdeal.nD Cert.KernelIdeal.τ Cert.KernelIdeal.sig) → Buf (Elt Ideal) ℓ) : Prop :=
  ∀ c : Dev Cert.KernelIdeal.nD,
    (Cert.Pre_in_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_domain [hPre_in_domain : Cert.Pre_in_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_in_domain [hKernelIdeal : Cert.KernelIdeal.Facts] [hPre_in_domain : Cert.Pre_in_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_domain m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_in_domain [hReferenceIdeal : Cert.ReferenceIdeal.Facts] [hPre_in_domain : Cert.Pre_in_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_domain m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_in_domain [hKernelIdeal : Cert.KernelIdeal.Facts] [hReferenceIdeal : Cert.ReferenceIdeal.Facts] [hPre_in_domain : Cert.Pre_in_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_domain m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_in_range : Cert.Pre_in_range.Facts) (hPre_in_domain : Cert.Pre_in_domain.Facts),
    quiescent_Kernel (hKernel := hKernel) (hPre_in_range := hPre_in_range)
    ∧ quiescent_KernelIdeal (hKernelIdeal := hKernelIdeal) (hPre_in_range := hPre_in_range)
    ∧ quiescent_KernelIdeal_pre_in_domain (hKernelIdeal := hKernelIdeal) (hPre_in_domain := hPre_in_domain)
    ∧ quiescent_ReferenceIdeal (hReferenceIdeal := hReferenceIdeal)
    ∧ quiescent_ReferenceIdeal_pre_in_domain (hReferenceIdeal := hReferenceIdeal) (hPre_in_domain := hPre_in_domain)
    ∧ preserves_Kernel_KernelIdeal
    ∧ algebraic_KernelIdeal_ReferenceIdeal_pre_in_domain (hKernelIdeal := hKernelIdeal) (hReferenceIdeal := hReferenceIdeal) (hPre_in_domain := hPre_in_domain)
-- ==== Pre_in_domain.lean ====
abbrev S16384x128 : Shape := ⟨2, ![16384, 128]⟩
abbrev S16384 : Shape := ⟨1, ![16384]⟩
abbrev S1000x128 : Shape := ⟨2, ![1000, 128]⟩
abbrev S1000 : Shape := ⟨1, ![1000]⟩
abbrev S50 : Shape := ⟨1, ![50]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel
  bcast_S_S50 : S_.BroadcastsInDim S50 (![] : Fin 0 → Fin S50.rank)
  reducesTo_S50_S_d0 : S50.ReducesTo [0] S_
  bcast_S_S1000 : S_.BroadcastsInDim S1000 (![] : Fin 0 → Fin S1000.rank)
  reducesTo_S1000_S_d0 : S1000.ReducesTo [0] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S16384x128 .f32) (main_arg1 : IVec S16384 32) (main_arg2 : FVec F S1000x128 .f32) (main_arg3 : FVec F S1000 .f32) (main_arg4 : FVec F S1000 .f32) (main_arg5 : IVec S50 32) : IVec S_ 1 :=
  let main_c : IVec S_ 32 := constantI S_ 32 0#32
  let main_v0 : IVec S16384 32 := broadcastInDim S16384 ![] bcast_S_S16384 main_c
  let main_v1 : IVec S16384 1 := cmpi .sge main_arg1 main_v0
  let main_c_0 : IVec S_ 32 := constantI S_ 32 1000#32
  let main_v2 : IVec S16384 32 := broadcastInDim S16384 ![] bcast_S_S16384 main_c_0
  let main_v3 : IVec S16384 1 := cmpi .slt main_arg1 main_v2
  let main_v4 : IVec S16384 1 := andi main_v1 main_v3
  let main_c_1 : IVec S_ 1 := constantI S_ 1 1#1
  let main_v5 : IVec S_ 1 := (fun x v => Host.reduce IntOp.andi x v reducesTo_S16384_S_d0 h_S_) main_v4 main_c_1
  let main_c_2 : IVec S_ 32 := constantI S_ 32 0#32
  let main_v6 : IVec S50 32 := broadcastInDim S50 ![] bcast_S_S50 main_c_2
  let main_v7 : IVec S50 1 := cmpi .sge main_arg5 main_v6
  let main_c_3 : IVec S_ 32 := constantI S_ 32 1000#32
  let main_v8 : IVec S50 32 := broadcastInDim S50 ![] bcast_S_S50 main_c_3
  let main_v9 : IVec S50 1 := cmpi .slt main_arg5 main_v8
  let main_v10 : IVec S50 1 := andi main_v7 main_v9
  let main_c_4 : IVec S_ 1 := constantI S_ 1 1#1
  let main_v11 : IVec S_ 1 := (fun x v => Host.reduce IntOp.andi x v reducesTo_S50_S_d0 h_S_) main_v10 main_c_4
  let main_v12 : IVec S_ 1 := andi main_v5 main_v11
  let main_cst : FVec F S_ .f32 := constant S_ .f32 0x00000000#32
  let main_v13 : FVec F S1000 .f32 := broadcastInDim S1000 ![] bcast_S_S1000 main_cst
  let main_v14 : IVec S1000 1 := cmpf .oge main_arg4 main_v13
  let main_c_5 : IVec S_ 1 := constantI S_ 1 1#1
  let main_v15 : IVec S_ 1 := (fun x v => Host.reduce IntOp.andi x v reducesTo_S1000_S_d0 h_S_) main_v14 main_c_5
  fn_part1 (F := F) main_v12 main_v15
-- ==== Pre_in_range.lean ====
abbrev S16384x128 : Shape := ⟨2, ![16384, 128]⟩
abbrev S16384 : Shape := ⟨1, ![16384]⟩
abbrev S1000x128 : Shape := ⟨2, ![1000, 128]⟩
abbrev S1000 : Shape := ⟨1, ![1000]⟩
abbrev S50 : Shape := ⟨1, ![50]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel
  bcast_S_S50 : S_.BroadcastsInDim S50 (![] : Fin 0 → Fin S50.rank)
  reducesTo_S50_S_d0 : S50.ReducesTo [0] S_

variable [Facts]

def fn {F : FTy → Type} [FloatOps F] (main_arg0 : FVec F S16384x128 .f32) (main_arg1 : IVec S16384 32) (main_arg2 : FVec F S1000x128 .f32) (main_arg3 : FVec F S1000 .f32) (main_arg4 : FVec F S1000 .f32) (main_arg5 : IVec S50 32) : IVec S_ 1 :=
  let main_c : IVec S_ 32 := constantI S_ 32 0#32
  let main_v0 : IVec S16384 32 := broadcastInDim S16384 ![] bcast_S_S16384 main_c
  let main_v1 : IVec S16384 1 := cmpi .sge main_arg1 main_v0
  let main_c_0 : IVec S_ 32 := constantI S_ 32 1000#32
  let main_v2 : IVec S16384 32 := broadcastInDim S16384 ![] bcast_S_S16384 main_c_0
  let main_v3 : IVec S16384 1 := cmpi .slt main_arg1 main_v2
  let main_v4 : IVec S16384 1 := andi main_v1 main_v3
  let main_c_1 : IVec S_ 1 := constantI S_ 1 1#1
  let main_v5 : IVec S_ 1 := (fun x v => Host.reduce IntOp.andi x v reducesTo_S16384_S_d0 h_S_) main_v4 main_c_1
  let main_c_2 : IVec S_ 32 := constantI S_ 32 0#32
  let main_v6 : IVec S50 32 := broadcastInDim S50 ![] bcast_S_S50 main_c_2
  let main_v7 : IVec S50 1 := cmpi .sge main_arg5 main_v6
  let main_c_3 : IVec S_ 32 := constantI S_ 32 1000#32
  let main_v8 : IVec S50 32 := broadcastInDim S50 ![] bcast_S_S50 main_c_3
  let main_v9 : IVec S50 1 := cmpi .slt main_arg5 main_v8
  let main_v10 : IVec S50 1 := andi main_v7 main_v9
  let main_c_4 : IVec S_ 1 := constantI S_ 1 1#1
  let main_v11 : IVec S_ 1 := (fun x v => Host.reduce IntOp.andi x v reducesTo_S50_S_d0 h_S_) main_v10 main_c_4
  let main_v12 : IVec S_ 1 := andi main_v5 main_v11
  main_v12
-- ==== Kernel.lean ====
abbrev S16384x128 : Shape := ⟨2, ![16384, 128]⟩
abbrev S16384 : Shape := ⟨1, ![16384]⟩
abbrev S1000x128 : Shape := ⟨2, ![1000, 128]⟩
abbrev S1000 : Shape := ⟨1, ![1000]⟩
abbrev S50 : Shape := ⟨1, ![50]⟩
abbrev S_ : Shape := ⟨0, ![]⟩
abbrev S14 : Shape := ⟨1, ![14]⟩
abbrev S64 : Shape := ⟨1, ![64]⟩
abbrev S64x1 : Shape := ⟨2, ![64, 1]⟩
abbrev S64x8 : Shape := ⟨2, ![64, 8]⟩
abbrev S1000x1 : Shape := ⟨2, ![1000, 1]⟩
abbrev S1000x6 : Shape := ⟨2, ![1000, 6]⟩
abbrev S1000x8 : Shape := ⟨2, ![1000, 8]⟩
abbrev S8x16384 : Shape := ⟨2, ![8, 16384]⟩
abbrev S4x128 : Shape := ⟨2, ![4, 128]⟩
abbrev S128x128 : Shape := ⟨2, ![128, 128]⟩
abbrev S8x512 : Shape := ⟨2, ![8, 512]⟩
abbrev S1x128 : Shape := ⟨2, ![1, 128]⟩
abbrev S128 : Shape := ⟨1, ![128]⟩
abbrev S16 : Shape := ⟨1, ![16]⟩
abbrev S1x16 : Shape := ⟨2, ![1, 16]⟩
abbrev S1x1 : Shape := ⟨2, ![1, 1]⟩
abbrev S4096x128 : Shape := ⟨2, ![4096, 128]⟩
abbrev S64x128 : Shape := ⟨2, ![64, 128]⟩
abbrev S2x64 : Shape := ⟨2, ![2, 64]⟩
abbrev S64x1000 : Shape := ⟨2, ![64, 1000]⟩
abbrev S2x8 : Shape := ⟨2, ![2, 8]⟩
abbrev S1x64 : Shape := ⟨2, ![1, 64]⟩
abbrev S4096x64 : Shape := ⟨2, ![4096, 64]⟩
abbrev S4096 : Shape := ⟨1, ![4096]⟩
abbrev S4096x1 : Shape := ⟨2, ![4096, 1]⟩
abbrev S1 : Shape := ⟨1, ![1]⟩
abbrev S8x4096 : Shape := ⟨2, ![8, 4096]⟩
abbrev S1x4096 : Shape := ⟨2, ![1, 4096]⟩

abbrev nBuf : Table → Nat
  | .hbm => 21
  | .local .tc .vmem => 16
  | .local .scVector .vmem => 6
  | _ => 0

abbrev bufTy : (tb : Table) → Fin (nBuf tb) → BufTy
  | .hbm, ⟨0, _⟩ => ⟨S16384x128, .f32⟩
  | .hbm, ⟨1, _⟩ => ⟨S16384, .i32⟩
  | .hbm, ⟨2, _⟩ => ⟨S1000x128, .f32⟩
  | .hbm, ⟨3, _⟩ => ⟨S1000, .f32⟩
  | .hbm, ⟨4, _⟩ => ⟨S1000, .f32⟩
  | .hbm, ⟨5, _⟩ => ⟨S50, .i32⟩
  | .hbm, ⟨6, _⟩ => ⟨S_, .i32⟩
  | .hbm, ⟨7, _⟩ => ⟨S14, .i32⟩
  | .hbm, ⟨8, _⟩ => ⟨S64, .i32⟩
  | .hbm, ⟨9, _⟩ => ⟨S64x1, .i32⟩
  | .hbm, ⟨10, _⟩ => ⟨S64x8, .i32⟩
  | .hbm, ⟨11, _⟩ => ⟨S1000x1, .f32⟩
  | .hbm, ⟨12, _⟩ => ⟨S1000x1, .f32⟩
  | .hbm, ⟨13, _⟩ => ⟨S_, .f32⟩
  | .hbm, ⟨14, _⟩ => ⟨S1000x6, .f32⟩
  | .hbm, ⟨15, _⟩ => ⟨S1000x8, .f32⟩
  | .hbm, ⟨16, _⟩ => ⟨S16384x128, .f32⟩
  | .hbm, ⟨17, _⟩ => ⟨S8x16384, .f32⟩
  | .hbm, ⟨18, _⟩ => ⟨S1x1, .f32⟩
  | .hbm, ⟨19, _⟩ => ⟨S1x1, .f32⟩
  | .hbm, ⟨20, _⟩ => ⟨S_, .f32⟩
  | .local .tc .vmem, ⟨0, _⟩ => ⟨S4096x128, .f32⟩
  | .local .tc .vmem, ⟨1, _⟩ => ⟨S4096x128, .f32⟩
  | .local .tc .vmem, ⟨2, _⟩ => ⟨S1000x128, .f32⟩
  | .local .tc .vmem, ⟨3, _⟩ => ⟨S64x8, .i32⟩
  | .local .tc .vmem, ⟨4, _⟩ => ⟨S1000x8, .f32⟩
  | .local .tc .vmem, ⟨5, _⟩ => ⟨S1x1, .f32⟩
  | .local .tc .vmem, ⟨6, _⟩ => ⟨S64x128, .f32⟩
  | .local .tc .vmem, ⟨7, _⟩ => ⟨S2x64, .f32⟩
  | .local .tc .vmem, ⟨8, _⟩ => ⟨S4096x128, .f32⟩
  | .local .tc .vmem, ⟨9, _⟩ => ⟨S4096x128, .f32⟩
  | .local .tc .vmem, ⟨10, _⟩ => ⟨S4096x128, .f32⟩
  | .local .tc .vmem, ⟨11, _⟩ => ⟨S4096x128, .f32⟩
  | .local .tc .vmem, ⟨12, _⟩ => ⟨S8x4096, .f32⟩
  | .local .tc .vmem, ⟨13, _⟩ => ⟨S8x4096, .f32⟩
  | .local .tc .vmem, ⟨14, _⟩ => ⟨S1x1, .f32⟩
  | .local .tc .vmem, ⟨15, _⟩ => ⟨S1x1, .f32⟩
  | .local .scVector .vmem, ⟨0, _⟩ => ⟨S4x128, .i32⟩
  | .local .scVector .vmem, ⟨1, _⟩ => ⟨S128x128, .f32⟩
  | .local .scVector .vmem, ⟨2, _⟩ => ⟨S128x128, .f32⟩
  | .local .scVector .vmem, ⟨3, _⟩ => ⟨S8x512, .f32⟩
  | .local .scVector .vmem, ⟨4, _⟩ => ⟨S1000, .f32⟩
  | .local .scVector .vmem, ⟨5, _⟩ => ⟨S1000, .f32⟩
  | _, _ => ⟨S16384x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 23 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTables nBuf rfl bufTy 4 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_arg2_scv : Ref sig .scVector := ⟨.hbm, 2, rfl⟩
abbrev main_arg3_scv : Ref sig .scVector := ⟨.hbm, 3, rfl⟩
abbrev main_arg4_scv : Ref sig .scVector := ⟨.hbm, 4, rfl⟩
abbrev main_arg1_scv : Ref sig .scVector := ⟨.hbm, 1, rfl⟩
abbrev main_v8_0_scv : Ref sig .scVector := ⟨.hbm, 16, rfl⟩
abbrev main_v8_1_scv : Ref sig .scVector := ⟨.hbm, 17, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg2_0 : Ref sig .tc := ⟨.vmem, 3, rfl⟩
abbrev cc1_stg3_0 : Ref sig .tc := ⟨.vmem, 4, rfl⟩
abbrev cc1_stg4_0 : Ref sig .tc := ⟨.vmem, 5, rfl⟩
abbrev cc1_scratch0 : Ref sig .tc := ⟨.vmem, 6, rfl⟩
abbrev cc1_scratch1 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg1_1 : Ref sig .tc := ⟨.vmem, 11, rfl⟩
abbrev cc2_stg2_0 : Ref sig .tc := ⟨.vmem, 12, rfl⟩
abbrev cc2_stg2_1 : Ref sig .tc := ⟨.vmem, 13, rfl⟩
abbrev cc2_stg3_0 : Ref sig .tc := ⟨.vmem, 14, rfl⟩
abbrev cc2_stg4_0 : Ref sig .tc := ⟨.vmem, 15, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem4_0 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem2_1 : DmaSem sig := 20
abbrev cc2_sem3_0 : DmaSem sig := 21
abbrev cc2_sem4_0 : DmaSem sig := 22
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v3 : BitVec 32 := Scalar.addi v2 c0_i32
  ![v3.toNat]

def k0_chk1 (v63 : IVec S16 32) : Prop :=
  (∀ a x, ((![v63] : Fin 1 → IVec S16 32) a x).toNat < S1000.size a) ∧
  (∀ a x, ((![v63] : Fin 1 → IVec S16 32) a x).toNat < S1000.size a)
theorem k0_idx1_inb : ∀ (v63 : IVec S16 32) (k0_hw1 : k0_chk1 v63), ∀ a x, ((![v63] : Fin 1 → IVec S16 32) a x).toNat < S1000.size a := fun v63 k0_hw1 => k0_hw1.1
theorem k0_idx2_inb : ∀ (v63 : IVec S16 32) (k0_hw1 : k0_chk1 v63), ∀ a x, ((![v63] : Fin 1 → IVec S16 32) a x).toNat < S1000.size a := fun v63 k0_hw1 => k0_hw1.2

def k0_chk2 (v59 : IVec S16 32) (v61 : IVec S16 32) (v67 : IVec S16 32) : Prop :=
  (∀ a x, ((![v59, v67] : Fin 2 → IVec S16 32) a x).toNat < S8x512.size a) ∧
  (∀ a x, ((![v61, v67] : Fin 2 → IVec S16 32) a x).toNat < S8x512.size a)
theorem k0_idx3_inb : ∀ (v59 : IVec S16 32) (v61 : IVec S16 32) (v67 : IVec S16 32) (k0_hw2 : k0_chk2 v59 v61 v67), ∀ a x, ((![v59, v67] : Fin 2 → IVec S16 32) a x).toNat < S8x512.size a := fun v59 v61 v67 k0_hw2 => k0_hw2.1
theorem k0_idx4_inb : ∀ (v59 : IVec S16 32) (v61 : IVec S16 32) (v67 : IVec S16 32) (k0_hw2 : k0_chk2 v59 v61 v67), ∀ a x, ((![v61, v67] : Fin 2 → IVec S16 32) a x).toNat < S8x512.size a := fun v59 v61 v67 k0_hw2 => k0_hw2.2

def k0_chk3 (v69 : IVec S16 32) : Prop :=
  (∀ a x, ((![v69] : Fin 1 → IVec S16 32) a x).toNat < S1000.size a) ∧
  (∀ a x, ((![v69] : Fin 1 → IVec S16 32) a x).toNat < S1000.size a)
theorem k0_idx5_inb : ∀ (v69 : IVec S16 32) (k0_hw3 : k0_chk3 v69), ∀ a x, ((![v69] : Fin 1 → IVec S16 32) a x).toNat < S1000.size a := fun v69 k0_hw3 => k0_hw3.1
theorem k0_idx6_inb : ∀ (v69 : IVec S16 32) (k0_hw3 : k0_chk3 v69), ∀ a x, ((![v69] : Fin 1 → IVec S16 32) a x).toNat < S1000.size a := fun v69 k0_hw3 => k0_hw3.2

def k0_chk4 (v59 : IVec S16 32) (v61 : IVec S16 32) (v73 : IVec S16 32) : Prop :=
  (∀ a x, ((![v59, v73] : Fin 2 → IVec S16 32) a x).toNat < S8x512.size a) ∧
  (∀ a x, ((![v61, v73] : Fin 2 → IVec S16 32) a x).toNat < S8x512.size a)
theorem k0_idx7_inb : ∀ (v59 : IVec S16 32) (v61 : IVec S16 32) (v73 : IVec S16 32) (k0_hw4 : k0_chk4 v59 v61 v73), ∀ a x, ((![v59, v73] : Fin 2 → IVec S16 32) a x).toNat < S8x512.size a := fun v59 v61 v73 k0_hw4 => k0_hw4.1
theorem k0_idx8_inb : ∀ (v59 : IVec S16 32) (v61 : IVec S16 32) (v73 : IVec S16 32) (k0_hw4 : k0_chk4 v59 v61 v73), ∀ a x, ((![v61, v73] : Fin 2 → IVec S16 32) a x).toNat < S8x512.size a := fun v59 v61 v73 k0_hw4 => k0_hw4.2

def k0_chk5 (v75 : IVec S16 32) : Prop :=
  (∀ a x, ((![v75] : Fin 1 → IVec S16 32) a x).toNat < S1000.size a) ∧
  (∀ a x, ((![v75] : Fin 1 → IVec S16 32) a x).toNat < S1000.size a)
theorem k0_idx9_inb : ∀ (v75 : IVec S16 32) (k0_hw5 : k0_chk5 v75), ∀ a x, ((![v75] : Fin 1 → IVec S16 32) a x).toNat < S1000.size a := fun v75 k0_hw5 => k0_hw5.1
theorem k0_idx10_inb : ∀ (v75 : IVec S16 32) (k0_hw5 : k0_chk5 v75), ∀ a x, ((![v75] : Fin 1 → IVec S16 32) a x).toNat < S1000.size a := fun v75 k0_hw5 => k0_hw5.2

def k0_chk6 (v59 : IVec S16 32) (v61 : IVec S16 32) (v79 : IVec S16 32) : Prop :=
  (∀ a x, ((![v59, v79] : Fin 2 → IVec S16 32) a x).toNat < S8x512.size a) ∧
  (∀ a x, ((![v61, v79] : Fin 2 → IVec S16 32) a x).toNat < S8x512.size a)
theorem k0_idx11_inb : ∀ (v59 : IVec S16 32) (v61 : IVec S16 32) (v79 : IVec S16 32) (k0_hw6 : k0_chk6 v59 v61 v79), ∀ a x, ((![v59, v79] : Fin 2 → IVec S16 32) a x).toNat < S8x512.size a := fun v59 v61 v79 k0_hw6 => k0_hw6.1
theorem k0_idx12_inb : ∀ (v59 : IVec S16 32) (v61 : IVec S16 32) (v79 : IVec S16 32) (k0_hw6 : k0_chk6 v59 v61 v79), ∀ a x, ((![v61, v79] : Fin 2 → IVec S16 32) a x).toNat < S8x512.size a := fun v59 v61 v79 k0_hw6 => k0_hw6.2

def k0_chk7 (v81 : IVec S16 32) : Prop :=
  (∀ a x, ((![v81] : Fin 1 → IVec S16 32) a x).toNat < S1000.size a) ∧
  (∀ a x, ((![v81] : Fin 1 → IVec S16 32) a x).toNat < S1000.size a)
theorem k0_idx13_inb : ∀ (v81 : IVec S16 32) (k0_hw7 : k0_chk7 v81), ∀ a x, ((![v81] : Fin 1 → IVec S16 32) a x).toNat < S1000.size a := fun v81 k0_hw7 => k0_hw7.1
theorem k0_idx14_inb : ∀ (v81 : IVec S16 32) (k0_hw7 : k0_chk7 v81), ∀ a x, ((![v81] : Fin 1 → IVec S16 32) a x).toNat < S1000.size a := fun v81 k0_hw7 => k0_hw7.2

def k0_chk8 (v59 : IVec S16 32) (v61 : IVec S16 32) (v85 : IVec S16 32) : Prop :=
  (∀ a x, ((![v59, v85] : Fin 2 → IVec S16 32) a x).toNat < S8x512.size a) ∧
  (∀ a x, ((![v61, v85] : Fin 2 → IVec S16 32) a x).toNat < S8x512.size a)
theorem k0_idx15_inb : ∀ (v59 : IVec S16 32) (v61 : IVec S16 32) (v85 : IVec S16 32) (k0_hw8 : k0_chk8 v59 v61 v85), ∀ a x, ((![v59, v85] : Fin 2 → IVec S16 32) a x).toNat < S8x512.size a := fun v59 v61 v85 k0_hw8 => k0_hw8.1
theorem k0_idx16_inb : ∀ (v59 : IVec S16 32) (v61 : IVec S16 32) (v85 : IVec S16 32) (k0_hw8 : k0_chk8 v59 v61 v85), ∀ a x, ((![v61, v85] : Fin 2 → IVec S16 32) a x).toNat < S8x512.size a := fun v59 v61 v85 k0_hw8 => k0_hw8.2

def k0_chk9 (v87 : IVec S16 32) : Prop :=
  (∀ a x, ((![v87] : Fin 1 → IVec S16 32) a x).toNat < S1000.size a) ∧
  (∀ a x, ((![v87] : Fin 1 → IVec S16 32) a x).toNat < S1000.size a)
theorem k0_idx17_inb : ∀ (v87 : IVec S16 32) (k0_hw9 : k0_chk9 v87), ∀ a x, ((![v87] : Fin 1 → IVec S16 32) a x).toNat < S1000.size a := fun v87 k0_hw9 => k0_hw9.1
theorem k0_idx18_inb : ∀ (v87 : IVec S16 32) (k0_hw9 : k0_chk9 v87), ∀ a x, ((![v87] : Fin 1 → IVec S16 32) a x).toNat < S1000.size a := fun v87 k0_hw9 => k0_hw9.2

def k0_chk10 (v59 : IVec S16 32) (v61 : IVec S16 32) (v91 : IVec S16 32) : Prop :=
  (∀ a x, ((![v59, v91] : Fin 2 → IVec S16 32) a x).toNat < S8x512.size a) ∧
  (∀ a x, ((![v61, v91] : Fin 2 → IVec S16 32) a x).toNat < S8x512.size a)
theorem k0_idx19_inb : ∀ (v59 : IVec S16 32) (v61 : IVec S16 32) (v91 : IVec S16 32) (k0_hw10 : k0_chk10 v59 v61 v91), ∀ a x, ((![v59, v91] : Fin 2 → IVec S16 32) a x).toNat < S8x512.size a := fun v59 v61 v91 k0_hw10 => k0_hw10.1
theorem k0_idx20_inb : ∀ (v59 : IVec S16 32) (v61 : IVec S16 32) (v91 : IVec S16 32) (k0_hw10 : k0_chk10 v59 v61 v91), ∀ a x, ((![v61, v91] : Fin 2 → IVec S16 32) a x).toNat < S8x512.size a := fun v59 v61 v91 k0_hw10 => k0_hw10.2

def k0_chk11 (v93 : IVec S16 32) : Prop :=
  (∀ a x, ((![v93] : Fin 1 → IVec S16 32) a x).toNat < S1000.size a) ∧
  (∀ a x, ((![v93] : Fin 1 → IVec S16 32) a x).toNat < S1000.size a)
theorem k0_idx21_inb : ∀ (v93 : IVec S16 32) (k0_hw11 : k0_chk11 v93), ∀ a x, ((![v93] : Fin 1 → IVec S16 32) a x).toNat < S1000.size a := fun v93 k0_hw11 => k0_hw11.1
theorem k0_idx22_inb : ∀ (v93 : IVec S16 32) (k0_hw11 : k0_chk11 v93), ∀ a x, ((![v93] : Fin 1 → IVec S16 32) a x).toNat < S1000.size a := fun v93 k0_hw11 => k0_hw11.2

def k0_chk12 (v59 : IVec S16 32) (v61 : IVec S16 32) (v97 : IVec S16 32) : Prop :=
  (∀ a x, ((![v59, v97] : Fin 2 → IVec S16 32) a x).toNat < S8x512.size a) ∧
  (∀ a x, ((![v61, v97] : Fin 2 → IVec S16 32) a x).toNat < S8x512.size a)
theorem k0_idx23_inb : ∀ (v59 : IVec S16 32) (v61 : IVec S16 32) (v97 : IVec S16 32) (k0_hw12 : k0_chk12 v59 v61 v97), ∀ a x, ((![v59, v97] : Fin 2 → IVec S16 32) a x).toNat < S8x512.size a := fun v59 v61 v97 k0_hw12 => k0_hw12.1
theorem k0_idx24_inb : ∀ (v59 : IVec S16 32) (v61 : IVec S16 32) (v97 : IVec S16 32) (k0_hw12 : k0_chk12 v59 v61 v97), ∀ a x, ((![v61, v97] : Fin 2 → IVec S16 32) a x).toNat < S8x512.size a := fun v59 v61 v97 k0_hw12 => k0_hw12.2

def k0_chk13 (v99 : IVec S16 32) : Prop :=
  (∀ a x, ((![v99] : Fin 1 → IVec S16 32) a x).toNat < S1000.size a) ∧
  (∀ a x, ((![v99] : Fin 1 → IVec S16 32) a x).toNat < S1000.size a)
theorem k0_idx25_inb : ∀ (v99 : IVec S16 32) (k0_hw13 : k0_chk13 v99), ∀ a x, ((![v99] : Fin 1 → IVec S16 32) a x).toNat < S1000.size a := fun v99 k0_hw13 => k0_hw13.1
theorem k0_idx26_inb : ∀ (v99 : IVec S16 32) (k0_hw13 : k0_chk13 v99), ∀ a x, ((![v99] : Fin 1 → IVec S16 32) a x).toNat < S1000.size a := fun v99 k0_hw13 => k0_hw13.2

def k0_chk14 (v59 : IVec S16 32) (v61 : IVec S16 32) (v103 : IVec S16 32) : Prop :=
  (∀ a x, ((![v59, v103] : Fin 2 → IVec S16 32) a x).toNat < S8x512.size a) ∧
  (∀ a x, ((![v61, v103] : Fin 2 → IVec S16 32) a x).toNat < S8x512.size a)
theorem k0_idx27_inb : ∀ (v59 : IVec S16 32) (v61 : IVec S16 32) (v103 : IVec S16 32) (k0_hw14 : k0_chk14 v59 v61 v103), ∀ a x, ((![v59, v103] : Fin 2 → IVec S16 32) a x).toNat < S8x512.size a := fun v59 v61 v103 k0_hw14 => k0_hw14.1
theorem k0_idx28_inb : ∀ (v59 : IVec S16 32) (v61 : IVec S16 32) (v103 : IVec S16 32) (k0_hw14 : k0_chk14 v59 v61 v103), ∀ a x, ((![v61, v103] : Fin 2 → IVec S16 32) a x).toNat < S8x512.size a := fun v59 v61 v103 k0_hw14 => k0_hw14.2

def k0_chk15 (v105 : IVec S16 32) : Prop :=
  (∀ a x, ((![v105] : Fin 1 → IVec S16 32) a x).toNat < S1000.size a) ∧
  (∀ a x, ((![v105] : Fin 1 → IVec S16 32) a x).toNat < S1000.size a)
theorem k0_idx29_inb : ∀ (v105 : IVec S16 32) (k0_hw15 : k0_chk15 v105), ∀ a x, ((![v105] : Fin 1 → IVec S16 32) a x).toNat < S1000.size a := fun v105 k0_hw15 => k0_hw15.1
theorem k0_idx30_inb : ∀ (v105 : IVec S16 32) (k0_hw15 : k0_chk15 v105), ∀ a x, ((![v105] : Fin 1 → IVec S16 32) a x).toNat < S1000.size a := fun v105 k0_hw15 => k0_hw15.2

def k0_chk16 (v59 : IVec S16 32) (v61 : IVec S16 32) (v109 : IVec S16 32) : Prop :=
  (∀ a x, ((![v59, v109] : Fin 2 → IVec S16 32) a x).toNat < S8x512.size a) ∧
  (∀ a x, ((![v61, v109] : Fin 2 → IVec S16 32) a x).toNat < S8x512.size a)
theorem k0_idx31_inb : ∀ (v59 : IVec S16 32) (v61 : IVec S16 32) (v109 : IVec S16 32) (k0_hw16 : k0_chk16 v59 v61 v109), ∀ a x, ((![v59, v109] : Fin 2 → IVec S16 32) a x).toNat < S8x512.size a := fun v59 v61 v109 k0_hw16 => k0_hw16.1
theorem k0_idx32_inb : ∀ (v59 : IVec S16 32) (v61 : IVec S16 32) (v109 : IVec S16 32) (k0_hw16 : k0_chk16 v59 v61 v109), ∀ a x, ((![v61, v109] : Fin 2 → IVec S16 32) a x).toNat < S8x512.size a := fun v59 v61 v109 k0_hw16 => k0_hw16.2

def k0_chk17 (v111 : IVec S16 32) : Prop :=
  (∀ a x, ((![v111] : Fin 1 → IVec S16 32) a x).toNat < S1000.size a) ∧
  (∀ a x, ((![v111] : Fin 1 → IVec S16 32) a x).toNat < S1000.size a)
theorem k0_idx33_inb : ∀ (v111 : IVec S16 32) (k0_hw17 : k0_chk17 v111), ∀ a x, ((![v111] : Fin 1 → IVec S16 32) a x).toNat < S1000.size a := fun v111 k0_hw17 => k0_hw17.1
theorem k0_idx34_inb : ∀ (v111 : IVec S16 32) (k0_hw17 : k0_chk17 v111), ∀ a x, ((![v111] : Fin 1 → IVec S16 32) a x).toNat < S1000.size a := fun v111 k0_hw17 => k0_hw17.2

def k0_chk18 (v59 : IVec S16 32) (v61 : IVec S16 32) (v115 : IVec S16 32) : Prop :=
  (∀ a x, ((![v59, v115] : Fin 2 → IVec S16 32) a x).toNat < S8x512.size a) ∧
  (∀ a x, ((![v61, v115] : Fin 2 → IVec S16 32) a x).toNat < S8x512.size a)
theorem k0_idx35_inb : ∀ (v59 : IVec S16 32) (v61 : IVec S16 32) (v115 : IVec S16 32) (k0_hw18 : k0_chk18 v59 v61 v115), ∀ a x, ((![v59, v115] : Fin 2 → IVec S16 32) a x).toNat < S8x512.size a := fun v59 v61 v115 k0_hw18 => k0_hw18.1
theorem k0_idx36_inb : ∀ (v59 : IVec S16 32) (v61 : IVec S16 32) (v115 : IVec S16 32) (k0_hw18 : k0_chk18 v59 v61 v115), ∀ a x, ((![v61, v115] : Fin 2 → IVec S16 32) a x).toNat < S8x512.size a := fun v59 v61 v115 k0_hw18 => k0_hw18.2

def k0_chk19 (v117 : IVec S16 32) : Prop :=
  (∀ a x, ((![v117] : Fin 1 → IVec S16 32) a x).toNat < S1000.size a) ∧
  (∀ a x, ((![v117] : Fin 1 → IVec S16 32) a x).toNat < S1000.size a)
theorem k0_idx37_inb : ∀ (v117 : IVec S16 32) (k0_hw19 : k0_chk19 v117), ∀ a x, ((![v117] : Fin 1 → IVec S16 32) a x).toNat < S1000.size a := fun v117 k0_hw19 => k0_hw19.1
theorem k0_idx38_inb : ∀ (v117 : IVec S16 32) (k0_hw19 : k0_chk19 v117), ∀ a x, ((![v117] : Fin 1 → IVec S16 32) a x).toNat < S1000.size a := fun v117 k0_hw19 => k0_hw19.2

def k0_chk20 (v59 : IVec S16 32) (v61 : IVec S16 32) (v121 : IVec S16 32) : Prop :=
  (∀ a x, ((![v59, v121] : Fin 2 → IVec S16 32) a x).toNat < S8x512.size a) ∧
  (∀ a x, ((![v61, v121] : Fin 2 → IVec S16 32) a x).toNat < S8x512.size a)
theorem k0_idx39_inb : ∀ (v59 : IVec S16 32) (v61 : IVec S16 32) (v121 : IVec S16 32) (k0_hw20 : k0_chk20 v59 v61 v121), ∀ a x, ((![v59, v121] : Fin 2 → IVec S16 32) a x).toNat < S8x512.size a := fun v59 v61 v121 k0_hw20 => k0_hw20.1
theorem k0_idx40_inb : ∀ (v59 : IVec S16 32) (v61 : IVec S16 32) (v121 : IVec S16 32) (k0_hw20 : k0_chk20 v59 v61 v121), ∀ a x, ((![v61, v121] : Fin 2 → IVec S16 32) a x).toNat < S8x512.size a := fun v59 v61 v121 k0_hw20 => k0_hw20.2

def k0_chk21 (v123 : IVec S16 32) : Prop :=
  (∀ a x, ((![v123] : Fin 1 → IVec S16 32) a x).toNat < S1000.size a) ∧
  (∀ a x, ((![v123] : Fin 1 → IVec S16 32) a x).toNat < S1000.size a)
theorem k0_idx41_inb : ∀ (v123 : IVec S16 32) (k0_hw21 : k0_chk21 v123), ∀ a x, ((![v123] : Fin 1 → IVec S16 32) a x).toNat < S1000.size a := fun v123 k0_hw21 => k0_hw21.1
theorem k0_idx42_inb : ∀ (v123 : IVec S16 32) (k0_hw21 : k0_chk21 v123), ∀ a x, ((![v123] : Fin 1 → IVec S16 32) a x).toNat < S1000.size a := fun v123 k0_hw21 => k0_hw21.2

def k0_chk22 (v59 : IVec S16 32) (v61 : IVec S16 32) (v127 : IVec S16 32) : Prop :=
  (∀ a x, ((![v59, v127] : Fin 2 → IVec S16 32) a x).toNat < S8x512.size a) ∧
  (∀ a x, ((![v61, v127] : Fin 2 → IVec S16 32) a x).toNat < S8x512.size a)
theorem k0_idx43_inb : ∀ (v59 : IVec S16 32) (v61 : IVec S16 32) (v127 : IVec S16 32) (k0_hw22 : k0_chk22 v59 v61 v127), ∀ a x, ((![v59, v127] : Fin 2 → IVec S16 32) a x).toNat < S8x512.size a := fun v59 v61 v127 k0_hw22 => k0_hw22.1
theorem k0_idx44_inb : ∀ (v59 : IVec S16 32) (v61 : IVec S16 32) (v127 : IVec S16 32) (k0_hw22 : k0_chk22 v59 v61 v127), ∀ a x, ((![v61, v127] : Fin 2 → IVec S16 32) a x).toNat < S8x512.size a := fun v59 v61 v127 k0_hw22 => k0_hw22.2

def k0_chk23 (v129 : IVec S16 32) : Prop :=
  (∀ a x, ((![v129] : Fin 1 → IVec S16 32) a x).toNat < S1000.size a) ∧
  (∀ a x, ((![v129] : Fin 1 → IVec S16 32) a x).toNat < S1000.size a)
theorem k0_idx45_inb : ∀ (v129 : IVec S16 32) (k0_hw23 : k0_chk23 v129), ∀ a x, ((![v129] : Fin 1 → IVec S16 32) a x).toNat < S1000.size a := fun v129 k0_hw23 => k0_hw23.1
theorem k0_idx46_inb : ∀ (v129 : IVec S16 32) (k0_hw23 : k0_chk23 v129), ∀ a x, ((![v129] : Fin 1 → IVec S16 32) a x).toNat < S1000.size a := fun v129 k0_hw23 => k0_hw23.2

def k0_chk24 (v59 : IVec S16 32) (v61 : IVec S16 32) (v133 : IVec S16 32) : Prop :=
  (∀ a x, ((![v59, v133] : Fin 2 → IVec S16 32) a x).toNat < S8x512.size a) ∧
  (∀ a x, ((![v61, v133] : Fin 2 → IVec S16 32) a x).toNat < S8x512.size a)
theorem k0_idx47_inb : ∀ (v59 : IVec S16 32) (v61 : IVec S16 32) (v133 : IVec S16 32) (k0_hw24 : k0_chk24 v59 v61 v133), ∀ a x, ((![v59, v133] : Fin 2 → IVec S16 32) a x).toNat < S8x512.size a := fun v59 v61 v133 k0_hw24 => k0_hw24.1
theorem k0_idx48_inb : ∀ (v59 : IVec S16 32) (v61 : IVec S16 32) (v133 : IVec S16 32) (k0_hw24 : k0_chk24 v59 v61 v133), ∀ a x, ((![v61, v133] : Fin 2 → IVec S16 32) a x).toNat < S8x512.size a := fun v59 v61 v133 k0_hw24 => k0_hw24.2

def k0_chk25 (v135 : IVec S16 32) : Prop :=
  (∀ a x, ((![v135] : Fin 1 → IVec S16 32) a x).toNat < S1000.size a) ∧
  (∀ a x, ((![v135] : Fin 1 → IVec S16 32) a x).toNat < S1000.size a)
theorem k0_idx49_inb : ∀ (v135 : IVec S16 32) (k0_hw25 : k0_chk25 v135), ∀ a x, ((![v135] : Fin 1 → IVec S16 32) a x).toNat < S1000.size a := fun v135 k0_hw25 => k0_hw25.1
theorem k0_idx50_inb : ∀ (v135 : IVec S16 32) (k0_hw25 : k0_chk25 v135), ∀ a x, ((![v135] : Fin 1 → IVec S16 32) a x).toNat < S1000.size a := fun v135 k0_hw25 => k0_hw25.2

def k0_chk26 (v59 : IVec S16 32) (v61 : IVec S16 32) (v139 : IVec S16 32) : Prop :=
  (∀ a x, ((![v59, v139] : Fin 2 → IVec S16 32) a x).toNat < S8x512.size a) ∧
  (∀ a x, ((![v61, v139] : Fin 2 → IVec S16 32) a x).toNat < S8x512.size a)
theorem k0_idx51_inb : ∀ (v59 : IVec S16 32) (v61 : IVec S16 32) (v139 : IVec S16 32) (k0_hw26 : k0_chk26 v59 v61 v139), ∀ a x, ((![v59, v139] : Fin 2 → IVec S16 32) a x).toNat < S8x512.size a := fun v59 v61 v139 k0_hw26 => k0_hw26.1
theorem k0_idx52_inb : ∀ (v59 : IVec S16 32) (v61 : IVec S16 32) (v139 : IVec S16 32) (k0_hw26 : k0_chk26 v59 v61 v139), ∀ a x, ((![v61, v139] : Fin 2 → IVec S16 32) a x).toNat < S8x512.size a := fun v59 v61 v139 k0_hw26 => k0_hw26.2

def k0_chk27 (v141 : IVec S16 32) : Prop :=
  (∀ a x, ((![v141] : Fin 1 → IVec S16 32) a x).toNat < S1000.size a) ∧
  (∀ a x, ((![v141] : Fin 1 → IVec S16 32) a x).toNat < S1000.size a)
theorem k0_idx53_inb : ∀ (v141 : IVec S16 32) (k0_hw27 : k0_chk27 v141), ∀ a x, ((![v141] : Fin 1 → IVec S16 32) a x).toNat < S1000.size a := fun v141 k0_hw27 => k0_hw27.1
theorem k0_idx54_inb : ∀ (v141 : IVec S16 32) (k0_hw27 : k0_chk27 v141), ∀ a x, ((![v141] : Fin 1 → IVec S16 32) a x).toNat < S1000.size a := fun v141 k0_hw27 => k0_hw27.2

def k0_chk28 (v59 : IVec S16 32) (v61 : IVec S16 32) (v145 : IVec S16 32) : Prop :=
  (∀ a x, ((![v59, v145] : Fin 2 → IVec S16 32) a x).toNat < S8x512.size a) ∧
  (∀ a x, ((![v61, v145] : Fin 2 → IVec S16 32) a x).toNat < S8x512.size a)
theorem k0_idx55_inb : ∀ (v59 : IVec S16 32) (v61 : IVec S16 32) (v145 : IVec S16 32) (k0_hw28 : k0_chk28 v59 v61 v145), ∀ a x, ((![v59, v145] : Fin 2 → IVec S16 32) a x).toNat < S8x512.size a := fun v59 v61 v145 k0_hw28 => k0_hw28.1
theorem k0_idx56_inb : ∀ (v59 : IVec S16 32) (v61 : IVec S16 32) (v145 : IVec S16 32) (k0_hw28 : k0_chk28 v59 v61 v145), ∀ a x, ((![v61, v145] : Fin 2 → IVec S16 32) a x).toNat < S8x512.size a := fun v59 v61 v145 k0_hw28 => k0_hw28.2

def k0_chk29 (v147 : IVec S16 32) : Prop :=
  (∀ a x, ((![v147] : Fin 1 → IVec S16 32) a x).toNat < S1000.size a) ∧
  (∀ a x, ((![v147] : Fin 1 → IVec S16 32) a x).toNat < S1000.size a)
theorem k0_idx57_inb : ∀ (v147 : IVec S16 32) (k0_hw29 : k0_chk29 v147), ∀ a x, ((![v147] : Fin 1 → IVec S16 32) a x).toNat < S1000.size a := fun v147 k0_hw29 => k0_hw29.1
theorem k0_idx58_inb : ∀ (v147 : IVec S16 32) (k0_hw29 : k0_chk29 v147), ∀ a x, ((![v147] : Fin 1 → IVec S16 32) a x).toNat < S1000.size a := fun v147 k0_hw29 => k0_hw29.2

def k0_chk30 (v59 : IVec S16 32) (v61 : IVec S16 32) (v151 : IVec S16 32) : Prop :=
  (∀ a x, ((![v59, v151] : Fin 2 → IVec S16 32) a x).toNat < S8x512.size a) ∧
  (∀ a x, ((![v61, v151] : Fin 2 → IVec S16 32) a x).toNat < S8x512.size a)
theorem k0_idx59_inb : ∀ (v59 : IVec S16 32) (v61 : IVec S16 32) (v151 : IVec S16 32) (k0_hw30 : k0_chk30 v59 v61 v151), ∀ a x, ((![v59, v151] : Fin 2 → IVec S16 32) a x).toNat < S8x512.size a := fun v59 v61 v151 k0_hw30 => k0_hw30.1
theorem k0_idx60_inb : ∀ (v59 : IVec S16 32) (v61 : IVec S16 32) (v151 : IVec S16 32) (k0_hw30 : k0_chk30 v59 v61 v151), ∀ a x, ((![v61, v151] : Fin 2 → IVec S16 32) a x).toNat < S8x512.size a := fun v59 v61 v151 k0_hw30 => k0_hw30.2

def k0_chk31 (v153 : IVec S16 32) : Prop :=
  (∀ a x, ((![v153] : Fin 1 → IVec S16 32) a x).toNat < S1000.size a) ∧
  (∀ a x, ((![v153] : Fin 1 → IVec S16 32) a x).toNat < S1000.size a)
theorem k0_idx61_inb : ∀ (v153 : IVec S16 32) (k0_hw31 : k0_chk31 v153), ∀ a x, ((![v153] : Fin 1 → IVec S16 32) a x).toNat < S1000.size a := fun v153 k0_hw31 => k0_hw31.1
theorem k0_idx62_inb : ∀ (v153 : IVec S16 32) (k0_hw31 : k0_chk31 v153), ∀ a x, ((![v153] : Fin 1 → IVec S16 32) a x).toNat < S1000.size a := fun v153 k0_hw31 => k0_hw31.2

def k0_chk32 (v59 : IVec S16 32) (v61 : IVec S16 32) (v157 : IVec S16 32) : Prop :=
  (∀ a x, ((![v59, v157] : Fin 2 → IVec S16 32) a x).toNat < S8x512.size a) ∧
  (∀ a x, ((![v61, v157] : Fin 2 → IVec S16 32) a x).toNat < S8x512.size a)
theorem k0_idx63_inb : ∀ (v59 : IVec S16 32) (v61 : IVec S16 32) (v157 : IVec S16 32) (k0_hw32 : k0_chk32 v59 v61 v157), ∀ a x, ((![v59, v157] : Fin 2 → IVec S16 32) a x).toNat < S8x512.size a := fun v59 v61 v157 k0_hw32 => k0_hw32.1
theorem k0_idx64_inb : ∀ (v59 : IVec S16 32) (v61 : IVec S16 32) (v157 : IVec S16 32) (k0_hw32 : k0_chk32 v59 v61 v157), ∀ a x, ((![v61, v157] : Fin 2 → IVec S16 32) a x).toNat < S8x512.size a := fun v59 v61 v157 k0_hw32 => k0_hw32.2

def k0_chk33 (v159 : IVec S16 32) : Prop :=
  (∀ a x, ((![v159] : Fin 1 → IVec S16 32) a x).toNat < S1000.size a) ∧
  (∀ a x, ((![v159] : Fin 1 → IVec S16 32) a x).toNat < S1000.size a)
theorem k0_idx65_inb : ∀ (v159 : IVec S16 32) (k0_hw33 : k0_chk33 v159), ∀ a x, ((![v159] : Fin 1 → IVec S16 32) a x).toNat < S1000.size a := fun v159 k0_hw33 => k0_hw33.1
theorem k0_idx66_inb : ∀ (v159 : IVec S16 32) (k0_hw33 : k0_chk33 v159), ∀ a x, ((![v159] : Fin 1 → IVec S16 32) a x).toNat < S1000.size a := fun v159 k0_hw33 => k0_hw33.2

def k0_chk34 (v59 : IVec S16 32) (v61 : IVec S16 32) (v163 : IVec S16 32) : Prop :=
  (∀ a x, ((![v59, v163] : Fin 2 → IVec S16 32) a x).toNat < S8x512.size a) ∧
  (∀ a x, ((![v61, v163] : Fin 2 → IVec S16 32) a x).toNat < S8x512.size a)
theorem k0_idx67_inb : ∀ (v59 : IVec S16 32) (v61 : IVec S16 32) (v163 : IVec S16 32) (k0_hw34 : k0_chk34 v59 v61 v163), ∀ a x, ((![v59, v163] : Fin 2 → IVec S16 32) a x).toNat < S8x512.size a := fun v59 v61 v163 k0_hw34 => k0_hw34.1
theorem k0_idx68_inb : ∀ (v59 : IVec S16 32) (v61 : IVec S16 32) (v163 : IVec S16 32) (k0_hw34 : k0_chk34 v59 v61 v163), ∀ a x, ((![v61, v163] : Fin 2 → IVec S16 32) a x).toNat < S8x512.size a := fun v59 v61 v163 k0_hw34 => k0_hw34.2

def k0_chk35 (v165 : IVec S16 32) : Prop :=
  (∀ a x, ((![v165] : Fin 1 → IVec S16 32) a x).toNat < S1000.size a) ∧
  (∀ a x, ((![v165] : Fin 1 → IVec S16 32) a x).toNat < S1000.size a)
theorem k0_idx69_inb : ∀ (v165 : IVec S16 32) (k0_hw35 : k0_chk35 v165), ∀ a x, ((![v165] : Fin 1 → IVec S16 32) a x).toNat < S1000.size a := fun v165 k0_hw35 => k0_hw35.1
theorem k0_idx70_inb : ∀ (v165 : IVec S16 32) (k0_hw35 : k0_chk35 v165), ∀ a x, ((![v165] : Fin 1 → IVec S16 32) a x).toNat < S1000.size a := fun v165 k0_hw35 => k0_hw35.2

def k0_chk36 (v59 : IVec S16 32) (v61 : IVec S16 32) (v169 : IVec S16 32) : Prop :=
  (∀ a x, ((![v59, v169] : Fin 2 → IVec S16 32) a x).toNat < S8x512.size a) ∧
  (∀ a x, ((![v61, v169] : Fin 2 → IVec S16 32) a x).toNat < S8x512.size a)
theorem k0_idx71_inb : ∀ (v59 : IVec S16 32) (v61 : IVec S16 32) (v169 : IVec S16 32) (k0_hw36 : k0_chk36 v59 v61 v169), ∀ a x, ((![v59, v169] : Fin 2 → IVec S16 32) a x).toNat < S8x512.size a := fun v59 v61 v169 k0_hw36 => k0_hw36.1
theorem k0_idx72_inb : ∀ (v59 : IVec S16 32) (v61 : IVec S16 32) (v169 : IVec S16 32) (k0_hw36 : k0_chk36 v59 v61 v169), ∀ a x, ((![v61, v169] : Fin 2 → IVec S16 32) a x).toNat < S8x512.size a := fun v59 v61 v169 k0_hw36 => k0_hw36.2

def k0_chk37 (v171 : IVec S16 32) : Prop :=
  (∀ a x, ((![v171] : Fin 1 → IVec S16 32) a x).toNat < S1000.size a) ∧
  (∀ a x, ((![v171] : Fin 1 → IVec S16 32) a x).toNat < S1000.size a)
theorem k0_idx73_inb : ∀ (v171 : IVec S16 32) (k0_hw37 : k0_chk37 v171), ∀ a x, ((![v171] : Fin 1 → IVec S16 32) a x).toNat < S1000.size a := fun v171 k0_hw37 => k0_hw37.1
theorem k0_idx74_inb : ∀ (v171 : IVec S16 32) (k0_hw37 : k0_chk37 v171), ∀ a x, ((![v171] : Fin 1 → IVec S16 32) a x).toNat < S1000.size a := fun v171 k0_hw37 => k0_hw37.2

def k0_chk38 (v59 : IVec S16 32) (v61 : IVec S16 32) (v175 : IVec S16 32) : Prop :=
  (∀ a x, ((![v59, v175] : Fin 2 → IVec S16 32) a x).toNat < S8x512.size a) ∧
  (∀ a x, ((![v61, v175] : Fin 2 → IVec S16 32) a x).toNat < S8x512.size a)
theorem k0_idx75_inb : ∀ (v59 : IVec S16 32) (v61 : IVec S16 32) (v175 : IVec S16 32) (k0_hw38 : k0_chk38 v59 v61 v175), ∀ a x, ((![v59, v175] : Fin 2 → IVec S16 32) a x).toNat < S8x512.size a := fun v59 v61 v175 k0_hw38 => k0_hw38.1
theorem k0_idx76_inb : ∀ (v59 : IVec S16 32) (v61 : IVec S16 32) (v175 : IVec S16 32) (k0_hw38 : k0_chk38 v59 v61 v175), ∀ a x, ((![v61, v175] : Fin 2 → IVec S16 32) a x).toNat < S8x512.size a := fun v59 v61 v175 k0_hw38 => k0_hw38.2

def k0_chk39 (v177 : IVec S16 32) : Prop :=
  (∀ a x, ((![v177] : Fin 1 → IVec S16 32) a x).toNat < S1000.size a) ∧
  (∀ a x, ((![v177] : Fin 1 → IVec S16 32) a x).toNat < S1000.size a)
theorem k0_idx77_inb : ∀ (v177 : IVec S16 32) (k0_hw39 : k0_chk39 v177), ∀ a x, ((![v177] : Fin 1 → IVec S16 32) a x).toNat < S1000.size a := fun v177 k0_hw39 => k0_hw39.1
theorem k0_idx78_inb : ∀ (v177 : IVec S16 32) (k0_hw39 : k0_chk39 v177), ∀ a x, ((![v177] : Fin 1 → IVec S16 32) a x).toNat < S1000.size a := fun v177 k0_hw39 => k0_hw39.2

def k0_chk40 (v59 : IVec S16 32) (v61 : IVec S16 32) (v181 : IVec S16 32) : Prop :=
  (∀ a x, ((![v59, v181] : Fin 2 → IVec S16 32) a x).toNat < S8x512.size a) ∧
  (∀ a x, ((![v61, v181] : Fin 2 → IVec S16 32) a x).toNat < S8x512.size a)
theorem k0_idx79_inb : ∀ (v59 : IVec S16 32) (v61 : IVec S16 32) (v181 : IVec S16 32) (k0_hw40 : k0_chk40 v59 v61 v181), ∀ a x, ((![v59, v181] : Fin 2 → IVec S16 32) a x).toNat < S8x512.size a := fun v59 v61 v181 k0_hw40 => k0_hw40.1
theorem k0_idx80_inb : ∀ (v59 : IVec S16 32) (v61 : IVec S16 32) (v181 : IVec S16 32) (k0_hw40 : k0_chk40 v59 v61 v181), ∀ a x, ((![v61, v181] : Fin 2 → IVec S16 32) a x).toNat < S8x512.size a := fun v59 v61 v181 k0_hw40 => k0_hw40.2

def k0_chk41 (v183 : IVec S16 32) : Prop :=
  (∀ a x, ((![v183] : Fin 1 → IVec S16 32) a x).toNat < S1000.size a) ∧
  (∀ a x, ((![v183] : Fin 1 → IVec S16 32) a x).toNat < S1000.size a)
theorem k0_idx81_inb : ∀ (v183 : IVec S16 32) (k0_hw41 : k0_chk41 v183), ∀ a x, ((![v183] : Fin 1 → IVec S16 32) a x).toNat < S1000.size a := fun v183 k0_hw41 => k0_hw41.1
theorem k0_idx82_inb : ∀ (v183 : IVec S16 32) (k0_hw41 : k0_chk41 v183), ∀ a x, ((![v183] : Fin 1 → IVec S16 32) a x).toNat < S1000.size a := fun v183 k0_hw41 => k0_hw41.2

def k0_chk42 (v59 : IVec S16 32) (v61 : IVec S16 32) (v187 : IVec S16 32) : Prop :=
  (∀ a x, ((![v59, v187] : Fin 2 → IVec S16 32) a x).toNat < S8x512.size a) ∧
  (∀ a x, ((![v61, v187] : Fin 2 → IVec S16 32) a x).toNat < S8x512.size a)
theorem k0_idx83_inb : ∀ (v59 : IVec S16 32) (v61 : IVec S16 32) (v187 : IVec S16 32) (k0_hw42 : k0_chk42 v59 v61 v187), ∀ a x, ((![v59, v187] : Fin 2 → IVec S16 32) a x).toNat < S8x512.size a := fun v59 v61 v187 k0_hw42 => k0_hw42.1
theorem k0_idx84_inb : ∀ (v59 : IVec S16 32) (v61 : IVec S16 32) (v187 : IVec S16 32) (k0_hw42 : k0_chk42 v59 v61 v187), ∀ a x, ((![v61, v187] : Fin 2 → IVec S16 32) a x).toNat < S8x512.size a := fun v59 v61 v187 k0_hw42 => k0_hw42.2

def k0_chk43 (v189 : IVec S16 32) : Prop :=
  (∀ a x, ((![v189] : Fin 1 → IVec S16 32) a x).toNat < S1000.size a) ∧
  (∀ a x, ((![v189] : Fin 1 → IVec S16 32) a x).toNat < S1000.size a)
theorem k0_idx85_inb : ∀ (v189 : IVec S16 32) (k0_hw43 : k0_chk43 v189), ∀ a x, ((![v189] : Fin 1 → IVec S16 32) a x).toNat < S1000.size a := fun v189 k0_hw43 => k0_hw43.1
theorem k0_idx86_inb : ∀ (v189 : IVec S16 32) (k0_hw43 : k0_chk43 v189), ∀ a x, ((![v189] : Fin 1 → IVec S16 32) a x).toNat < S1000.size a := fun v189 k0_hw43 => k0_hw43.2

def k0_chk44 (v59 : IVec S16 32) (v61 : IVec S16 32) (v193 : IVec S16 32) : Prop :=
  (∀ a x, ((![v59, v193] : Fin 2 → IVec S16 32) a x).toNat < S8x512.size a) ∧
  (∀ a x, ((![v61, v193] : Fin 2 → IVec S16 32) a x).toNat < S8x512.size a)
theorem k0_idx87_inb : ∀ (v59 : IVec S16 32) (v61 : IVec S16 32) (v193 : IVec S16 32) (k0_hw44 : k0_chk44 v59 v61 v193), ∀ a x, ((![v59, v193] : Fin 2 → IVec S16 32) a x).toNat < S8x512.size a := fun v59 v61 v193 k0_hw44 => k0_hw44.1
theorem k0_idx88_inb : ∀ (v59 : IVec S16 32) (v61 : IVec S16 32) (v193 : IVec S16 32) (k0_hw44 : k0_chk44 v59 v61 v193), ∀ a x, ((![v61, v193] : Fin 2 → IVec S16 32) a x).toNat < S8x512.size a := fun v59 v61 v193 k0_hw44 => k0_hw44.2

def k0_chk45 (v195 : IVec S16 32) : Prop :=
  (∀ a x, ((![v195] : Fin 1 → IVec S16 32) a x).toNat < S1000.size a) ∧
  (∀ a x, ((![v195] : Fin 1 → IVec S16 32) a x).toNat < S1000.size a)
theorem k0_idx89_inb : ∀ (v195 : IVec S16 32) (k0_hw45 : k0_chk45 v195), ∀ a x, ((![v195] : Fin 1 → IVec S16 32) a x).toNat < S1000.size a := fun v195 k0_hw45 => k0_hw45.1
theorem k0_idx90_inb : ∀ (v195 : IVec S16 32) (k0_hw45 : k0_chk45 v195), ∀ a x, ((![v195] : Fin 1 → IVec S16 32) a x).toNat < S1000.size a := fun v195 k0_hw45 => k0_hw45.2

def k0_chk46 (v59 : IVec S16 32) (v61 : IVec S16 32) (v199 : IVec S16 32) : Prop :=
  (∀ a x, ((![v59, v199] : Fin 2 → IVec S16 32) a x).toNat < S8x512.size a) ∧
  (∀ a x, ((![v61, v199] : Fin 2 → IVec S16 32) a x).toNat < S8x512.size a)
theorem k0_idx91_inb : ∀ (v59 : IVec S16 32) (v61 : IVec S16 32) (v199 : IVec S16 32) (k0_hw46 : k0_chk46 v59 v61 v199), ∀ a x, ((![v59, v199] : Fin 2 → IVec S16 32) a x).toNat < S8x512.size a := fun v59 v61 v199 k0_hw46 => k0_hw46.1
theorem k0_idx92_inb : ∀ (v59 : IVec S16 32) (v61 : IVec S16 32) (v199 : IVec S16 32) (k0_hw46 : k0_chk46 v59 v61 v199), ∀ a x, ((![v61, v199] : Fin 2 → IVec S16 32) a x).toNat < S8x512.size a := fun v59 v61 v199 k0_hw46 => k0_hw46.2

def k0_chk47 (v201 : IVec S16 32) : Prop :=
  (∀ a x, ((![v201] : Fin 1 → IVec S16 32) a x).toNat < S1000.size a) ∧
  (∀ a x, ((![v201] : Fin 1 → IVec S16 32) a x).toNat < S1000.size a)
theorem k0_idx93_inb : ∀ (v201 : IVec S16 32) (k0_hw47 : k0_chk47 v201), ∀ a x, ((![v201] : Fin 1 → IVec S16 32) a x).toNat < S1000.size a := fun v201 k0_hw47 => k0_hw47.1
theorem k0_idx94_inb : ∀ (v201 : IVec S16 32) (k0_hw47 : k0_chk47 v201), ∀ a x, ((![v201] : Fin 1 → IVec S16 32) a x).toNat < S1000.size a := fun v201 k0_hw47 => k0_hw47.2

def k0_chk48 (v59 : IVec S16 32) (v61 : IVec S16 32) (v205 : IVec S16 32) : Prop :=
  (∀ a x, ((![v59, v205] : Fin 2 → IVec S16 32) a x).toNat < S8x512.size a) ∧
  (∀ a x, ((![v61, v205] : Fin 2 → IVec S16 32) a x).toNat < S8x512.size a)
theorem k0_idx95_inb : ∀ (v59 : IVec S16 32) (v61 : IVec S16 32) (v205 : IVec S16 32) (k0_hw48 : k0_chk48 v59 v61 v205), ∀ a x, ((![v59, v205] : Fin 2 → IVec S16 32) a x).toNat < S8x512.size a := fun v59 v61 v205 k0_hw48 => k0_hw48.1
theorem k0_idx96_inb : ∀ (v59 : IVec S16 32) (v61 : IVec S16 32) (v205 : IVec S16 32) (k0_hw48 : k0_chk48 v59 v61 v205), ∀ a x, ((![v61, v205] : Fin 2 → IVec S16 32) a x).toNat < S8x512.size a := fun v59 v61 v205 k0_hw48 => k0_hw48.2

def k0_chk49 (v207 : IVec S16 32) : Prop :=
  (∀ a x, ((![v207] : Fin 1 → IVec S16 32) a x).toNat < S1000.size a) ∧
  (∀ a x, ((![v207] : Fin 1 → IVec S16 32) a x).toNat < S1000.size a)
theorem k0_idx97_inb : ∀ (v207 : IVec S16 32) (k0_hw49 : k0_chk49 v207), ∀ a x, ((![v207] : Fin 1 → IVec S16 32) a x).toNat < S1000.size a := fun v207 k0_hw49 => k0_hw49.1
theorem k0_idx98_inb : ∀ (v207 : IVec S16 32) (k0_hw49 : k0_chk49 v207), ∀ a x, ((![v207] : Fin 1 → IVec S16 32) a x).toNat < S1000.size a := fun v207 k0_hw49 => k0_hw49.2

def k0_chk50 (v59 : IVec S16 32) (v61 : IVec S16 32) (v211 : IVec S16 32) : Prop :=
  (∀ a x, ((![v59, v211] : Fin 2 → IVec S16 32) a x).toNat < S8x512.size a) ∧
  (∀ a x, ((![v61, v211] : Fin 2 → IVec S16 32) a x).toNat < S8x512.size a)
theorem k0_idx99_inb : ∀ (v59 : IVec S16 32) (v61 : IVec S16 32) (v211 : IVec S16 32) (k0_hw50 : k0_chk50 v59 v61 v211), ∀ a x, ((![v59, v211] : Fin 2 → IVec S16 32) a x).toNat < S8x512.size a := fun v59 v61 v211 k0_hw50 => k0_hw50.1
theorem k0_idx100_inb : ∀ (v59 : IVec S16 32) (v61 : IVec S16 32) (v211 : IVec S16 32) (k0_hw50 : k0_chk50 v59 v61 v211), ∀ a x, ((![v61, v211] : Fin 2 → IVec S16 32) a x).toNat < S8x512.size a := fun v59 v61 v211 k0_hw50 => k0_hw50.2

def k0_chk51 (v213 : IVec S16 32) : Prop :=
  (∀ a x, ((![v213] : Fin 1 → IVec S16 32) a x).toNat < S1000.size a) ∧
  (∀ a x, ((![v213] : Fin 1 → IVec S16 32) a x).toNat < S1000.size a)
theorem k0_idx101_inb : ∀ (v213 : IVec S16 32) (k0_hw51 : k0_chk51 v213), ∀ a x, ((![v213] : Fin 1 → IVec S16 32) a x).toNat < S1000.size a := fun v213 k0_hw51 => k0_hw51.1
theorem k0_idx102_inb : ∀ (v213 : IVec S16 32) (k0_hw51 : k0_chk51 v213), ∀ a x, ((![v213] : Fin 1 → IVec S16 32) a x).toNat < S1000.size a := fun v213 k0_hw51 => k0_hw51.2

def k0_chk52 (v59 : IVec S16 32) (v61 : IVec S16 32) (v217 : IVec S16 32) : Prop :=
  (∀ a x, ((![v59, v217] : Fin 2 → IVec S16 32) a x).toNat < S8x512.size a) ∧
  (∀ a x, ((![v61, v217] : Fin 2 → IVec S16 32) a x).toNat < S8x512.size a)
theorem k0_idx103_inb : ∀ (v59 : IVec S16 32) (v61 : IVec S16 32) (v217 : IVec S16 32) (k0_hw52 : k0_chk52 v59 v61 v217), ∀ a x, ((![v59, v217] : Fin 2 → IVec S16 32) a x).toNat < S8x512.size a := fun v59 v61 v217 k0_hw52 => k0_hw52.1
theorem k0_idx104_inb : ∀ (v59 : IVec S16 32) (v61 : IVec S16 32) (v217 : IVec S16 32) (k0_hw52 : k0_chk52 v59 v61 v217), ∀ a x, ((![v61, v217] : Fin 2 → IVec S16 32) a x).toNat < S8x512.size a := fun v59 v61 v217 k0_hw52 => k0_hw52.2

def k0_chk53 (v219 : IVec S16 32) : Prop :=
  (∀ a x, ((![v219] : Fin 1 → IVec S16 32) a x).toNat < S1000.size a) ∧
  (∀ a x, ((![v219] : Fin 1 → IVec S16 32) a x).toNat < S1000.size a)
theorem k0_idx105_inb : ∀ (v219 : IVec S16 32) (k0_hw53 : k0_chk53 v219), ∀ a x, ((![v219] : Fin 1 → IVec S16 32) a x).toNat < S1000.size a := fun v219 k0_hw53 => k0_hw53.1
theorem k0_idx106_inb : ∀ (v219 : IVec S16 32) (k0_hw53 : k0_chk53 v219), ∀ a x, ((![v219] : Fin 1 → IVec S16 32) a x).toNat < S1000.size a := fun v219 k0_hw53 => k0_hw53.2

def k0_chk54 (v59 : IVec S16 32) (v61 : IVec S16 32) (v223 : IVec S16 32) : Prop :=
  (∀ a x, ((![v59, v223] : Fin 2 → IVec S16 32) a x).toNat < S8x512.size a) ∧
  (∀ a x, ((![v61, v223] : Fin 2 → IVec S16 32) a x).toNat < S8x512.size a)
theorem k0_idx107_inb : ∀ (v59 : IVec S16 32) (v61 : IVec S16 32) (v223 : IVec S16 32) (k0_hw54 : k0_chk54 v59 v61 v223), ∀ a x, ((![v59, v223] : Fin 2 → IVec S16 32) a x).toNat < S8x512.size a := fun v59 v61 v223 k0_hw54 => k0_hw54.1
theorem k0_idx108_inb : ∀ (v59 : IVec S16 32) (v61 : IVec S16 32) (v223 : IVec S16 32) (k0_hw54 : k0_chk54 v59 v61 v223), ∀ a x, ((![v61, v223] : Fin 2 → IVec S16 32) a x).toNat < S8x512.size a := fun v59 v61 v223 k0_hw54 => k0_hw54.2

def k0_chk55 (v225 : IVec S16 32) : Prop :=
  (∀ a x, ((![v225] : Fin 1 → IVec S16 32) a x).toNat < S1000.size a) ∧
  (∀ a x, ((![v225] : Fin 1 → IVec S16 32) a x).toNat < S1000.size a)
theorem k0_idx109_inb : ∀ (v225 : IVec S16 32) (k0_hw55 : k0_chk55 v225), ∀ a x, ((![v225] : Fin 1 → IVec S16 32) a x).toNat < S1000.size a := fun v225 k0_hw55 => k0_hw55.1
theorem k0_idx110_inb : ∀ (v225 : IVec S16 32) (k0_hw55 : k0_chk55 v225), ∀ a x, ((![v225] : Fin 1 → IVec S16 32) a x).toNat < S1000.size a := fun v225 k0_hw55 => k0_hw55.2

def k0_chk56 (v59 : IVec S16 32) (v61 : IVec S16 32) (v229 : IVec S16 32) : Prop :=
  (∀ a x, ((![v59, v229] : Fin 2 → IVec S16 32) a x).toNat < S8x512.size a) ∧
  (∀ a x, ((![v61, v229] : Fin 2 → IVec S16 32) a x).toNat < S8x512.size a)
theorem k0_idx111_inb : ∀ (v59 : IVec S16 32) (v61 : IVec S16 32) (v229 : IVec S16 32) (k0_hw56 : k0_chk56 v59 v61 v229), ∀ a x, ((![v59, v229] : Fin 2 → IVec S16 32) a x).toNat < S8x512.size a := fun v59 v61 v229 k0_hw56 => k0_hw56.1
theorem k0_idx112_inb : ∀ (v59 : IVec S16 32) (v61 : IVec S16 32) (v229 : IVec S16 32) (k0_hw56 : k0_chk56 v59 v61 v229), ∀ a x, ((![v61, v229] : Fin 2 → IVec S16 32) a x).toNat < S8x512.size a := fun v59 v61 v229 k0_hw56 => k0_hw56.2

def k0_chk57 (v231 : IVec S16 32) : Prop :=
  (∀ a x, ((![v231] : Fin 1 → IVec S16 32) a x).toNat < S1000.size a) ∧
  (∀ a x, ((![v231] : Fin 1 → IVec S16 32) a x).toNat < S1000.size a)
theorem k0_idx113_inb : ∀ (v231 : IVec S16 32) (k0_hw57 : k0_chk57 v231), ∀ a x, ((![v231] : Fin 1 → IVec S16 32) a x).toNat < S1000.size a := fun v231 k0_hw57 => k0_hw57.1
theorem k0_idx114_inb : ∀ (v231 : IVec S16 32) (k0_hw57 : k0_chk57 v231), ∀ a x, ((![v231] : Fin 1 → IVec S16 32) a x).toNat < S1000.size a := fun v231 k0_hw57 => k0_hw57.2

def k0_chk58 (v59 : IVec S16 32) (v61 : IVec S16 32) (v235 : IVec S16 32) : Prop :=
  (∀ a x, ((![v59, v235] : Fin 2 → IVec S16 32) a x).toNat < S8x512.size a) ∧
  (∀ a x, ((![v61, v235] : Fin 2 → IVec S16 32) a x).toNat < S8x512.size a)
theorem k0_idx115_inb : ∀ (v59 : IVec S16 32) (v61 : IVec S16 32) (v235 : IVec S16 32) (k0_hw58 : k0_chk58 v59 v61 v235), ∀ a x, ((![v59, v235] : Fin 2 → IVec S16 32) a x).toNat < S8x512.size a := fun v59 v61 v235 k0_hw58 => k0_hw58.1
theorem k0_idx116_inb : ∀ (v59 : IVec S16 32) (v61 : IVec S16 32) (v235 : IVec S16 32) (k0_hw58 : k0_chk58 v59 v61 v235), ∀ a x, ((![v61, v235] : Fin 2 → IVec S16 32) a x).toNat < S8x512.size a := fun v59 v61 v235 k0_hw58 => k0_hw58.2

def k0_chk59 (v237 : IVec S16 32) : Prop :=
  (∀ a x, ((![v237] : Fin 1 → IVec S16 32) a x).toNat < S1000.size a) ∧
  (∀ a x, ((![v237] : Fin 1 → IVec S16 32) a x).toNat < S1000.size a)
theorem k0_idx117_inb : ∀ (v237 : IVec S16 32) (k0_hw59 : k0_chk59 v237), ∀ a x, ((![v237] : Fin 1 → IVec S16 32) a x).toNat < S1000.size a := fun v237 k0_hw59 => k0_hw59.1
theorem k0_idx118_inb : ∀ (v237 : IVec S16 32) (k0_hw59 : k0_chk59 v237), ∀ a x, ((![v237] : Fin 1 → IVec S16 32) a x).toNat < S1000.size a := fun v237 k0_hw59 => k0_hw59.2

def k0_chk60 (v59 : IVec S16 32) (v61 : IVec S16 32) (v241 : IVec S16 32) : Prop :=
  (∀ a x, ((![v59, v241] : Fin 2 → IVec S16 32) a x).toNat < S8x512.size a) ∧
  (∀ a x, ((![v61, v241] : Fin 2 → IVec S16 32) a x).toNat < S8x512.size a)
theorem k0_idx119_inb : ∀ (v59 : IVec S16 32) (v61 : IVec S16 32) (v241 : IVec S16 32) (k0_hw60 : k0_chk60 v59 v61 v241), ∀ a x, ((![v59, v241] : Fin 2 → IVec S16 32) a x).toNat < S8x512.size a := fun v59 v61 v241 k0_hw60 => k0_hw60.1
theorem k0_idx120_inb : ∀ (v59 : IVec S16 32) (v61 : IVec S16 32) (v241 : IVec S16 32) (k0_hw60 : k0_chk60 v59 v61 v241), ∀ a x, ((![v61, v241] : Fin 2 → IVec S16 32) a x).toNat < S8x512.size a := fun v59 v61 v241 k0_hw60 => k0_hw60.2

def k0_chk61 (v243 : IVec S16 32) : Prop :=
  (∀ a x, ((![v243] : Fin 1 → IVec S16 32) a x).toNat < S1000.size a) ∧
  (∀ a x, ((![v243] : Fin 1 → IVec S16 32) a x).toNat < S1000.size a)
theorem k0_idx121_inb : ∀ (v243 : IVec S16 32) (k0_hw61 : k0_chk61 v243), ∀ a x, ((![v243] : Fin 1 → IVec S16 32) a x).toNat < S1000.size a := fun v243 k0_hw61 => k0_hw61.1
theorem k0_idx122_inb : ∀ (v243 : IVec S16 32) (k0_hw61 : k0_chk61 v243), ∀ a x, ((![v243] : Fin 1 → IVec S16 32) a x).toNat < S1000.size a := fun v243 k0_hw61 => k0_hw61.2

def k0_chk62 (v59 : IVec S16 32) (v61 : IVec S16 32) (v247 : IVec S16 32) : Prop :=
  (∀ a x, ((![v59, v247] : Fin 2 → IVec S16 32) a x).toNat < S8x512.size a) ∧
  (∀ a x, ((![v61, v247] : Fin 2 → IVec S16 32) a x).toNat < S8x512.size a)
theorem k0_idx123_inb : ∀ (v59 : IVec S16 32) (v61 : IVec S16 32) (v247 : IVec S16 32) (k0_hw62 : k0_chk62 v59 v61 v247), ∀ a x, ((![v59, v247] : Fin 2 → IVec S16 32) a x).toNat < S8x512.size a := fun v59 v61 v247 k0_hw62 => k0_hw62.1
theorem k0_idx124_inb : ∀ (v59 : IVec S16 32) (v61 : IVec S16 32) (v247 : IVec S16 32) (k0_hw62 : k0_chk62 v59 v61 v247), ∀ a x, ((![v61, v247] : Fin 2 → IVec S16 32) a x).toNat < S8x512.size a := fun v59 v61 v247 k0_hw62 => k0_hw62.2

def k0_chk63 (v249 : IVec S16 32) : Prop :=
  (∀ a x, ((![v249] : Fin 1 → IVec S16 32) a x).toNat < S1000.size a) ∧
  (∀ a x, ((![v249] : Fin 1 → IVec S16 32) a x).toNat < S1000.size a)
theorem k0_idx125_inb : ∀ (v249 : IVec S16 32) (k0_hw63 : k0_chk63 v249), ∀ a x, ((![v249] : Fin 1 → IVec S16 32) a x).toNat < S1000.size a := fun v249 k0_hw63 => k0_hw63.1
theorem k0_idx126_inb : ∀ (v249 : IVec S16 32) (k0_hw63 : k0_chk63 v249), ∀ a x, ((![v249] : Fin 1 → IVec S16 32) a x).toNat < S1000.size a := fun v249 k0_hw63 => k0_hw63.2

def k0_chk64 (v59 : IVec S16 32) (v61 : IVec S16 32) (v253 : IVec S16 32) : Prop :=
  (∀ a x, ((![v59, v253] : Fin 2 → IVec S16 32) a x).toNat < S8x512.size a) ∧
  (∀ a x, ((![v61, v253] : Fin 2 → IVec S16 32) a x).toNat < S8x512.size a)
theorem k0_idx127_inb : ∀ (v59 : IVec S16 32) (v61 : IVec S16 32) (v253 : IVec S16 32) (k0_hw64 : k0_chk64 v59 v61 v253), ∀ a x, ((![v59, v253] : Fin 2 → IVec S16 32) a x).toNat < S8x512.size a := fun v59 v61 v253 k0_hw64 => k0_hw64.1
theorem k0_idx128_inb : ∀ (v59 : IVec S16 32) (v61 : IVec S16 32) (v253 : IVec S16 32) (k0_hw64 : k0_chk64 v59 v61 v253), ∀ a x, ((![v61, v253] : Fin 2 → IVec S16 32) a x).toNat < S8x512.size a := fun v59 v61 v253 k0_hw64 => k0_hw64.2
def k0_off2 (i : grid0.Coords) (c0_i32_96 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v260 : BitVec 32 := Scalar.addi v2 c0_i32_96
  let c0_i32_120_r0 : BitVec 32 := 0#32
  ![v260.toNat, 0]
def k0_off3 (i : grid0.Coords) : Fin 2 → Nat :=
  let c0_i32_120_r4 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![0, v2.toNat]
abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S4096x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1000x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x8 .i32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1000x8 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S4096x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4096x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S8x4096 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384x128 : Shape := ⟨2, ![16384, 128]⟩
abbrev S16384 : Shape := ⟨1, ![16384]⟩
abbrev S1000x128 : Shape := ⟨2, ![1000, 128]⟩
abbrev S1000 : Shape := ⟨1, ![1000]⟩
abbrev S50 : Shape := ⟨1, ![50]⟩
abbrev S1x50 : Shape := ⟨2, ![1, 50]⟩
abbrev S1x1x1x50 : Shape := ⟨4, ![1, 1, 1, 50]⟩
abbrev S16384x1x1x50 : Shape := ⟨4, ![16384, 1, 1, 50]⟩
abbrev S16384x50 : Shape := ⟨2, ![16384, 50]⟩
abbrev S16384x1 : Shape := ⟨2, ![16384, 1]⟩
abbrev S16384x51 : Shape := ⟨2, ![16384, 51]⟩
abbrev S_ : Shape := ⟨0, ![]⟩
abbrev S16384x51x1 : Shape := ⟨3, ![16384, 51, 1]⟩
abbrev S1 : Shape := ⟨1, ![1]⟩
abbrev S1x1x1 : Shape := ⟨3, ![1, 1, 1]⟩
abbrev S16384x51x128 : Shape := ⟨3, ![16384, 51, 128]⟩
abbrev S16384x50x1 : Shape := ⟨3, ![16384, 50, 1]⟩
abbrev S1x1 : Shape := ⟨2, ![1, 1]⟩

abbrev nBuf : Space → Nat
  | .hbm => 134
  | .vmem => 0
  | .smem => 0
  | _ => 0

abbrev hbmTy0_0 (i : Nat) : BufTy := match i % 128 with
  | 0 => ⟨S16384x128, .f32⟩
  | 1 => ⟨S16384, .i32⟩
  | 2 => ⟨S1000x128, .f32⟩
  | 3 => ⟨S1000, .f32⟩
  | 4 => ⟨S1000, .f32⟩
  | 5 => ⟨S50, .i32⟩
  | 6 => ⟨S1x50, .i32⟩
  | 7 => ⟨S1x1x1x50, .i32⟩
  | 8 => ⟨S16384x1x1x50, .i32⟩
  | 9 => ⟨S16384x50, .i32⟩
  | 10 => ⟨S16384x1, .i32⟩
  | 11 => ⟨S16384x51, .i32⟩
  | 12 => ⟨S_, .i32⟩
  | 13 => ⟨S16384x51, .i32⟩
  | 14 => ⟨S16384x51, .i1⟩
  | 15 => ⟨S_, .i32⟩
  | 16 => ⟨S16384x51, .i32⟩
  | 17 => ⟨S16384x51, .i32⟩
  | 18 => ⟨S16384x51, .i32⟩
  | 19 => ⟨S16384x51x1, .i32⟩
  | 20 => ⟨S1, .i32⟩
  | 21 => ⟨S_, .i32⟩
  | 22 => ⟨S16384x51x1, .i32⟩
  | 23 => ⟨S16384x51x1, .i1⟩
  | 24 => ⟨S1x1x1, .i32⟩
  | 25 => ⟨S16384x51x1, .i32⟩
  | 26 => ⟨S16384x51x1, .i1⟩
  | 27 => ⟨S16384x51x1, .i1⟩
  | 28 => ⟨S_, .i1⟩
  | 29 => ⟨S16384x51, .i1⟩
  | 30 => ⟨S16384x51x128, .f32⟩
  | 31 => ⟨S16384x51x128, .i1⟩
  | 32 => ⟨S_, .f32⟩
  | 33 => ⟨S16384x51x128, .f32⟩
  | 34 => ⟨S16384x51x128, .f32⟩
  | 35 => ⟨S_, .i32⟩
  | 36 => ⟨S16384x51, .i32⟩
  | 37 => ⟨S16384x51, .i1⟩
  | 38 => ⟨S_, .i32⟩
  | 39 => ⟨S16384x51, .i32⟩
  | 40 => ⟨S16384x51, .i32⟩
  | 41 => ⟨S16384x51, .i32⟩
  | 42 => ⟨S16384x51x1, .i32⟩
  | 43 => ⟨S1, .i32⟩
  | 44 => ⟨S_, .i32⟩
  | 45 => ⟨S16384x51x1, .i32⟩
  | 46 => ⟨S16384x51x1, .i1⟩
  | 47 => ⟨S1x1x1, .i32⟩
  | 48 => ⟨S16384x51x1, .i32⟩
  | 49 => ⟨S16384x51x1, .i1⟩
  | 50 => ⟨S16384x51x1, .i1⟩
  | 51 => ⟨S_, .i1⟩
  | 52 => ⟨S16384x51, .i1⟩
  | 53 => ⟨S16384x51, .f32⟩
  | 54 => ⟨S_, .f32⟩
  | 55 => ⟨S16384x51, .f32⟩
  | 56 => ⟨S16384x51, .f32⟩
  | 57 => ⟨S16384x51, .f32⟩
  | 58 => ⟨S16384x51, .f32⟩
  | 59 => ⟨S_, .f32⟩
  | 60 => ⟨S16384x51, .f32⟩
  | 61 => ⟨S16384x51, .f32⟩
  | 62 => ⟨S16384x51, .f32⟩
  | 63 => ⟨S16384x1, .f32⟩
  | 64 => ⟨S16384, .f32⟩
  | 65 => ⟨S16384x50, .f32⟩
  | 66 => ⟨S_, .i32⟩
  | 67 => ⟨S16384x50, .i32⟩
  | 68 => ⟨S16384x50, .i1⟩
  | 69 => ⟨S_, .i32⟩
  | 70 => ⟨S16384x50, .i32⟩
  | 71 => ⟨S16384x50, .i32⟩
  | 72 => ⟨S16384x50, .i32⟩
  | 73 => ⟨S16384x50x1, .i32⟩
  | 74 => ⟨S1, .i32⟩
  | 75 => ⟨S_, .i32⟩
  | 76 => ⟨S16384x50x1, .i32⟩
  | 77 => ⟨S16384x50x1, .i1⟩
  | 78 => ⟨S1x1x1, .i32⟩
  | 79 => ⟨S16384x50x1, .i32⟩
  | 80 => ⟨S16384x50x1, .i1⟩
  | 81 => ⟨S16384x50x1, .i1⟩
  | 82 => ⟨S_, .i1⟩
  | 83 => ⟨S16384x50, .i1⟩
  | 84 => ⟨S16384x50, .f32⟩
  | 85 => ⟨S_, .f32⟩
  | 86 => ⟨S16384x50, .f32⟩
  | 87 => ⟨S16384x50, .f32⟩
  | 88 => ⟨S_, .i32⟩
  | 89 => ⟨S16384, .i32⟩
  | 90 => ⟨S16384, .i1⟩
  | 91 => ⟨S_, .i32⟩
  | 92 => ⟨S16384, .i32⟩
  | 93 => ⟨S16384, .i32⟩
  | 94 => ⟨S16384, .i32⟩
  | 95 => ⟨S16384x1, .i32⟩
  | 96 => ⟨S1, .i32⟩
  | 97 => ⟨S_, .i32⟩
  | 98 => ⟨S16384x1, .i32⟩
  | 99 => ⟨S16384x1, .i1⟩
  | 100 => ⟨S1x1, .i32⟩
  | 101 => ⟨S16384x1, .i32⟩
  | 102 => ⟨S16384x1, .i1⟩
  | 103 => ⟨S16384x1, .i1⟩
  | 104 => ⟨S_, .i1⟩
  | 105 => ⟨S16384, .i1⟩
  | 106 => ⟨S16384, .f32⟩
  | 107 => ⟨S_, .f32⟩
  | 108 => ⟨S16384, .f32⟩
  | 109 => ⟨S16384, .f32⟩
  | 110 => ⟨S_, .f32⟩
  | 111 => ⟨S16384, .f32⟩
  | 112 => ⟨S16384, .f32⟩
  | 113 => ⟨S16384, .f32⟩
  | 114 => ⟨S16384, .f32⟩
  | 115 => ⟨S16384, .f32⟩
  | 116 => ⟨S_, .f32⟩
  | 117 => ⟨S16384x50, .f32⟩
  | 118 => ⟨S16384x50, .f32⟩
  | 119 => ⟨S_, .f32⟩
  | 120 => ⟨S16384x50, .f32⟩
  | 121 => ⟨S16384x50, .f32⟩
  | 122 => ⟨S16384x50, .f32⟩
  | 123 => ⟨S16384x50, .f32⟩
  | 124 => ⟨S16384x50, .f32⟩
  | 125 => ⟨S_, .f32⟩
  | 126 => ⟨S16384, .f32⟩
  | 127 => ⟨S16384, .f32⟩
  | _ => ⟨S16384x128, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .f32⟩
  | _ => ⟨S16384x128, .f32⟩

abbrev hbmTy (i : Nat) : BufTy := match i / 128 with
  | 0 => hbmTy0_0 i
  | 1 => hbmTy0_1 i
  | _ => ⟨S16384x128, .f32⟩

abbrev bufTy : (tb : Table) → Fin (tcTables nBuf tb) → BufTy
  | .hbm, ⟨i, _⟩ => hbmTy i
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_c_1 : Ref sig .tc := ⟨.hbm, 20, rfl⟩
abbrev main_call0_c_2 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_3 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_cst : Ref sig .tc := ⟨.hbm, 32, rfl⟩
abbrev main_call0_v15 : Ref sig .tc := ⟨.hbm, 33, rfl⟩
abbrev main_v6 : Ref sig .tc := ⟨.hbm, 34, rfl⟩
abbrev main_call1_c : Ref sig .tc := ⟨.hbm, 35, rfl⟩
abbrev main_call1_v0 : Ref sig .tc := ⟨.hbm, 36, rfl⟩
abbrev main_call1_v1 : Ref sig .tc := ⟨.hbm, 37, rfl⟩
abbrev main_call1_c_0 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_call1_v5 : Ref sig .tc := ⟨.hbm, 42, rfl⟩
abbrev main_call1_c_1 : Ref sig .tc := ⟨.hbm, 43, rfl⟩
abbrev main_call1_c_2 : Ref sig .tc := ⟨.hbm, 44, rfl⟩
abbrev main_call1_v6 : Ref sig .tc := ⟨.hbm, 45, rfl⟩
abbrev main_call1_v7 : Ref sig .tc := ⟨.hbm, 46, rfl⟩
abbrev main_call1_v8 : Ref sig .tc := ⟨.hbm, 47, rfl⟩
abbrev main_call1_v9 : Ref sig .tc := ⟨.hbm, 48, rfl⟩
abbrev main_call1_v10 : Ref sig .tc := ⟨.hbm, 49, rfl⟩
abbrev main_call1_v11 : Ref sig .tc := ⟨.hbm, 50, rfl⟩
abbrev main_call1_c_3 : Ref sig .tc := ⟨.hbm, 51, rfl⟩
abbrev main_call1_v12 : Ref sig .tc := ⟨.hbm, 52, rfl⟩
abbrev main_call1_v13 : Ref sig .tc := ⟨.hbm, 53, rfl⟩
abbrev main_call1_cst : Ref sig .tc := ⟨.hbm, 54, rfl⟩
abbrev main_call1_v14 : Ref sig .tc := ⟨.hbm, 55, rfl⟩
abbrev main_v7 : Ref sig .tc := ⟨.hbm, 56, rfl⟩
abbrev main_v8 : Ref sig .tc := ⟨.hbm, 57, rfl⟩
abbrev main_v9 : Ref sig .tc := ⟨.hbm, 58, rfl⟩
abbrev main_cst : Ref sig .tc := ⟨.hbm, 59, rfl⟩
abbrev main_v10 : Ref sig .tc := ⟨.hbm, 60, rfl⟩
abbrev main_v11 : Ref sig .tc := ⟨.hbm, 61, rfl⟩
abbrev main_v12 : Ref sig .tc := ⟨.hbm, 62, rfl⟩
abbrev main_v13 : Ref sig .tc := ⟨.hbm, 63, rfl⟩
abbrev main_v14 : Ref sig .tc := ⟨.hbm, 64, rfl⟩
abbrev main_v15 : Ref sig .tc := ⟨.hbm, 65, rfl⟩
abbrev main_call2_c : Ref sig .tc := ⟨.hbm, 66, rfl⟩
abbrev main_call2_v0 : Ref sig .tc := ⟨.hbm, 67, rfl⟩
abbrev main_call2_v1 : Ref sig .tc := ⟨.hbm, 68, rfl⟩
abbrev main_call2_c_0 : Ref sig .tc := ⟨.hbm, 69, rfl⟩
abbrev main_call2_v2 : Ref sig .tc := ⟨.hbm, 70, rfl⟩
abbrev main_call2_v3 : Ref sig .tc := ⟨.hbm, 71, rfl⟩
abbrev main_call2_v4 : Ref sig .tc := ⟨.hbm, 72, rfl⟩
abbrev main_call2_v5 : Ref sig .tc := ⟨.hbm, 73, rfl⟩
abbrev main_call2_c_1 : Ref sig .tc := ⟨.hbm, 74, rfl⟩
abbrev main_call2_c_2 : Ref sig .tc := ⟨.hbm, 75, rfl⟩
abbrev main_call2_v6 : Ref sig .tc := ⟨.hbm, 76, rfl⟩
abbrev main_call2_v7 : Ref sig .tc := ⟨.hbm, 77, rfl⟩
abbrev main_call2_v8 : Ref sig .tc := ⟨.hbm, 78, rfl⟩
abbrev main_call2_v9 : Ref sig .tc := ⟨.hbm, 79, rfl⟩
abbrev main_call2_v10 : Ref sig .tc := ⟨.hbm, 80, rfl⟩
abbrev main_call2_v11 : Ref sig .tc := ⟨.hbm, 81, rfl⟩
abbrev main_call2_c_3 : Ref sig .tc := ⟨.hbm, 82, rfl⟩
abbrev main_call2_v12 : Ref sig .tc := ⟨.hbm, 83, rfl⟩
abbrev main_call2_v13 : Ref sig .tc := ⟨.hbm, 84, rfl⟩
abbrev main_call2_cst : Ref sig .tc := ⟨.hbm, 85, rfl⟩
abbrev main_call2_v14 : Ref sig .tc := ⟨.hbm, 86, rfl⟩
abbrev main_v16 : Ref sig .tc := ⟨.hbm, 87, rfl⟩
abbrev main_call3_c : Ref sig .tc := ⟨.hbm, 88, rfl⟩
abbrev main_call3_v0 : Ref sig .tc := ⟨.hbm, 89, rfl⟩
abbrev main_call3_v1 : Ref sig .tc := ⟨.hbm, 90, rfl⟩
abbrev main_call3_c_0 : Ref sig .tc := ⟨.hbm, 91, rfl⟩
abbrev main_call3_v2 : Ref sig .tc := ⟨.hbm, 92, rfl⟩
abbrev main_call3_v3 : Ref sig .tc := ⟨.hbm, 93, rfl⟩
abbrev main_call3_v4 : Ref sig .tc := ⟨.hbm, 94, rfl⟩
abbrev main_call3_v5 : Ref sig .tc := ⟨.hbm, 95, rfl⟩
abbrev main_call3_c_1 : Ref sig .tc := ⟨.hbm, 96, rfl⟩
abbrev main_call3_c_2 : Ref sig .tc := ⟨.hbm, 97, rfl⟩
abbrev main_call3_v6 : Ref sig .tc := ⟨.hbm, 98, rfl⟩
abbrev main_call3_v7 : Ref sig .tc := ⟨.hbm, 99, rfl⟩
abbrev main_call3_v8 : Ref sig .tc := ⟨.hbm, 100, rfl⟩
abbrev main_call3_v9 : Ref sig .tc := ⟨.hbm, 101, rfl⟩
abbrev main_call3_v10 : Ref sig .tc := ⟨.hbm, 102, rfl⟩
abbrev main_call3_v11 : Ref sig .tc := ⟨.hbm, 103, rfl⟩
abbrev main_call3_c_3 : Ref sig .tc := ⟨.hbm, 104, rfl⟩
abbrev main_call3_v12 : Ref sig .tc := ⟨.hbm, 105, rfl⟩
abbrev main_call3_v13 : Ref sig .tc := ⟨.hbm, 106, rfl⟩
abbrev main_call3_cst : Ref sig .tc := ⟨.hbm, 107, rfl⟩
abbrev main_call3_v14 : Ref sig .tc := ⟨.hbm, 108, rfl⟩
abbrev main_v17 : Ref sig .tc := ⟨.hbm, 109, rfl⟩
abbrev main_cst_0 : Ref sig .tc := ⟨.hbm, 110, rfl⟩
abbrev main_v18 : Ref sig .tc := ⟨.hbm, 111, rfl⟩
abbrev main_v19 : Ref sig .tc := ⟨.hbm, 112, rfl⟩
abbrev main_v20 : Ref sig .tc := ⟨.hbm, 113, rfl⟩
abbrev main_v21 : Ref sig .tc := ⟨.hbm, 114, rfl⟩
abbrev main_v22 : Ref sig .tc := ⟨.hbm, 115, rfl⟩
abbrev main_cst_1 : Ref sig .tc := ⟨.hbm, 116, rfl⟩
abbrev main_v23 : Ref sig .tc := ⟨.hbm, 117, rfl⟩
abbrev main_v24 : Ref sig .tc := ⟨.hbm, 118, rfl⟩
abbrev main_cst_2 : Ref sig .tc := ⟨.hbm, 119, rfl⟩
abbrev main_v25 : Ref sig .tc := ⟨.hbm, 120, rfl⟩
abbrev main_v26 : Ref sig .tc := ⟨.hbm, 121, rfl⟩
abbrev main_v27 : Ref sig .tc := ⟨.hbm, 122, rfl⟩
abbrev main_v28 : Ref sig .tc := ⟨.hbm, 123, rfl⟩
abbrev main_v29 : Ref sig .tc := ⟨.hbm, 124, rfl⟩
abbrev main_cst_3 : Ref sig .tc := ⟨.hbm, 125, rfl⟩
abbrev main_v30 : Ref sig .tc := ⟨.hbm, 126, rfl⟩
abbrev main_v31 : Ref sig .tc := ⟨.hbm, 127, rfl⟩
abbrev main_cst_4 : Ref sig .tc := ⟨.hbm, 128, rfl⟩
abbrev main_v32 : Ref sig .tc := ⟨.hbm, 129, rfl⟩
abbrev main_cst_5 : Ref sig .tc := ⟨.hbm, 130, rfl⟩
abbrev main_v33 : Ref sig .tc := ⟨.hbm, 131, rfl⟩
abbrev main_cst_6 : Ref sig .tc := ⟨.hbm, 132, rfl⟩
abbrev main_v34 : Ref sig .tc := ⟨.hbm, 133, rfl⟩

abbrev nD : Nat := 1
abbrev τ : Topo := Topo.v7x

variable {F : FTy → Type} [FloatOps F]
-- ==== Proof.Setup.lean ====
/-
  The common ground of the certificate for the idealized kernel: the program as the SparseCore launch theorem sees it,
  the resource algebra (the handshakes' rounds, the two pipelines' rounds, the transfers' counters), the arrays by
  location, and what the SparseCore call computes — row `n` of the gathered weights is the weight row the `n`-th target
  names, and rows 0 and 1 of the small gathered array are the bias and the noise value at that target.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Regions
public import Idealize.ShloMosaic.Lib.Pipeline.RegionArrays
public import Idealize.ShloMosaic.Lib.Batch
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof.Nce

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 2) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UP : Type := URounds (GSem nD τ sig) Unit
abbrev UU : Type := UH × (UP × Counters)

local notation "𝕄" => MT nD τ sig (HIx 1) (Elt F) ℕ UU ℕ

/-- The handshakes' rounds, -/
abbrev EH : Emb UH (MT nD τ sig (HIx 1) (Elt F) ℕ UU ℕ) := embL
/-- and the pipelines'. -/
abbrev EP : Emb UP (MT nD τ sig (HIx 1) (Elt F) ℕ UU ℕ) := (Emb.inl : Emb UP (UP × Counters)).trans embR

/-! ## The arrays -/

abbrev xLoc (d : Dev nD) : Loc nD τ sig := (SparseCore.T d).loc main_arg0
abbrev tLoc (d : Dev nD) : Loc nD τ sig := (SparseCore.T d).loc main_arg1
abbrev wLoc (d : Dev nD) : Loc nD τ sig := (SparseCore.T d).loc main_arg2
abbrev bLoc (d : Dev nD) : Loc nD τ sig := (SparseCore.T d).loc main_arg3
abbrev nLoc (d : Dev nD) : Loc nD τ sig := (SparseCore.T d).loc main_arg4
abbrev sLoc (d : Dev nD) : Loc nD τ sig := (SparseCore.T d).loc main_arg5
abbrev rLoc (d : Dev nD) : Loc nD τ sig := (SparseCore.T d).loc main_v8_0
abbrev gLoc (d : Dev nD) : Loc nD τ sig := (SparseCore.T d).loc main_v8_1

/-! ## Indices by their coordinates -/

/-- An index of a one-dimensional shape, by its coordinate; -/
def ix1 {n : ℕ} (k : Fin n) : (⟨1, ![n]⟩ : Shape).Idx
  | 0 => k
  | ⟨_ + 1, h⟩ => absurd h (Nat.not_lt.2 (Nat.le_add_left _ _))
/-- of a two-dimensional one, by its two. -/
def ix2 {n k : ℕ} (i : Fin n) (j : Fin k) : (⟨2, ![n, k]⟩ : Shape).Idx
  | 0 => i
  | 1 => j
  | ⟨_ + 2, h⟩ => absurd h (Nat.not_lt.2 (Nat.le_add_left _ _))

theorem ix1_eta {n : ℕ} (i : (⟨1, ![n]⟩ : Shape).Idx) (k : Fin n) (h : (i 0).val = k.val) : i = ix1 k := by
  funext a; match a with
  | 0 => exact Fin.ext h
theorem ix2_eta {n k : ℕ} (i : (⟨2, ![n, k]⟩ : Shape).Idx) (a : Fin n) (b : Fin k) (h0 : (i 0).val = a.val) (h1 : (i 1).val = b.val) : i = ix2 a b := by
  funext c; match c with
  | 0 => exact Fin.ext h0
  | 1 => exact Fin.ext h1

/-- The vocabulary row an index word names (a word below 1000 names its own value). -/
def voc (w : BitVec 32) : Fin 1000 := ⟨w.toNat % 1000, Nat.mod_lt _ (by decide)⟩
theorem voc_val {w : BitVec 32} (h : w.toNat < 1000) : (voc w).val = w.toNat := Nat.mod_eq_of_lt h

/-! ## What the SparseCore call computes -/

/-- The gathered weight rows. -/
def gWr (W : S1000x128.Idx → Elt F .f32) (t : S16384.Idx → BitVec 32) : S16384x128.Idx → Elt F .f32 :=
  fun i => W (ix2 (voc (t (ix1 (i 0)))) (i 1))

/-- The gathered biases and noise values: what rows 0 and 1 hold on the columns `S` names. -/
def BnOK (b nz : S1000.Idx → Elt F .f32) (t : S16384.Idx → BitVec 32) (S : Finset S8x16384.Idx) (f : S8x16384.Idx → Elt F .f32) : Prop :=
  ∀ i ∈ S, ((i 0).val = 0 → f i = b (ix1 (voc (t (ix1 (i 1)))))) ∧ ((i 0).val = 1 → f i = nz (ix1 (voc (t (ix1 (i 1))))))

end Cert.Proof.Nce

end
-- ==== Proof.Lanes.lean ====
/-
  What one of the 32 straight-line steps of the SparseCore kernel does to its vectors, as facts about functions: the
  sixteen index words a load reads, the column numbers `16·j + lane` a scatter names, the table values an indexed load
  picks, and that a scatter of sixteen values into row `r` extends the filled part of that row by sixteen columns and
  leaves another row alone.
-/
module

public import proofs.«01_k».proof.Proof.Setup

@[expose] public section

noncomputable section

namespace Cert.Proof.Nce

open Cert.KernelIdeal Cert.KernelIdeal.Gen
open Idealize.ShloMosaic

variable {F : FTy → Type}

/-! ## A scatter, element by element -/

section Scatter

variable [FloatOps F] {s : Shape} {e : EltTy}

/-- A fold of one-point updates: an index no lane names keeps its value, -/
theorem fold_miss {n : ℕ} (P : Fin n → s.Idx → Prop) [∀ k j, Decidable (P k j)] (v : Fin n → Elt F e) (j : s.Idx) :
    ∀ (l : List (Fin n)) (g : s.Idx → Elt F e), (∀ k ∈ l, ¬P k j) →
      (l.foldl (fun g k => fun j => if P k j then v k else g j) g) j = g j
  | [], _, _ => rfl
  | a :: l, g, h => by
    rw [List.foldl_cons, fold_miss P v j l _ fun k hk => h k (List.mem_cons_of_mem _ hk), if_neg (h a List.mem_cons_self)]

/-- and one that a lane names, every other lane that names it bringing the same value, has that value. -/
theorem fold_hit {n : ℕ} (P : Fin n → s.Idx → Prop) [∀ k j, Decidable (P k j)] (v : Fin n → Elt F e) (j : s.Idx) (y : Elt F e)
    (hy : ∀ k, P k j → v k = y) :
    ∀ (l : List (Fin n)) (g : s.Idx → Elt F e), (∃ k ∈ l, P k j) →
      (l.foldl (fun g k => fun j => if P k j then v k else g j) g) j = y
  | [], _, h => by obtain ⟨k, hk, _⟩ := h; cases hk
  | a :: l, g, h => by
    rw [List.foldl_cons]
    by_cases hl : ∃ k ∈ l, P k j
    · exact fold_hit P v j y hy l _ hl
    · have ha : P a j := by
        obtain ⟨k, hk, hp⟩ := h
        rcases List.mem_cons.mp hk with rfl | hk
        · exact hp
        · exact absurd ⟨k, hk, hp⟩ hl
      rw [fold_miss P v j l _ fun k hk hp => hl ⟨k, hk, hp⟩, if_pos ha, hy a ha]

theorem storeIdx_eq {d : Fin 1 → ℕ} (f : Vec F s e) (idxs : Fin s.rank → IVec ⟨1, d⟩ 32) (v : Vec F ⟨1, d⟩ e)
    (h : ∀ a x, (idxs a x).toNat < s.size a) :
    storeIdx f idxs v (fun _ => 1#1) false h
      = (List.finRange (d 0)).foldl (fun g k => fun j =>
          if (∀ a, (j a).val = (idxs a (Shape.ofLane k)).toNat) then v (Shape.ofLane k) else g j) f := by
  unfold storeIdx
  congr 1
  funext g k
  refine (if_pos rfl).trans ?_
  simp only [Bool.false_eq_true, if_false]
  rfl

end Scatter

/-! ## The rows filled so far -/

/-- Index word `n` of the tile's 512, which lie in four rows of 128. -/
def word (fI : S4x128.Idx → BitVec 32) (n : ℕ) : BitVec 32 :=
  fI (ix2 ⟨n / 128 % 4, Nat.mod_lt _ (by decide)⟩ ⟨n % 128, Nat.mod_lt _ (by decide)⟩)

/-- Row `r` of `g` holds, on its first `k` columns, the table's values at the index words. -/
def Filled (fB : S1000.Idx → Elt F .f32) (fI : S4x128.Idx → BitVec 32) (r k : ℕ) (g : S8x512.Idx → Elt F .f32) : Prop :=
  ∀ i, (i 0).val = r → (i 1).val < k → g i = fB (ix1 (voc (word fI (i 1).val)))

theorem filled_zero (fB : S1000.Idx → Elt F .f32) (fI : S4x128.Idx → BitVec 32) (r : ℕ) (g : S8x512.Idx → Elt F .f32) :
    Filled fB fI r (16 * 0) g := fun _ _ h => absurd h (Nat.not_lt_zero _)

variable [FloatOps F]

/-- A scatter of the step's sixteen values into row `r` at columns `16·j + lane`. -/
theorem filled_store {fB : S1000.Idx → Elt F .f32} {fI : S4x128.Idx → BitVec 32} {r j : ℕ} {g : S8x512.Idx → Elt F .f32}
    (hg : Filled fB fI r (16 * j) g) {row col : IVec S16 32} {v : Vec F S16 .f32}
    (hrow : ∀ x, (row x).toNat = r) (hcol : ∀ x, (col x).toNat = 16 * j + (x 0).val)
    (hv : ∀ x, v x = fB (ix1 (voc (word fI (16 * j + (x 0).val)))))
    (h : ∀ a x, ((![row, col] : Fin 2 → IVec S16 32) a x).toNat < S8x512.size a) :
    Filled fB fI r (16 * (j + 1)) (storeIdx (s := S8x512) (e := .f32) g ![row, col] v (fun _ => 1#1) false h) := by
  intro i hi hk
  rw [storeIdx_eq]
  by_cases hlt : (i 1).val < 16 * j
  · rw [fold_miss]
    · exact hg i hi hlt
    · intro k _ hp
      have h1 := hp 1
      have := hcol (Shape.ofLane k)
      change (i 1).val = (col (Shape.ofLane k)).toNat at h1
      omega
  · refine fold_hit (e := .f32) _ _ _ _ ?_ _ _ ?_
    · intro k hp
      have h1 := hp 1
      change (i 1).val = (col (Shape.ofLane k)).toNat at h1
      rw [hv, h1, hcol]
    · have hk' : (i 1).val - 16 * j < 16 := by omega
      refine ⟨⟨(i 1).val - 16 * j, hk'⟩, List.mem_finRange _, fun a => ?_⟩
      match a with
      | 0 => exact hi.trans (hrow _).symm
      | 1 =>
        show (i 1).val = (col _).toNat
        rw [hcol]
        show (i 1).val = 16 * j + ((i 1).val - 16 * j)
        omega

/-- The same scatter leaves another row as it was. -/
theorem filled_keep {fB : S1000.Idx → Elt F .f32} {fI : S4x128.Idx → BitVec 32} {r r' k : ℕ} {g : S8x512.Idx → Elt F .f32}
    (hg : Filled fB fI r' k g) (hne : r' ≠ r) {row col : IVec S16 32} {v : Vec F S16 .f32}
    (hrow : ∀ x, (row x).toNat = r)
    (h : ∀ a x, ((![row, col] : Fin 2 → IVec S16 32) a x).toNat < S8x512.size a) :
    Filled fB fI r' k (storeIdx (s := S8x512) (e := .f32) g ![row, col] v (fun _ => 1#1) false h) := by
  intro i hi hk
  rw [storeIdx_eq, fold_miss]
  · exact hg i hi hk
  · intro a _ hp
    have h0 := hp 0
    change (i 0).val = (row (Shape.ofLane a)).toNat at h0
    rw [hrow] at h0
    omega

/-! ## The vectors of a step -/

theorem iota_lane (x : S16.Idx) : (iota .scVector S16 32 [0] iota_S16_d0_w32_scVector x).toNat = (x 0).val := by
  have hx : (x 0).val < 16 := (x 0).isLt
  show (BitVec.ofNat 32 (0 * 16 + (x 0).val)).toNat = _
  rw [BitVec.toNat_ofNat]
  omega

/-- The columns of step `j`. -/
theorem cols (j : ℕ) (hj : j < 32) (x : S16.Idx) :
    (addi (broadcast S16 (BitVec.ofNat 32 (16 * j))) (iota .scVector S16 32 [0] iota_S16_d0_w32_scVector) x).toNat = 16 * j + (x 0).val := by
  have hx : (x 0).val < 16 := (x 0).isLt
  show (BitVec.ofNat 32 (16 * j) + iota .scVector S16 32 [0] iota_S16_d0_w32_scVector x).toNat = _
  rw [BitVec.toNat_add, iota_lane, BitVec.toNat_ofNat]
  omega

/-- The step's index words are words of the vocabulary, -/
theorem chk_words {w : IVec S16 32} (h : ∀ x, (w x).toNat < 1000) : ∀ a x, ((![w] : Fin 1 → IVec S16 32) a x).toNat < S1000.size a := by
  intro a x; match a with
  | 0 => exact h x

/-- and its rows and columns lie inside the small array. -/
theorem chk_cols {row col : IVec S16 32} {r j : ℕ} (hr : r < 8) (hj : j < 32) (hrow : ∀ x, (row x).toNat = r)
    (hcol : ∀ x, (col x).toNat = 16 * j + (x 0).val) :
    ∀ a x, ((![row, col] : Fin 2 → IVec S16 32) a x).toNat < S8x512.size a := by
  intro a x
  have hx : (x 0).val < 16 := (x 0).isLt
  match a with
  | 0 => show (row x).toNat < 8; rw [hrow]; exact hr
  | 1 => show (col x).toNat < 512; rw [hcol]; omega

/-- What an indexed load picks. -/
theorem picked {fB : S1000.Idx → Elt F .f32} {fI : S4x128.Idx → BitVec 32} {j : ℕ} {w : IVec S16 32}
    (hw : ∀ x, w x = word fI (16 * j + (x 0).val)) (hlt : ∀ i, (fI i).toNat < 1000)
    (h : ∀ a x, ((![w] : Fin 1 → IVec S16 32) a x).toNat < S1000.size a) (x : S16.Idx) :
    loadIdx (s := S1000) (e := .f32) fB ![w] h x = fB (ix1 (voc (word fI (16 * j + (x 0).val)))) := by
  unfold loadIdx
  congr 1
  refine ix1_eta _ _ ?_
  show (w x).toNat = _
  rw [hw]; exact (voc_val (hlt _)).symm

end Cert.Proof.Nce

end
-- ==== Proof.Steps.lean ====
/-
  The straight-line middle of the SparseCore kernel, operation by operation: what a tile holds there (its index words,
  the two tables, the small array with so many columns of rows 0 and 1 filled), and what each of the five kinds of
  operation — load sixteen index words, check a vector, pick from the bias table, pick from the noise table, scatter
  into a row — does to it.
-/
module

public import proofs.«01_k».proof.Proof.Lanes
public import Idealize.ShloMosaic.Lib.Pipeline.Value

@[expose] public section

noncomputable section

namespace Cert.Proof.Nce

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## A tile's buffers -/

abbrev wV : Memref sig .scVector .hbm S1000x128 .f32 := Memref.whole main_arg2_scv
abbrev bV : Memref sig .scVector .hbm S1000 .f32 := Memref.whole main_arg3_scv
abbrev nV : Memref sig .scVector .hbm S1000 .f32 := Memref.whole main_arg4_scv
abbrev tV : Memref sig .scVector .hbm S16384 .i32 := Memref.whole main_arg1_scv
abbrev rV : Memref sig .scVector .hbm S16384x128 .f32 := Memref.whole main_v8_0_scv
abbrev gV : Memref sig .scVector .hbm S8x16384 .f32 := Memref.whole main_v8_1_scv
abbrev iS : Memref sig .scVector .vmem S4x128 .i32 := Memref.whole cc0_scratch0
abbrev aS : Memref sig .scVector .vmem S128x128 .f32 := Memref.whole cc0_scratch1
abbrev cS : Memref sig .scVector .vmem S128x128 .f32 := Memref.whole cc0_scratch2
abbrev oS : Memref sig .scVector .vmem S8x512 .f32 := Memref.whole cc0_scratch3
abbrev btS : Memref sig .scVector .vmem S1000 .f32 := Memref.whole cc0_scratch4
abbrev ntS : Memref sig .scVector .vmem S1000 .f32 := Memref.whole cc0_scratch5

abbrev cV (L : grid0.Coords) : Fin τ.nSC := (L 0).castLE hcore0
abbrev jV (L : grid0.Coords) : Fin τ.nSub := (L 1).castLE hsub0

section Tile

variable [FloatOps F] (d : Dev nD) (L : grid0.Coords)

/-- The machine's account of a tile's program. -/
abbrev Wp {α : Type} (p : Prog (TpuEff nD τ sig (Elt F) Λ₀ (V (nD := nD) d (cV L) (jV L)).2) α) (Q : α → sProp 𝕄) : sProp 𝕄 :=
  wp frame (wpE (defs₀ (F := F)) 𝒱₀ (V d (cV L) (jV L)) none) Set.univ p Q

/-- What the tile holds in the middle: half of its index words `fI`, the bias table `b`, the noise table `nz`, and the
    small array with `16·jb` columns of row 0 and `16·jn` of row 1 filled — beside `R`. -/
def Regs (fI : S4x128.Idx → BitVec 32) (b nz : S1000.Idx → Elt F .f32) (jb jn : ℕ) (R : sProp 𝕄) : sProp 𝕄 :=
  iprop(((iS).view.loc (V (nD := nD) d (cV L) (jV L)) ↦{fullShare.left} fI)
    ∗ ((btS).view.loc (V (nD := nD) d (cV L) (jV L)) ↦{fullShare} b)
    ∗ ((ntS).view.loc (V (nD := nD) d (cV L) (jV L)) ↦{fullShare} nz)
    ∗ (∃ g, ⌜Filled b fI 0 (16 * jb) g ∧ Filled nz fI 1 (16 * jn) g⌝ ∗ ((oS).view.loc (V (nD := nD) d (cV L) (jV L)) ↦{fullShare} g))
    ∗ R)

variable {d L}
variable {fI : S4x128.Idx → BitVec 32} {b nz : S1000.Idx → Elt F .f32} {jb jn : ℕ} {R : sProp (MT nD τ sig (HIx 1) (Elt F) ℕ UU ℕ)}

/-- The sixteen words a load of the index rows reads. -/
theorem word_read {j : ℕ} {o : Fin 2 → ℕ} {inb : ∀ a, o a + S1x16.size a ≤ S4x128.size a} (hj : o 0 * 128 + o 1 = 16 * j)
    (x : S16.Idx) :
    shapeCast S16 (View.read (Elt F) ((iS).access (Rect.unit (s := S4x128) o S1x16.size inb)) fI) shapeCasts_S1x16_S16 x = word fI (16 * j + (x 0).val) := by
  have hx : (x 0).val < 16 := (x 0).isLt
  have h0 : o 0 + 1 ≤ 4 := inb 0
  have h1 : o 1 + 16 ≤ 128 := inb 1
  have e : Shape.reshapeEquiv shapeCasts_S1x16_S16 x = (ix2 ⟨0, by decide⟩ (x 0) : S1x16.Idx) := by
    refine Shape.reshapeEquiv_eq_of_rowMajor _ ?_
    rw [Shape.rowMajor_val_one, Shape.rowMajor_val_two]
    show 0 * 16 + (x 0).val = (x 0).val
    omega
  unfold shapeCast word
  rw [e]
  refine congrArg fI (ix2_eta _ _ _ ?_ ?_)
  · show o 0 + 1 * 0 = (16 * j + (x 0).val) / 128 % 4
    omega
  · show o 1 + 1 * (x 0).val = (16 * j + (x 0).val) % 128
    omega

/-- A load of sixteen index words. -/
theorem step_word {α : Type} {Q : α → sProp 𝕄} (j : ℕ) {o : Fin 2 → ℕ} {inb : ∀ a, o a + S1x16.size a ≤ S4x128.size a}
    {hl : (iS).view.LoadsAt (Rect.unit (s := S4x128) o S1x16.size inb).toLoadRect}
    {k : Vec F S1x16 .i32 → Prog (TpuEff nD τ sig (Elt F) Λ₀ (V (nD := nD) d (cV L) (jV L)).2) α}
    (hj : o 0 * 128 + o 1 = 16 * j)
    (H : ∀ v : Vec F S1x16 .i32, (∀ x : S16.Idx, shapeCast S16 v shapeCasts_S1x16_S16 x = word fI (16 * j + (x 0).val)) →
      Regs d L fI b nz jb jn R ⊢ Wp d L (k v) Q) :
    Regs d L fI b nz jb jn R ⊢ Wp d L (Prog.lift (.load iS (Rect.unit (s := S4x128) o S1x16.size inb).toLoadRect hl) >>= k) Q := by
  show Regs d L fI b nz jb jn R ⊢ wp Idealize.ShloMosaic.frame (wpE (defs₀ (F := F)) 𝒱₀ (V d (cV L) (jV L)) none) Set.univ (.op (.load iS (Rect.unit (s := S4x128) o S1x16.size inb).toLoadRect hl) k) Q
  unfold Regs
  iintro ⟨Hi, Hb, Hn, Ho, HR⟩
  iapply (wp_load_rect (defs := defs₀ (F := F)) 𝒱₀ (V d (cV L) (jV L)) none Set.univ (Q := Q) (m := iS)
    (r := Rect.unit (s := S4x128) o S1x16.size inb) (hl := hl) (k := k) (S := Finset.univ) (q := fullShare.left) (f := fI) (Finset.subset_univ _)) $$ Hi
  iintro Hi
  iapply (H _ (word_read hj))
  unfold Regs
  isplitl [Hi]; · iexact Hi
  isplitl [Hb]; · iexact Hb
  isplitl [Hn]; · iexact Hn
  isplitl [Ho]; · iexact Ho
  iexact HR

/-- A check that holds. -/
theorem step_chk {α : Type} {Q : α → sProp 𝕄} {X : sProp 𝕄} {P : Prop} {dP : Decidable P}
    {k : PLift P → Prog (TpuEff nD τ sig (Elt F) Λ₀ (V (nD := nD) d (cV L) (jV L)).2) α} (h : P)
    (H : X ⊢ Wp d L (k ⟨h⟩) Q) : X ⊢ Wp d L (Prog.lift (.assume P dP) >>= k) Q :=
  H.trans (wp_assume (defs := defs₀ (F := F)) 𝒱₀ (V d (cV L) (jV L)) none Set.univ h)

omit [FloatOps F] in
theorem btS_read (g : S1000.Idx → Elt F .f32) : ((btS).access (.whole S1000)).read (Elt F) g = g := Memref.read_access_whole (Elt F) cc0_scratch4 g
omit [FloatOps F] in
theorem ntS_read (g : S1000.Idx → Elt F .f32) : ((ntS).access (.whole S1000)).read (Elt F) g = g := Memref.read_access_whole (Elt F) cc0_scratch5 g

/-- A pick from the bias table, -/
theorem step_bias {α : Type} {Q : α → sProp 𝕄} {idxs : Fin S1000.rank → IVec S16 32} {h : ∀ a x, (idxs a x).toNat < S1000.size a} {hl : (btS).view.Loads}
    {k : Vec F S16 .f32 → Prog (TpuEff nD τ sig (Elt F) Λ₀ (V (nD := nD) d (cV L) (jV L)).2) α}
    (H : Regs d L fI b nz jb jn R ⊢ Wp d L (k (loadIdx (s := S1000) (e := .f32) b idxs h)) Q) :
    Regs d L fI b nz jb jn R ⊢ Wp d L (SparseCore.vectorLoadIdx btS idxs h hl >>= k) Q := by
  unfold Regs at H ⊢
  iintro ⟨Hi, Hb, Hn, Ho, HR⟩
  iapply (SparseCore.wp_vectorLoadIdx (defs := defs₀ (F := F)) 𝒱₀ (V d (cV L) (jV L)) none Set.univ (Q := Q) (base := btS) (S := Finset.univ) (q := fullShare)
    (idxs := idxs) (h := h) (hl := hl) (k := k) (f := b) (Finset.subset_univ _)) $$ Hb
  iintro Hb
  iapply (H.trans (Entails.of_eq (congrArg (fun z => Wp d L (k z) Q) (show loadIdx (s := S1000) (e := .f32) b idxs h
    = loadIdx (((btS).access (Rect.whole S1000)).read (Elt F) b) idxs h by rw [btS_read]))))
  isplitl [Hi]; · iexact Hi
  isplitl [Hb]; · iexact Hb
  isplitl [Hn]; · iexact Hn
  isplitl [Ho]; · iexact Ho
  iexact HR
/-- and from the noise table. -/
theorem step_noise {α : Type} {Q : α → sProp 𝕄} {idxs : Fin S1000.rank → IVec S16 32} {h : ∀ a x, (idxs a x).toNat < S1000.size a} {hl : (ntS).view.Loads}
    {k : Vec F S16 .f32 → Prog (TpuEff nD τ sig (Elt F) Λ₀ (V (nD := nD) d (cV L) (jV L)).2) α}
    (H : Regs d L fI b nz jb jn R ⊢ Wp d L (k (loadIdx (s := S1000) (e := .f32) nz idxs h)) Q) :
    Regs d L fI b nz jb jn R ⊢ Wp d L (SparseCore.vectorLoadIdx ntS idxs h hl >>= k) Q := by
  unfold Regs at H ⊢
  iintro ⟨Hi, Hb, Hn, Ho, HR⟩
  iapply (SparseCore.wp_vectorLoadIdx (defs := defs₀ (F := F)) 𝒱₀ (V d (cV L) (jV L)) none Set.univ (Q := Q) (base := ntS) (S := Finset.univ) (q := fullShare)
    (idxs := idxs) (h := h) (hl := hl) (k := k) (f := nz) (Finset.subset_univ _)) $$ Hn
  iintro Hn
  iapply (H.trans (Entails.of_eq (congrArg (fun z => Wp d L (k z) Q) (show loadIdx (s := S1000) (e := .f32) nz idxs h
    = loadIdx (((ntS).access (Rect.whole S1000)).read (Elt F) nz) idxs h by rw [ntS_read]))))
  isplitl [Hi]; · iexact Hi
  isplitl [Hb]; · iexact Hb
  isplitl [Hn]; · iexact Hn
  isplitl [Ho]; · iexact Ho
  iexact HR

theorem oS_set : ((oS).access (.whole S8x512)).set = Finset.univ := Memref.set_access_whole cc0_scratch3
omit [FloatOps F] in
theorem oS_read (g : S8x512.Idx → Elt F .f32) : ((oS).access (.whole S8x512)).read (Elt F) g = g := Memref.read_access_whole (Elt F) cc0_scratch3 g
omit [FloatOps F] in
theorem oS_write (g w : S8x512.Idx → Elt F .f32) : ((oS).access (.whole S8x512)).write (Elt F) g w Finset.univ = w :=
  Memref.write_access_whole_univ (Elt F) cc0_scratch3 g w

/-- A scatter of the step's biases into row 0, -/
theorem step_put0 {α : Type} {Q : α → sProp 𝕄} {row col : IVec S16 32} {v : Vec F S16 .f32}
    {h : ∀ a x, ((![row, col] : Fin 2 → IVec S16 32) a x).toNat < S8x512.size a}
    {hs : ((oS).access (.whole S8x512)).Stores Finset.univ}
    {k : PUnit → Prog (TpuEff nD τ sig (Elt F) Λ₀ (V (nD := nD) d (cV L) (jV L)).2) α}
    (hrow : ∀ x, (row x).toNat = 0) (hcol : ∀ x, (col x).toNat = 16 * jb + (x 0).val)
    (hv : ∀ x, v x = b (ix1 (voc (word fI (16 * jb + (x 0).val)))))
    (H : Regs d L fI b nz (jb + 1) jn R ⊢ Wp d L (k ⟨⟩) Q) :
    Regs d L fI b nz jb jn R ⊢ Wp d L (SparseCore.vectorStoreIdx oS ![row, col] v (fun _ => 1#1) false h hs >>= k) Q := by
  unfold Regs at H ⊢
  iintro ⟨Hi, Hb, Hn, ⟨%g, %hg, Ho⟩, HR⟩
  ihave Ho' := (Entails.of_eq (show ((oS).view.loc (V (nD := nD) d (cV L) (jV L)) ↦{fullShare} g : sProp 𝕄)
    = (((oS).access (.whole S8x512)).loc (V (nD := nD) d (cV L) (jV L)) ↦[((oS).access (.whole S8x512)).set]{fullShare} g) by
      rw [oS_set])) $$ Ho
  iapply (SparseCore.wp_vectorStoreIdx (defs := defs₀ (F := F)) 𝒱₀ (V d (cV L) (jV L)) none Set.univ (Q := Q) (base := oS)
    (idxs := ![row, col]) (v := v) (mask := fun _ => 1#1) (add := false) (h := h) (hs := hs) (k := k) (f := g)) $$ Ho'
  iintro Ho
  ihave Ho' := (Entails.of_eq (show (((oS).access (.whole S8x512)).loc (V (nD := nD) d (cV L) (jV L)) ↦[((oS).access (.whole S8x512)).set]{fullShare}
      (((oS).access (.whole S8x512)).write (Elt F) g (storeIdx (((oS).access (.whole S8x512)).read (Elt F) g) ![row, col] v (fun _ => 1#1) false h) Finset.univ) : sProp 𝕄)
    = ((oS).view.loc (V (nD := nD) d (cV L) (jV L)) ↦{fullShare} storeIdx (s := S8x512) (e := .f32) g ![row, col] v (fun _ => 1#1) false h) by
      rw [oS_set, oS_write, oS_read])) $$ Ho
  iapply H
  isplitl [Hi]; · iexact Hi
  isplitl [Hb]; · iexact Hb
  isplitl [Hn]; · iexact Hn
  isplitl [Ho']
  · iexists _
    isplitr
    · ipureintro; exact ⟨filled_store hg.1 hrow hcol hv h, filled_keep hg.2 (by decide) hrow h⟩
    · iexact Ho'
  iexact HR
/-- and of its noise values into row 1. -/
theorem step_put1 {α : Type} {Q : α → sProp 𝕄} {row col : IVec S16 32} {v : Vec F S16 .f32}
    {h : ∀ a x, ((![row, col] : Fin 2 → IVec S16 32) a x).toNat < S8x512.size a}
    {hs : ((oS).access (.whole S8x512)).Stores Finset.univ}
    {k : PUnit → Prog (TpuEff nD τ sig (Elt F) Λ₀ (V (nD := nD) d (cV L) (jV L)).2) α}
    (hrow : ∀ x, (row x).toNat = 1) (hcol : ∀ x, (col x).toNat = 16 * jn + (x 0).val)
    (hv : ∀ x, v x = nz (ix1 (voc (word fI (16 * jn + (x 0).val)))))
    (H : Regs d L fI b nz jb (jn + 1) R ⊢ Wp d L (k ⟨⟩) Q) :
    Regs d L fI b nz jb jn R ⊢ Wp d L (SparseCore.vectorStoreIdx oS ![row, col] v (fun _ => 1#1) false h hs >>= k) Q := by
  unfold Regs at H ⊢
  iintro ⟨Hi, Hb, Hn, ⟨%g, %hg, Ho⟩, HR⟩
  ihave Ho' := (Entails.of_eq (show ((oS).view.loc (V (nD := nD) d (cV L) (jV L)) ↦{fullShare} g : sProp 𝕄)
    = (((oS).access (.whole S8x512)).loc (V (nD := nD) d (cV L) (jV L)) ↦[((oS).access (.whole S8x512)).set]{fullShare} g) by
      rw [oS_set])) $$ Ho
  iapply (SparseCore.wp_vectorStoreIdx (defs := defs₀ (F := F)) 𝒱₀ (V d (cV L) (jV L)) none Set.univ (Q := Q) (base := oS)
    (idxs := ![row, col]) (v := v) (mask := fun _ => 1#1) (add := false) (h := h) (hs := hs) (k := k) (f := g)) $$ Ho'
  iintro Ho
  ihave Ho' := (Entails.of_eq (show (((oS).access (.whole S8x512)).loc (V (nD := nD) d (cV L) (jV L)) ↦[((oS).access (.whole S8x512)).set]{fullShare}
      (((oS).access (.whole S8x512)).write (Elt F) g (storeIdx (((oS).access (.whole S8x512)).read (Elt F) g) ![row, col] v (fun _ => 1#1) false h) Finset.univ) : sProp 𝕄)
    = ((oS).view.loc (V (nD := nD) d (cV L) (jV L)) ↦{fullShare} storeIdx (s := S8x512) (e := .f32) g ![row, col] v (fun _ => 1#1) false h) by
      rw [oS_set, oS_write, oS_read])) $$ Ho
  iapply H
  isplitl [Hi]; · iexact Hi
  isplitl [Hb]; · iexact Hb
  isplitl [Hn]; · iexact Hn
  isplitl [Ho']
  · iexists _
    isplitr
    · ipureintro; exact ⟨filled_keep hg.1 (by decide) hrow h, filled_store hg.2 hrow hcol hv h⟩
    · iexact Ho'
  iexact HR

/-- The end of a part. -/
theorem step_ret {α : Type} {Q : α → sProp 𝕄} {X : sProp 𝕄} {x : α} (H : X ⊢ Q x) :
    X ⊢ Wp d L (pure x) Q :=
  H.trans (fupd_intro (PROP := sProp 𝕄))

/-- The words of a step are words of the vocabulary. -/
theorem words_lt {j : ℕ} {w : IVec S16 32} (hlt : ∀ i, (fI i).toNat < 1000) (hw : ∀ x, w x = word fI (16 * j + (x 0).val)) (x : S16.Idx) :
    (w x).toNat < 1000 := by rw [hw]; exact hlt _

/-- A WHOLE STEP: sixteen index words read and checked, their biases and noise values picked, scattered into rows 0 and 1
    at columns `16·j + lane`. -/
theorem step_one {α : Type} {Q : α → sProp 𝕄} (j : ℕ) {o : Fin 2 → ℕ} {inb : ∀ a, o a + S1x16.size a ≤ S4x128.size a}
    {hl : (iS).view.LoadsAt (Rect.unit (s := S4x128) o S1x16.size inb).toLoadRect} {hl1 : (btS).view.Loads} {hl2 : (ntS).view.Loads}
    {hs1 hs2 : ((oS).access (.whole S8x512)).Stores Finset.univ}
    {P1 : Vec F S1x16 .i32 → Prop} {d1 : ∀ v, Decidable (P1 v)} {P2 : Prop} {d2 : Decidable P2} {row0 row1 col : IVec S16 32}
    {f1 f2 : ∀ v, PLift (P1 v) → ∀ a x, ((![shapeCast S16 v shapeCasts_S1x16_S16] : Fin S1000.rank → IVec S16 32) a x).toNat < S1000.size a}
    {f3 : PLift P2 → ∀ a x, ((![row0, col] : Fin 2 → IVec S16 32) a x).toNat < S8x512.size a}
    {f4 : PLift P2 → ∀ a x, ((![row1, col] : Fin 2 → IVec S16 32) a x).toNat < S8x512.size a}
    {k : PUnit → Prog (TpuEff nD τ sig (Elt F) Λ₀ (V (nD := nD) d (cV L) (jV L)).2) α}
    (hlt : ∀ i, (fI i).toNat < 1000) (hj : o 0 * 128 + o 1 = 16 * j)
    (h1 : ∀ v, (∀ a x, ((![shapeCast S16 v shapeCasts_S1x16_S16] : Fin S1000.rank → IVec S16 32) a x).toNat < S1000.size a) → P1 v)
    (hrow0 : ∀ x, (row0 x).toNat = 0) (hrow1 : ∀ x, (row1 x).toNat = 1) (hcol : ∀ x, (col x).toNat = 16 * j + (x 0).val)
    (h2 : (∀ a x, ((![row0, col] : Fin 2 → IVec S16 32) a x).toNat < S8x512.size a)
      → (∀ a x, ((![row1, col] : Fin 2 → IVec S16 32) a x).toNat < S8x512.size a) → P2)
    (hjlt : j < 32)
    (H : Regs d L fI b nz (j + 1) (j + 1) R ⊢ Wp d L (k ⟨⟩) Q) :
    Regs d L fI b nz j j R ⊢ Wp d L (do
      let v ← Prog.lift (.load iS (Rect.unit (s := S4x128) o S1x16.size inb).toLoadRect hl)
      let q1 ← Prog.lift (.assume (P1 v) (d1 v))
      let vb ← SparseCore.vectorLoadIdx btS ![shapeCast S16 v shapeCasts_S1x16_S16] (f1 v q1) hl1
      let vn ← SparseCore.vectorLoadIdx ntS ![shapeCast S16 v shapeCasts_S1x16_S16] (f2 v q1) hl2
      let q2 ← Prog.lift (.assume P2 d2)
      SparseCore.vectorStoreIdx oS ![row0, col] vb (fun _ => 1#1) false (f3 q2) hs1
      let u ← SparseCore.vectorStoreIdx oS ![row1, col] vn (fun _ => 1#1) false (f4 q2) hs2
      k u) Q := by
  refine step_word j hj fun v hv => ?_
  have hw := chk_words (words_lt hlt hv)
  refine step_chk (h1 v hw) (step_bias (step_noise ?_))
  refine step_chk (h2 (chk_cols (by decide) hjlt hrow0 hcol) (chk_cols (by decide) hjlt hrow1 hcol)) ?_
  refine step_put0 hrow0 hcol (picked hv hlt _) ?_
  exact step_put1 hrow1 hcol (picked hv hlt _) H

end Tile

end Cert.Proof.Nce

end
-- ==== Proof.Middle.lean ====
/-
  The straight-line middle of the SparseCore kernel, part by part of its printed text: all 32 steps, from the first
  step's noise pick to the last step's scatter.
-/
module

public import proofs.«01_k».proof.Proof.Steps

@[expose] public section

noncomputable section

namespace Cert.Proof.Nce

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

section Tile

variable [FloatOps F] (d : Dev nD) (L : grid0.Coords)

/-- The lane numbers. -/
abbrev lanes : IVec S16 32 := iota .scVector S16 32 [0] iota_S16_d0_w32_scVector

theorem row0 (x : S16.Idx) : (k0_pay1 x).toNat = 0 := rfl
theorem row1 (x : S16.Idx) : (k0_pay2 x).toNat = 1 := rfl

abbrev part1  :=
  k0_part1_skel (F := F) L wV (Memref.isWhole_whole _) bV (Memref.isWhole_whole _) nV (Memref.isWhole_whole _) tV (Memref.isWhole_whole _) rV (Memref.isWhole_whole _) gV (Memref.isWhole_whole _)
    iS (Memref.isWhole_whole _) aS (Memref.isWhole_whole _) cS (Memref.isWhole_whole _) oS (Memref.isWhole_whole _) btS (Memref.isWhole_whole _) ntS (Memref.isWhole_whole _)
    cc0_scratch6 cc0_scratch7 cc0_scratch8 cc0_scratch9 cc0_scoped0 cc0_scoped1 cc0_scoped2 cc0_scoped3 cc0_scoped4
abbrev part2  :=
  k0_part2_skel (F := F) L wV (Memref.isWhole_whole _) bV (Memref.isWhole_whole _) nV (Memref.isWhole_whole _) tV (Memref.isWhole_whole _) rV (Memref.isWhole_whole _) gV (Memref.isWhole_whole _)
    iS (Memref.isWhole_whole _) aS (Memref.isWhole_whole _) cS (Memref.isWhole_whole _) oS (Memref.isWhole_whole _) btS (Memref.isWhole_whole _) ntS (Memref.isWhole_whole _)
    cc0_scratch6 cc0_scratch7 cc0_scratch8 cc0_scratch9 cc0_scoped0 cc0_scoped1 cc0_scoped2 cc0_scoped3 cc0_scoped4
abbrev part3 (v : Vec F S16 .i32) (h : k0_chk1 v) (w : Vec F S16 .f32) :=
  k0_part3_skel (F := F) L wV (Memref.isWhole_whole _) bV (Memref.isWhole_whole _) nV (Memref.isWhole_whole _) tV (Memref.isWhole_whole _) rV (Memref.isWhole_whole _) gV (Memref.isWhole_whole _)
    iS (Memref.isWhole_whole _) aS (Memref.isWhole_whole _) cS (Memref.isWhole_whole _) oS (Memref.isWhole_whole _) btS (Memref.isWhole_whole _) ntS (Memref.isWhole_whole _)
    cc0_scratch6 cc0_scratch7 cc0_scratch8 cc0_scratch9 cc0_scoped0 cc0_scoped1 cc0_scoped2 cc0_scoped3 cc0_scoped4 lanes k0_pay1 k0_pay2 v h w
abbrev part4 (v w : Vec F S16 .f32) :=
  k0_part4_skel (F := F) L wV (Memref.isWhole_whole _) bV (Memref.isWhole_whole _) nV (Memref.isWhole_whole _) tV (Memref.isWhole_whole _) rV (Memref.isWhole_whole _) gV (Memref.isWhole_whole _)
    iS (Memref.isWhole_whole _) aS (Memref.isWhole_whole _) cS (Memref.isWhole_whole _) oS (Memref.isWhole_whole _) btS (Memref.isWhole_whole _) ntS (Memref.isWhole_whole _)
    cc0_scratch6 cc0_scratch7 cc0_scratch8 cc0_scratch9 cc0_scoped0 cc0_scoped1 cc0_scoped2 cc0_scoped3 cc0_scoped4 lanes k0_pay1 k0_pay2 v w (k0_pay7 lanes)
abbrev part5  :=
  k0_part5_skel (F := F) L wV (Memref.isWhole_whole _) bV (Memref.isWhole_whole _) nV (Memref.isWhole_whole _) tV (Memref.isWhole_whole _) rV (Memref.isWhole_whole _) gV (Memref.isWhole_whole _)
    iS (Memref.isWhole_whole _) aS (Memref.isWhole_whole _) cS (Memref.isWhole_whole _) oS (Memref.isWhole_whole _) btS (Memref.isWhole_whole _) ntS (Memref.isWhole_whole _)
    cc0_scratch6 cc0_scratch7 cc0_scratch8 cc0_scratch9 cc0_scoped0 cc0_scoped1 cc0_scoped2 cc0_scoped3 cc0_scoped4 lanes k0_pay1 k0_pay2 1#32
abbrev part6 (v : Vec F S16 .i32) :=
  k0_part6_skel (F := F) L wV (Memref.isWhole_whole _) bV (Memref.isWhole_whole _) nV (Memref.isWhole_whole _) tV (Memref.isWhole_whole _) rV (Memref.isWhole_whole _) gV (Memref.isWhole_whole _)
    iS (Memref.isWhole_whole _) aS (Memref.isWhole_whole _) cS (Memref.isWhole_whole _) oS (Memref.isWhole_whole _) btS (Memref.isWhole_whole _) ntS (Memref.isWhole_whole _)
    cc0_scratch6 cc0_scratch7 cc0_scratch8 cc0_scratch9 cc0_scoped0 cc0_scoped1 cc0_scoped2 cc0_scoped3 cc0_scoped4 lanes k0_pay1 k0_pay2 v
abbrev part7 (v w : Vec F S16 .f32) :=
  k0_part7_skel (F := F) L wV (Memref.isWhole_whole _) bV (Memref.isWhole_whole _) nV (Memref.isWhole_whole _) tV (Memref.isWhole_whole _) rV (Memref.isWhole_whole _) gV (Memref.isWhole_whole _)
    iS (Memref.isWhole_whole _) aS (Memref.isWhole_whole _) cS (Memref.isWhole_whole _) oS (Memref.isWhole_whole _) btS (Memref.isWhole_whole _) ntS (Memref.isWhole_whole _)
    cc0_scratch6 cc0_scratch7 cc0_scratch8 cc0_scratch9 cc0_scoped0 cc0_scoped1 cc0_scoped2 cc0_scoped3 cc0_scoped4 lanes k0_pay1 k0_pay2 v w 272#32
abbrev part8 (v : Vec F S16 .f32) (h : k0_chk44 k0_pay1 k0_pay2 (k0_pay25 lanes)) :=
  k0_part8_skel (F := F) L wV (Memref.isWhole_whole _) bV (Memref.isWhole_whole _) nV (Memref.isWhole_whole _) tV (Memref.isWhole_whole _) rV (Memref.isWhole_whole _) gV (Memref.isWhole_whole _)
    iS (Memref.isWhole_whole _) aS (Memref.isWhole_whole _) cS (Memref.isWhole_whole _) oS (Memref.isWhole_whole _) btS (Memref.isWhole_whole _) ntS (Memref.isWhole_whole _)
    cc0_scratch6 cc0_scratch7 cc0_scratch8 cc0_scratch9 cc0_scoped0 cc0_scoped1 cc0_scoped2 cc0_scoped3 cc0_scoped4 lanes k0_pay1 k0_pay2 v (k0_pay25 lanes) h
abbrev part9  :=
  k0_part9_skel (F := F) L wV (Memref.isWhole_whole _) bV (Memref.isWhole_whole _) nV (Memref.isWhole_whole _) tV (Memref.isWhole_whole _) rV (Memref.isWhole_whole _) gV (Memref.isWhole_whole _)
    iS (Memref.isWhole_whole _) aS (Memref.isWhole_whole _) cS (Memref.isWhole_whole _) oS (Memref.isWhole_whole _) btS (Memref.isWhole_whole _) ntS (Memref.isWhole_whole _)
    cc0_scratch6 cc0_scratch7 cc0_scratch8 cc0_scratch9 cc0_scoped0 cc0_scoped1 cc0_scoped2 cc0_scoped3 cc0_scoped4 lanes k0_pay1 k0_pay2
abbrev part10 (z : BitVec 32) (v : Vec F S16 .i32) (h : k0_chk61 v) (w : Vec F S16 .f32) :=
  k0_part10_skel (F := F) L wV (Memref.isWhole_whole _) bV (Memref.isWhole_whole _) nV (Memref.isWhole_whole _) tV (Memref.isWhole_whole _) rV (Memref.isWhole_whole _) gV (Memref.isWhole_whole _)
    iS (Memref.isWhole_whole _) aS (Memref.isWhole_whole _) cS (Memref.isWhole_whole _) oS (Memref.isWhole_whole _) btS (Memref.isWhole_whole _) ntS (Memref.isWhole_whole _)
    cc0_scratch6 cc0_scratch7 cc0_scratch8 cc0_scratch9 cc0_scoped0 cc0_scoped1 cc0_scoped2 cc0_scoped3 cc0_scoped4 z lanes k0_pay1 k0_pay2 v h w
abbrev part11 (z : BitVec 32) :=
  k0_part11_skel (F := F) L wV (Memref.isWhole_whole _) bV (Memref.isWhole_whole _) nV (Memref.isWhole_whole _) tV (Memref.isWhole_whole _) rV (Memref.isWhole_whole _) gV (Memref.isWhole_whole _)
    iS (Memref.isWhole_whole _) aS (Memref.isWhole_whole _) cS (Memref.isWhole_whole _) oS (Memref.isWhole_whole _) btS (Memref.isWhole_whole _) ntS (Memref.isWhole_whole _)
    cc0_scratch6 cc0_scratch7 cc0_scratch8 cc0_scratch9 cc0_scoped0 cc0_scoped1 cc0_scoped2 cc0_scoped3 cc0_scoped4 z

variable {d L}
variable {fI : S4x128.Idx → BitVec 32} {b nz : S1000.Idx → Elt F .f32} {R : sProp (MT nD τ sig (HIx 1) (Elt F) ℕ UU ℕ)}

theorem run_part3 {Q : _ → sProp 𝕄} (hlt : ∀ i, (fI i).toNat < 1000) {v : Vec F S16 .i32} {h : k0_chk1 v} {w : Vec F S16 .f32}
    (hv : ∀ x : S16.Idx, v x = word fI (16 * 0 + (x 0).val)) (hw : ∀ x : S16.Idx, w x = b (ix1 (voc (word fI (16 * 0 + (x 0).val)))))
    (H : ∀ v' w' : Vec F S16 .f32, (∀ x : S16.Idx, v' x = b (ix1 (voc (word fI (16 * 4 + (x 0).val))))) →
      (∀ x : S16.Idx, w' x = nz (ix1 (voc (word fI (16 * 4 + (x 0).val))))) → Regs d L fI b nz 4 4 R ⊢ Q ⟨v', w', k0_pay7 lanes⟩) :
    Regs d L fI b nz 0 0 R ⊢ Wp d L (part3 (F := F) L v h w) Q := by
  unfold part3 k0_part3_skel
  have hc := cols 0 (by decide)
  refine step_noise (step_chk ⟨chk_cols (by decide) (by decide) row0 hc, chk_cols (by decide) (by decide) row1 hc⟩ ?_)
  refine step_put0 row0 hc hw (step_put1 row1 hc (picked hv hlt _) ?_)
  refine step_one 1 hlt rfl (fun _ h => ⟨h, h⟩) row0 row1 (cols 1 (by decide)) (fun h g => ⟨h, g⟩) (by decide) ?_
  refine step_one 2 hlt rfl (fun _ h => ⟨h, h⟩) row0 row1 (cols 2 (by decide)) (fun h g => ⟨h, g⟩) (by decide) ?_
  refine step_one 3 hlt rfl (fun _ h => ⟨h, h⟩) row0 row1 (cols 3 (by decide)) (fun h g => ⟨h, g⟩) (by decide) ?_
  refine step_word 4 rfl fun u hu => ?_
  refine step_chk ⟨chk_words (words_lt hlt hu), chk_words (words_lt hlt hu)⟩ (step_bias (step_noise (step_ret ?_)))
  exact H _ _ (picked hu hlt _) (picked hu hlt _)

theorem run_part4 {Q : _ → sProp 𝕄} (hlt : ∀ i, (fI i).toNat < 1000) {v w : Vec F S16 .f32} (hv : (∀ x : S16.Idx, v x = b (ix1 (voc (word fI (16 * 4 + (x 0).val)))))) (hw : (∀ x : S16.Idx, w x = nz (ix1 (voc (word fI (16 * 4 + (x 0).val))))))
    (H : Regs d L fI b nz 9 9 R ⊢ Q 1#32) :
    Regs d L fI b nz 4 4 R ⊢ Wp d L (part4 (F := F) L v w) Q := by
  unfold part4 k0_part4_skel
  have hc := cols 4 (by decide)
  refine step_chk ⟨chk_cols (by decide) (by decide) row0 hc, chk_cols (by decide) (by decide) row1 hc⟩ ?_
  refine step_put0 row0 hc hv (step_put1 row1 hc hw ?_)
  refine step_one 5 hlt rfl (fun _ h => ⟨h, h⟩) row0 row1 (cols 5 (by decide)) (fun h g => ⟨h, g⟩) (by decide) ?_
  refine step_one 6 hlt rfl (fun _ h => ⟨h, h⟩) row0 row1 (cols 6 (by decide)) (fun h g => ⟨h, g⟩) (by decide) ?_
  refine step_one 7 hlt rfl (fun _ h => ⟨h, h⟩) row0 row1 (cols 7 (by decide)) (fun h g => ⟨h, g⟩) (by decide) ?_
  refine step_one 8 hlt rfl (fun _ h => ⟨h, h⟩) row0 row1 (cols 8 (by decide)) (fun h g => ⟨h, g⟩) (by decide) ?_
  exact step_ret H

theorem run_part5 {Q : _ → sProp 𝕄} (hlt : ∀ i, (fI i).toNat < 1000)
    (H : ∀ v : Vec F S16 .i32, (∀ x : S16.Idx, v x = word fI (16 * 13 + (x 0).val)) → Regs d L fI b nz 13 13 R ⊢ Q v) :
    Regs d L fI b nz 9 9 R ⊢ Wp d L (part5 (F := F) L) Q := by
  unfold part5 k0_part5_skel
  refine step_one 9 hlt rfl (fun _ h => ⟨h, h⟩) row0 row1 (cols 9 (by decide)) (fun h g => ⟨h, g⟩) (by decide) ?_
  refine step_one 10 hlt rfl (fun _ h => ⟨h, h⟩) row0 row1 (cols 10 (by decide)) (fun h g => ⟨h, g⟩) (by decide) ?_
  refine step_one 11 hlt rfl (fun _ h => ⟨h, h⟩) row0 row1 (cols 11 (by decide)) (fun h g => ⟨h, g⟩) (by decide) ?_
  refine step_one 12 hlt rfl (fun _ h => ⟨h, h⟩) row0 row1 (cols 12 (by decide)) (fun h g => ⟨h, g⟩) (by decide) ?_
  exact step_word 13 rfl fun u hu => step_ret (H _ hu)

theorem run_part6 {Q : _ → sProp 𝕄} (hlt : ∀ i, (fI i).toNat < 1000) {v : Vec F S16 .i32} (hv : (∀ x : S16.Idx, v x = word fI (16 * 13 + (x 0).val)))
    (H : ∀ v w : Vec F S16 .f32, (∀ x : S16.Idx, v x = b (ix1 (voc (word fI (16 * 17 + (x 0).val))))) → (∀ x : S16.Idx, w x = nz (ix1 (voc (word fI (16 * 17 + (x 0).val))))) → Regs d L fI b nz 17 17 R ⊢ Q ⟨v, w, 272#32⟩) :
    Regs d L fI b nz 13 13 R ⊢ Wp d L (part6 (F := F) L v) Q := by
  unfold part6 k0_part6_skel
  have hk := chk_words (words_lt hlt hv)
  refine step_chk ⟨hk, hk⟩ (step_bias (step_noise ?_))
  have hc := cols 13 (by decide)
  refine step_chk ⟨chk_cols (by decide) (by decide) row0 hc, chk_cols (by decide) (by decide) row1 hc⟩ ?_
  refine step_put0 row0 hc (picked hv hlt _) (step_put1 row1 hc (picked hv hlt _) ?_)
  refine step_one 14 hlt rfl (fun _ h => ⟨h, h⟩) row0 row1 (cols 14 (by decide)) (fun h g => ⟨h, g⟩) (by decide) ?_
  refine step_one 15 hlt rfl (fun _ h => ⟨h, h⟩) row0 row1 (cols 15 (by decide)) (fun h g => ⟨h, g⟩) (by decide) ?_
  refine step_one 16 hlt rfl (fun _ h => ⟨h, h⟩) row0 row1 (cols 16 (by decide)) (fun h g => ⟨h, g⟩) (by decide) ?_
  refine step_word 17 rfl fun u hu => ?_
  refine step_chk ⟨chk_words (words_lt hlt hu), chk_words (words_lt hlt hu)⟩ (step_bias (step_noise (step_ret ?_)))
  exact H _ _ (picked hu hlt _) (picked hu hlt _)

theorem run_part7 {Q : _ → sProp 𝕄} (hlt : ∀ i, (fI i).toNat < 1000) {v w : Vec F S16 .f32} (hv : (∀ x : S16.Idx, v x = b (ix1 (voc (word fI (16 * 17 + (x 0).val)))))) (hw : (∀ x : S16.Idx, w x = nz (ix1 (voc (word fI (16 * 17 + (x 0).val))))))
    (H : ∀ (v : Vec F S16 .f32) (h : k0_chk44 k0_pay1 k0_pay2 (k0_pay25 lanes)), (∀ x : S16.Idx, v x = nz (ix1 (voc (word fI (16 * 21 + (x 0).val))))) → Regs d L fI b nz 22 21 R ⊢ Q ⟨v, k0_pay25 lanes, h⟩) :
    Regs d L fI b nz 17 17 R ⊢ Wp d L (part7 (F := F) L v w) Q := by
  unfold part7 k0_part7_skel
  have hc := cols 17 (by decide)
  refine step_chk ⟨chk_cols (by decide) (by decide) row0 hc, chk_cols (by decide) (by decide) row1 hc⟩ ?_
  refine step_put0 row0 hc hv (step_put1 row1 hc hw ?_)
  refine step_one 18 hlt rfl (fun _ h => ⟨h, h⟩) row0 row1 (cols 18 (by decide)) (fun h g => ⟨h, g⟩) (by decide) ?_
  refine step_one 19 hlt rfl (fun _ h => ⟨h, h⟩) row0 row1 (cols 19 (by decide)) (fun h g => ⟨h, g⟩) (by decide) ?_
  refine step_one 20 hlt rfl (fun _ h => ⟨h, h⟩) row0 row1 (cols 20 (by decide)) (fun h g => ⟨h, g⟩) (by decide) ?_
  refine step_word 21 rfl fun u hu => ?_
  refine step_chk ⟨chk_words (words_lt hlt hu), chk_words (words_lt hlt hu)⟩ (step_bias (step_noise ?_))
  have hc := cols 21 (by decide)
  refine step_chk ⟨chk_cols (by decide) (by decide) row0 hc, chk_cols (by decide) (by decide) row1 hc⟩ ?_
  exact step_put0 row0 hc (picked hu hlt _) (step_ret (H _ _ (picked hu hlt _)))

theorem run_part8 {Q : _ → sProp 𝕄} (hlt : ∀ i, (fI i).toNat < 1000) {v : Vec F S16 .f32} {h : k0_chk44 k0_pay1 k0_pay2 (k0_pay25 lanes)} (hv : (∀ x : S16.Idx, v x = nz (ix1 (voc (word fI (16 * 21 + (x 0).val))))))
    (H : Regs d L fI b nz 26 26 R ⊢ Q ⟨⟩) :
    Regs d L fI b nz 22 21 R ⊢ Wp d L (part8 (F := F) L v h) Q := by
  unfold part8 k0_part8_skel
  refine step_put1 row1 (cols 21 (by decide)) hv ?_
  refine step_one 22 hlt rfl (fun _ h => ⟨h, h⟩) row0 row1 (cols 22 (by decide)) (fun h g => ⟨h, g⟩) (by decide) ?_
  refine step_one 23 hlt rfl (fun _ h => ⟨h, h⟩) row0 row1 (cols 23 (by decide)) (fun h g => ⟨h, g⟩) (by decide) ?_
  refine step_one 24 hlt rfl (fun _ h => ⟨h, h⟩) row0 row1 (cols 24 (by decide)) (fun h g => ⟨h, g⟩) (by decide) ?_
  refine step_one 25 hlt rfl (fun _ h => ⟨h, h⟩) row0 row1 (cols 25 (by decide)) (fun h g => ⟨h, g⟩) (by decide) ?_
  exact step_ret H

theorem run_part9 {Q : _ → sProp 𝕄} (hlt : ∀ i, (fI i).toNat < 1000)
    (H : ∀ (v : Vec F S16 .i32) (h : k0_chk61 v) (w : Vec F S16 .f32), (∀ x : S16.Idx, v x = word fI (16 * 30 + (x 0).val)) → (∀ x : S16.Idx, w x = b (ix1 (voc (word fI (16 * 30 + (x 0).val))))) → Regs d L fI b nz 30 30 R ⊢ Q ⟨v, h, w⟩) :
    Regs d L fI b nz 26 26 R ⊢ Wp d L (part9 (F := F) L) Q := by
  unfold part9 k0_part9_skel
  refine step_one 26 hlt rfl (fun _ h => ⟨h, h⟩) row0 row1 (cols 26 (by decide)) (fun h g => ⟨h, g⟩) (by decide) ?_
  refine step_one 27 hlt rfl (fun _ h => ⟨h, h⟩) row0 row1 (cols 27 (by decide)) (fun h g => ⟨h, g⟩) (by decide) ?_
  refine step_one 28 hlt rfl (fun _ h => ⟨h, h⟩) row0 row1 (cols 28 (by decide)) (fun h g => ⟨h, g⟩) (by decide) ?_
  refine step_one 29 hlt rfl (fun _ h => ⟨h, h⟩) row0 row1 (cols 29 (by decide)) (fun h g => ⟨h, g⟩) (by decide) ?_
  refine step_word 30 rfl fun u hu => ?_
  exact step_chk ⟨chk_words (words_lt hlt hu), chk_words (words_lt hlt hu)⟩ (step_bias (step_ret (H _ _ _ hu (picked hu hlt _))))

/-- All of it: parts 3 to 9. -/
theorem run_middle {α : Type} {Q : α → sProp 𝕄} (hlt : ∀ i, (fI i).toNat < 1000) {v : Vec F S16 .i32} {h : k0_chk1 v} {w : Vec F S16 .f32}
    (hv : (∀ x : S16.Idx, v x = word fI (16 * 0 + (x 0).val))) (hw : (∀ x : S16.Idx, w x = b (ix1 (voc (word fI (16 * 0 + (x 0).val)))))) (k : (v : Vec F S16 .i32) → k0_chk61 v → Vec F S16 .f32 → sProp 𝕄)
    (H : ∀ (v : Vec F S16 .i32) (h : k0_chk61 v) (w : Vec F S16 .f32), (∀ x : S16.Idx, v x = word fI (16 * 30 + (x 0).val)) → (∀ x : S16.Idx, w x = b (ix1 (voc (word fI (16 * 30 + (x 0).val))))) → Regs d L fI b nz 30 30 R ⊢ k v h w) :
    Regs d L fI b nz 0 0 R ⊢ Wp d L (part3 (F := F) L v h w) fun r3 =>
      Wp d L (k0_part4_skel (F := F) L wV (Memref.isWhole_whole _) bV (Memref.isWhole_whole _) nV (Memref.isWhole_whole _) tV (Memref.isWhole_whole _) rV (Memref.isWhole_whole _) gV (Memref.isWhole_whole _) iS (Memref.isWhole_whole _) aS (Memref.isWhole_whole _) cS (Memref.isWhole_whole _) oS (Memref.isWhole_whole _) btS (Memref.isWhole_whole _) ntS (Memref.isWhole_whole _) cc0_scratch6 cc0_scratch7 cc0_scratch8 cc0_scratch9 cc0_scoped0 cc0_scoped1 cc0_scoped2 cc0_scoped3 cc0_scoped4 lanes k0_pay1 k0_pay2 r3.1 r3.2.1 r3.2.2) fun r4 =>
      Wp d L (k0_part5_skel (F := F) L wV (Memref.isWhole_whole _) bV (Memref.isWhole_whole _) nV (Memref.isWhole_whole _) tV (Memref.isWhole_whole _) rV (Memref.isWhole_whole _) gV (Memref.isWhole_whole _) iS (Memref.isWhole_whole _) aS (Memref.isWhole_whole _) cS (Memref.isWhole_whole _) oS (Memref.isWhole_whole _) btS (Memref.isWhole_whole _) ntS (Memref.isWhole_whole _) cc0_scratch6 cc0_scratch7 cc0_scratch8 cc0_scratch9 cc0_scoped0 cc0_scoped1 cc0_scoped2 cc0_scoped3 cc0_scoped4 lanes k0_pay1 k0_pay2 r4) fun r5 =>
      Wp d L (part6 (F := F) L r5) fun r6 =>
      Wp d L (k0_part7_skel (F := F) L wV (Memref.isWhole_whole _) bV (Memref.isWhole_whole _) nV (Memref.isWhole_whole _) tV (Memref.isWhole_whole _) rV (Memref.isWhole_whole _) gV (Memref.isWhole_whole _) iS (Memref.isWhole_whole _) aS (Memref.isWhole_whole _) cS (Memref.isWhole_whole _) oS (Memref.isWhole_whole _) btS (Memref.isWhole_whole _) ntS (Memref.isWhole_whole _) cc0_scratch6 cc0_scratch7 cc0_scratch8 cc0_scratch9 cc0_scoped0 cc0_scoped1 cc0_scoped2 cc0_scoped3 cc0_scoped4 lanes k0_pay1 k0_pay2 r6.1 r6.2.1 r6.2.2) fun r7 =>
      Wp d L (k0_part8_skel (F := F) L wV (Memref.isWhole_whole _) bV (Memref.isWhole_whole _) nV (Memref.isWhole_whole _) tV (Memref.isWhole_whole _) rV (Memref.isWhole_whole _) gV (Memref.isWhole_whole _) iS (Memref.isWhole_whole _) aS (Memref.isWhole_whole _) cS (Memref.isWhole_whole _) oS (Memref.isWhole_whole _) btS (Memref.isWhole_whole _) ntS (Memref.isWhole_whole _) cc0_scratch6 cc0_scratch7 cc0_scratch8 cc0_scratch9 cc0_scoped0 cc0_scoped1 cc0_scoped2 cc0_scoped3 cc0_scoped4 lanes k0_pay1 k0_pay2 r7.1 r7.2.1 r7.2.2) fun _ =>
      Wp d L (part9 (F := F) L) fun r9 => k r9.1 r9.2.1 r9.2.2 := by
  refine run_part3 hlt hv hw fun v w hv hw => ?_
  refine run_part4 hlt hv hw ?_
  refine run_part5 hlt fun v hv => ?_
  refine run_part6 hlt hv fun v w hv hw => ?_
  refine run_part7 hlt hv hw fun v h hv => ?_
  refine run_part8 hlt hv ?_
  exact run_part9 hlt fun v h w hv hw => H v h w hv hw

end Tile

end Cert.Proof.Nce

end
-- ==== Proof.Gather.lean ====
/-
  The gathers of a tile: starting one, and waiting for it. What lands in the row buffer is, at row `k`, the weight row
  that the `k`-th word of the index row names.
-/
module

public import proofs.«01_k».proof.Proof.Middle

@[expose] public section

noncomputable section

namespace Cert.Proof.Nce

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

section Tile

variable [FloatOps F] (d : Dev nD) (L : grid0.Coords)

/-- Row `o 0` of a tile's index words, as a list. -/
abbrev iRow (o : Fin 2 → ℕ) (inb : ∀ a, o a + S1x128.size a ≤ S4x128.size a) : Memref sig .scVector .vmem S128 .i32 :=
  ((iS).slice (Rect.unit (s := S4x128) o S1x128.size inb) (fun _ => rfl)).squeeze S128 squeezes_S1x128_S128
/-- The weight table, as the gathers name it. -/
abbrev wAll : Memref sig .scVector .hbm S1000x128 .f32 :=
  (wV).slice (Rect.unit (s := S1000x128) ![0, 0] S1000x128.size inb_S1000x128_S1000x128_0_0) (fun _ => rfl)

/-- The weight rows that row `g` of the index words names. -/
def gath (W : S1000x128.Idx → Elt F .f32) (fI : S4x128.Idx → BitVec 32) (g : Fin 4) : S128x128.Idx → Elt F .f32 :=
  fun i => W (ix2 (voc (fI (ix2 g (i 0)))) (i 1))

variable {d L}
variable {fI : S4x128.Idx → BitVec 32} {W : S1000x128.Idx → Elt F .f32}

/-- An element of an index row. -/
theorem iRow_emb {o : Fin 2 → ℕ} {inb : ∀ a, o a + S1x128.size a ≤ S4x128.size a} (g : Fin 4) (h0 : o 0 = g.val) (h1 : o 1 = 0) (x : S128.Idx) :
    (iRow o inb).view.emb x = (ix2 g (x 0) : S4x128.Idx) := by
  have e : Shape.reshapeEquiv squeezes_S1x128_S128.numel_eq x = (ix2 ⟨0, by decide⟩ (x 0) : S1x128.Idx) := by
    refine Shape.reshapeEquiv_eq_of_rowMajor _ ?_
    rw [Shape.rowMajor_val_one, Shape.rowMajor_val_two]
    show 0 * 128 + (x 0).val = (x 0).val
    omega
  show (Rect.unit (s := S4x128) o S1x128.size inb).emb (Shape.reshapeEquiv squeezes_S1x128_S128.numel_eq x) = _
  rw [e]
  refine ix2_eta _ _ _ ?_ ?_
  · show o 0 + 1 * 0 = g.val
    omega
  · show o 1 + 1 * (x 0).val = (x 0).val
    omega

omit [FloatOps F] in
theorem iRow_read {o : Fin 2 → ℕ} {inb : ∀ a, o a + S1x128.size a ≤ S4x128.size a} (g : Fin 4) (h0 : o 0 = g.val) (h1 : o 1 = 0) (x : S128.Idx) :
    (iRow o inb).view.read (Elt F) fI x = fI (ix2 g (x 0)) :=
  (View.read_apply _ _).trans ((cast_eq _ _).trans (congrArg fI (iRow_emb g h0 h1 x)))

omit [FloatOps F] in
theorem wAll_read (x : S1000x128.Idx) : (wAll).view.read (Elt F) W x = W x :=
  (View.read_apply _ _).trans ((cast_eq _ _).trans (congrArg W (by
    show (Rect.unit (s := S1000x128) ![0, 0] S1000x128.size inb_S1000x128_S1000x128_0_0).emb x = x
    refine (ix2_eta _ (x 0) (x 1) ?_ ?_).trans (ix2_eta _ _ _ rfl rfl).symm
    · show 0 + 1 * (x 0).val = _; omega
    · show 0 + 1 * (x 1).val = _; omega)))

theorem row_in {o : Fin 2 → ℕ} {inb : ∀ a, o a + S1x128.size a ≤ S4x128.size a} (g : Fin 4) (h0 : o 0 = g.val) (h1 : o 1 = 0)
    (hlt : ∀ i, (fI i).toNat < 1000) (x : S128.Idx) :
    ((iRow o inb).view.read (Elt F) fI x).toNat < S1000x128.size gathers_S1000x128_S128x128.axis := by
  rw [iRow_read g h0 h1]; exact hlt _

omit [FloatOps F] in
/-- What a gather over row `g` lands. -/
theorem gath_eq {o : Fin 2 → ℕ} {inb : ∀ a, o a + S1x128.size a ≤ S4x128.size a} (g : Fin 4) (h0 : o 0 = g.val) (h1 : o 1 = 0)
    (hlt : ∀ i, (fI i).toNat < 1000) (hin : ∀ x, ((iRow o inb).view.read (Elt F) fI x).toNat < S1000x128.size gathers_S1000x128_S128x128.axis) :
    SparseCore.gatherPayload (F := F) (e := .f32) gathers_S1000x128_S128x128 ((wAll).view.read (Elt F) W)
      (SparseCore.rows ((iRow o inb).view.read (Elt F) fI) rfl hin) = gath W fI g := by
  funext x
  unfold SparseCore.gatherPayload gath
  rw [wAll_read]
  refine congrArg W (ix2_eta _ _ _ ?_ ?_)
  · refine (congrArg Fin.val (Shape.Gathers.idx_axis gathers_S1000x128_S128x128 _ x)).trans ?_
    show ((iRow o inb).view.read (Elt F) fI (S128.rowMajor.symm _)).toNat = _
    rw [iRow_read g h0 h1, voc_val (hlt _)]
    refine congrArg (fun k => (fI (ix2 g k)).toNat) (Fin.ext ?_)
    have := Shape.rowMajor_val_one (S128.rowMajor.symm ((x 0).cast rfl))
    rw [Equiv.apply_symm_apply] at this
    exact this.symm
  · exact Shape.Gathers.idx_of_ne gathers_S1000x128_S128x128 _ x 1 (by decide)

variable (d L) in
/-- A gather under way: row `g` of the index words into `dst` over the semaphore `sem`, with what of the shares it does not use. -/
def Going (W : S1000x128.Idx → Elt F .f32) (fI : S4x128.Idx → BitVec 32) (g : Fin 4) (dst : Memref sig .scVector .vmem S128x128 .f32) (sem : DmaSem sig)
    (q qo : PosShare TreeShare) : sProp 𝕄 :=
  iprop(∃ (o : Fin 2 → ℕ) (inb : ∀ a, o a + S1x128.size a ≤ S4x128.size a) (f : Buf (Elt F) (dst.view.loc (V (nD := nD) d (cV L) (jV L)))),
    Transfers.Flight countersEmb (V (nD := nD) d (cV L) (jV L)) (.dma sem) (default : HIx 1) dst.view.dmaCredit
      iprop((dst.view.loc (V (nD := nD) d (cV L) (jV L)) ↦[dst.view.set]{fullShare} (dst.view.write (Elt F) f (gath W fI g) Finset.univ))
        ∗ ((wAll).view.loc (V (nD := nD) d (cV L) (jV L)) ↦[(wAll).view.set]{q} W)
        ∗ ((iRow o inb).view.loc (V (nD := nD) d (cV L) (jV L)) ↦[(iRow o inb).view.set]{qo} fI))
    ∗ ((wV).view.loc (V (nD := nD) d (cV L) (jV L)) ↦[Finset.univ \ (wAll).view.set]{q} W)
    ∗ ((iS).view.loc (V (nD := nD) d (cV L) (jV L)) ↦[Finset.univ \ (iRow o inb).view.set]{qo} fI))

set_option maxHeartbeats 4000000 in
/-- STARTING A GATHER. -/
theorem gather_start {α : Type} {Q : α → sProp 𝕄} {dst : Memref sig .scVector .vmem S128x128 .f32} {sem : DmaSem sig} {q qo : PosShare TreeShare}
    {o : Fin 2 → ℕ} {inb : ∀ a, o a + S1x128.size a ≤ S4x128.size a} (g : Fin 4) (h0 : o 0 = g.val) (h1 : o 1 = 0)
    (hlt : ∀ i, (fI i).toNat < 1000) {f : Buf (Elt F) (dst.view.loc (V (nD := nD) d (cV L) (jV L)))}
    (hN : ∑ j, (dst.slice (S128x128.rowRect (gathers_S1000x128_S128x128).axis' j) (S128x128.stride_rowRect (gathers_S1000x128_S128x128).axis' j)).view.dmaCredit
      = dst.view.dmaCredit)
    {hp : (V (nD := nD) d (cV L) (jV L)).2.kind = .scVector} {hn : S128.numel = S128x128.size (gathers_S1000x128_S128x128).axis'} {hsrc : (wAll).view.WordExact} {he : EltTy.f32.bits = 32} {hsp : Space.hbm = .hbm ∨ Space.hbm = .shared} {hr : S1000x128.StreamRows 0}
    {k : PUnit → Prog (TpuEff nD τ sig (Elt F) Λ₀ (V (nD := nD) d (cV L) (jV L)).2) α} :
    iprop(((wV).view.loc (V (nD := nD) d (cV L) (jV L)) ↦{q} W)
      ∗ (dst.view.loc (V (nD := nD) d (cV L) (jV L)) ↦[dst.view.set]{fullShare} f)
      ∗ ((iS).view.loc (V (nD := nD) d (cV L) (jV L)) ↦{qo} fI)
      ∗ semVal (V (nD := nD) d (cV L) (jV L), SemLoc.dma sem) 0)
    ⊢ iprop((Going d L W fI g dst sem q qo -∗ Wp d L (k ⟨⟩) Q)
        -∗ Wp d L (SparseCore.enqueueIndirectGather (p := (V (nD := nD) d (cV L) (jV L)).2) hp wAll dst gathers_S1000x128_S128x128 (iRow o inb) hn sem hsrc he hsp hr >>= k) Q) := by
  unfold Wp
  iintro ⟨Hw, Hd, Hi, Hs⟩ Hk
  ihave Hw' := (pointsTo_split_subset (q := q) (f := W) (S := Finset.univ) (Finset.subset_univ (wAll).view.set)).1 $$ Hw
  icases Hw' with ⟨Hws, Hwr⟩
  ihave Hi' := (pointsTo_split_subset (q := qo) (f := fI) (S := Finset.univ) (Finset.subset_univ (iRow o inb).view.set)).1 $$ Hi
  icases Hi' with ⟨His, Hir⟩
  iapply (SparseCore.wp_indirectGatherLocal countersEmb 𝒱₀ (V d (cV L) (jV L)) none (hg := gathers_S1000x128_S128x128) (default : HIx 1)
      dst.view.dmaCredit hN (by decide) (row_in g h0 h1 hlt)) $$ [Hws Hd His Hs]
  · isplitl [Hws]; · iexact Hws
    isplitl [Hd]; · iexact Hd
    isplitl [His]; · iexact His
    iexact Hs
  iintro Hfl
  rw [gath_eq g h0 h1 hlt]
  iapply Hk
  unfold Going
  iexists o
  iexists inb
  iexists f
  isplitl [Hfl]; · iexact Hfl
  isplitl [Hwr]; · iexact Hwr
  iexact Hir

/-- WAITING FOR ONE. -/
theorem gather_wait {α : Type} {Q : α → sProp 𝕄} {dst : Memref sig .scVector .vmem S128x128 .f32} {sem : DmaSem sig} {q qo : PosShare TreeShare}
    {g : Fin 4} {hsrc : (wAll).view.WordExact} {hdst : dst.view.WordExact}
    {O : CellTallies nD τ sig (HIx 1)} {Ws : Waits sig (HIx 1)}
    {k : PUnit → Prog (TpuEff nD τ sig (Elt F) Λ₀ (V (nD := nD) d (cV L) (jV L)).2) α} :
    iprop(Going d L W fI g dst sem q qo ∗ owes (V (nD := nD) d (cV L) (jV L)) O Ws ∗ Transfers.MayWaits (V (nD := nD) d (cV L) (jV L)) (default : HIx 1) O)
    ⊢ iprop((iprop((∃ f, dst.view.loc (V (nD := nD) d (cV L) (jV L)) ↦[dst.view.set]{fullShare} (dst.view.write (Elt F) f (gath W fI g) Finset.univ))
          ∗ ((wV).view.loc (V (nD := nD) d (cV L) (jV L)) ↦{q} W)
          ∗ ((iS).view.loc (V (nD := nD) d (cV L) (jV L)) ↦{qo} fI)
          ∗ semVal (V (nD := nD) d (cV L) (jV L), SemLoc.dma sem) 0
          ∗ owes (V (nD := nD) d (cV L) (jV L)) O (insert (SemLoc.dma sem, (default : HIx 1)) Ws)) -∗ Wp d L (k ⟨⟩) Q)
        -∗ Wp d L (.op (.waitDma2 sem wAll dst hsrc hdst) k) Q) := by
  unfold Going
  iintro ⟨⟨%o, %inb, %f, Hfl, Hwr, Hir⟩, HO, #Hmw⟩ Hk
  iapply (Transfers.wp_waitLocalO countersEmb 𝒱₀ (V d (cV L) (jV L)) none (default : HIx 1) (rfl : dst.view.dmaCredit = _)) $$ [Hfl HO]
  · isplitl [Hfl]; · iexact Hfl
    isplitl [HO]; · iexact HO
    iapply (Transfers.MayWaits.elim (SemLoc.dma sem)) $$ Hmw
  iintro ⟨⟨Hd, Hws, His⟩, Hs, HO⟩
  iapply Hk
  isplitl [Hd]; · iexists f; iexact Hd
  isplitl [Hws Hwr]
  · iapply (pointsTo_split_subset (q := q) (f := W) (S := Finset.univ) (Finset.subset_univ (wAll).view.set)).2
    isplitl [Hws] <;> iassumption
  isplitl [His Hir]
  · iapply (pointsTo_split_subset (q := qo) (f := fI) (S := Finset.univ) (Finset.subset_univ (iRow o inb).view.set)).2
    isplitl [His] <;> iassumption
  isplitl [Hs] <;> iassumption

/-- The wait as the program spells it. -/
theorem gather_wait_bind {α : Type} {Q : α → sProp 𝕄} {dst : Memref sig .scVector .vmem S128x128 .f32} {sem : DmaSem sig} {q qo : PosShare TreeShare}
    {g : Fin 4} {hsrc : (wAll).view.WordExact} {hdst : dst.view.WordExact}
    {O : CellTallies nD τ sig (HIx 1)} {Ws : Waits sig (HIx 1)}
    {k : PUnit → Prog (TpuEff nD τ sig (Elt F) Λ₀ (V (nD := nD) d (cV L) (jV L)).2) α} :
    iprop(Going d L W fI g dst sem q qo ∗ owes (V (nD := nD) d (cV L) (jV L)) O Ws ∗ Transfers.MayWaits (V (nD := nD) d (cV L) (jV L)) (default : HIx 1) O)
    ⊢ iprop((iprop((∃ f, dst.view.loc (V (nD := nD) d (cV L) (jV L)) ↦[dst.view.set]{fullShare} (dst.view.write (Elt F) f (gath W fI g) Finset.univ))
          ∗ ((wV).view.loc (V (nD := nD) d (cV L) (jV L)) ↦{q} W)
          ∗ ((iS).view.loc (V (nD := nD) d (cV L) (jV L)) ↦{qo} fI)
          ∗ semVal (V (nD := nD) d (cV L) (jV L), SemLoc.dma sem) 0
          ∗ owes (V (nD := nD) d (cV L) (jV L)) O (insert (SemLoc.dma sem, (default : HIx 1)) Ws)) -∗ Wp d L (k ⟨⟩) Q)
        -∗ Wp d L (SparseCore.waitIndirectGather (p := (V (nD := nD) d (cV L) (jV L)).2) sem wAll dst hsrc hdst >>= k) Q) := gather_wait

end Tile

end Cert.Proof.Nce

end
-- ==== Proof.Front.lean ====
/-
  The front of the SparseCore kernel: a tile's four rows of index words and its two tables fetched, and the first
  gather of weight rows started.
-/
module

public import proofs.«01_k».proof.Proof.Gather

@[expose] public section

noncomputable section

namespace Cert.Proof.Nce

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

section Tile

variable [FloatOps F] (d : Dev nD) (L : grid0.Coords)

/-- A stretch of the targets, as the fetches name it. -/
abbrev tWin (c : BitVec 32) (inb : ∀ a, k0_off1 L c a + S128.size a ≤ S16384.size a) : Memref sig .scVector .hbm S128 .i32 :=
  (tV).slice (Rect.unit (s := S16384) (k0_off1 L c) S128.size inb) (fun _ => rfl)

theorem tile_lt (i : S4x128.Idx) : 1024 * (L 1).val + 512 * (L 0).val + 128 * (i 0).val + (i 1).val < 16384 := by
  have h1 : (L 1).val < 16 := (L 1).isLt
  have h0 : (L 0).val < 2 := (L 0).isLt
  have h2 : (i 0).val < 4 := (i 0).isLt
  have h3 : (i 1).val < 128 := (i 1).isLt
  omega

/-- The tile's own 512 targets, as four rows. -/
def tRows (t : S16384.Idx → BitVec 32) : S4x128.Idx → BitVec 32 :=
  fun i => t (ix1 ⟨1024 * (L 1).val + 512 * (L 0).val + 128 * (i 0).val + (i 1).val, tile_lt L i⟩)

variable {d L}

omit [FloatOps F] in
theorem tWin_read {t : S16384.Idx → BitVec 32} (g : Fin 4) {inb : ∀ a, k0_off1 L (BitVec.ofNat 32 (128 * g.val)) a + S128.size a ≤ S16384.size a} (x : S128.Idx) :
    (tWin L (BitVec.ofNat 32 (128 * g.val)) inb).view.read (Elt F) t x = tRows L t (ix2 g (x 0)) := by
  refine (View.read_apply _ _).trans ((cast_eq _ _).trans (congrArg t (ix1_eta _ _ ?_)))
  show k0_off1 L (BitVec.ofNat 32 (128 * g.val)) 0 + 1 * (x 0).val = _
  rw [k0_off1_eq L g]
  show 1024 * (L 1).val + 512 * (L 0).val + 128 * g.val + 1 * (x 0).val = 1024 * (L 1).val + 512 * (L 0).val + 128 * g.val + (x 0).val
  omega

omit [FloatOps F] in
/-- Writing one index row. -/
theorem iRow_write {o : Fin 2 → ℕ} {inb : ∀ a, o a + S1x128.size a ≤ S4x128.size a} (g : Fin 4) (h0 : o 0 = g.val) (h1 : o 1 = 0)
    (f : S4x128.Idx → BitVec 32) (w : S128.Idx → BitVec 32) (i : S4x128.Idx) :
    (iRow o inb).view.write (Elt F) f w Finset.univ i = if (i 0).val = g.val then w (ix1 (i 1)) else f i := by
  split
  · rename_i h
    have e : i = (iRow o inb).view.emb (ix1 (i 1)) := (ix2_eta i g (i 1) h rfl).trans (iRow_emb g h0 h1 (ix1 (i 1))).symm
    exact (congrArg _ e).trans ((View.write_emb_of_mem _ _ (Finset.mem_univ _)).trans (cast_eq _ _))
  · rename_i h
    refine View.write_of_not_mem _ _ _ fun hm => h ?_
    obtain ⟨x, -, rfl⟩ := Finset.mem_map.mp hm
    have e : (iRow o inb).view.emb x = (ix2 g (x 0) : S4x128.Idx) := iRow_emb g h0 h1 x
    exact congrArg (fun z : S4x128.Idx => (z 0).val) e

omit [FloatOps F] in
/-- The four fetched rows are the tile's targets. -/
theorem rows_landed {t : S16384.Idx → BitVec 32} (fi : S4x128.Idx → BitVec 32) (w0 w1 w2 w3 : S128.Idx → BitVec 32)
    (h0 : w0 = (tWin L 0#32 (k0_off1_inb L 0)).view.read (Elt F) t) (h1 : w1 = (tWin L 128#32 (k0_off1_inb L 1)).view.read (Elt F) t)
    (h2 : w2 = (tWin L 256#32 (k0_off1_inb L 2)).view.read (Elt F) t) (h3 : w3 = (tWin L 384#32 (k0_off1_inb L 3)).view.read (Elt F) t) :
    (iRow ![3, 0] inb_S4x128_S1x128_3_0).view.write (Elt F) ((iRow ![2, 0] inb_S4x128_S1x128_2_0).view.write (Elt F)
      ((iRow ![1, 0] inb_S4x128_S1x128_1_0).view.write (Elt F) ((iRow ![0, 0] inb_S4x128_S1x128_0_0).view.write (Elt F) fi w0 Finset.univ) w1 Finset.univ)
      w2 Finset.univ) w3 Finset.univ = tRows L t := by
  have r0 : ∀ x, w0 x = tRows L t (ix2 0 (x 0)) := fun x => h0 ▸ tWin_read 0 x
  have r1 : ∀ x, w1 x = tRows L t (ix2 1 (x 0)) := fun x => h1 ▸ tWin_read 1 x
  have r2 : ∀ x, w2 x = tRows L t (ix2 2 (x 0)) := fun x => h2 ▸ tWin_read 2 x
  have r3 : ∀ x, w3 x = tRows L t (ix2 3 (x 0)) := fun x => h3 ▸ tWin_read 3 x
  funext i
  rw [iRow_write 3 rfl rfl, iRow_write 2 rfl rfl, iRow_write 1 rfl rfl, iRow_write 0 rfl rfl, r0, r1, r2, r3]
  have hi : (i 0).val < 4 := (i 0).isLt
  have e : ∀ g : Fin 4, (i 0).val = g.val → tRows L t (ix2 g (i 1)) = tRows L t i := fun g h => congrArg _ (ix2_eta i g (i 1) h rfl).symm
  split
  · exact e 3 ‹_›
  split
  · exact e 2 ‹_›
  split
  · exact e 1 ‹_›
  split
  · exact e 0 ‹_›
  · exfalso
    have a0 : (i 0).val ≠ 0 := ‹_›
    have a1 : (i 0).val ≠ 1 := ‹_›
    have a2 : (i 0).val ≠ 2 := ‹_›
    have a3 : (i 0).val ≠ 3 := ‹_›
    omega

variable (d L) in
/-- The tile's four stretches of the targets. -/
def Targets (t : S16384.Idx → BitVec 32) : sProp 𝕄 :=
  iprop(((tWin L 0#32 (k0_off1_inb L 0)).view.loc (V (nD := nD) d (cV L) (jV L)) ↦[(tWin L 0#32 (k0_off1_inb L 0)).view.set]{fullShare} t)
     ∗ ((tWin L 128#32 (k0_off1_inb L 1)).view.loc (V (nD := nD) d (cV L) (jV L)) ↦[(tWin L 128#32 (k0_off1_inb L 1)).view.set]{fullShare} t)
     ∗ ((tWin L 256#32 (k0_off1_inb L 2)).view.loc (V (nD := nD) d (cV L) (jV L)) ↦[(tWin L 256#32 (k0_off1_inb L 2)).view.set]{fullShare} t)
     ∗ ((tWin L 384#32 (k0_off1_inb L 3)).view.loc (V (nD := nD) d (cV L) (jV L)) ↦[(tWin L 384#32 (k0_off1_inb L 3)).view.set]{fullShare} t))

variable (d L) in
/-- What else a tile holds in the middle: the first gather under way, the shares it does not use, the fetches' sources
    and semaphores back, and `R`. -/
def Rest (W : S1000x128.Idx → Elt F .f32) (t : S16384.Idx → BitVec 32) (b nz : S1000.Idx → Elt F .f32) (qw qb qn : PosShare TreeShare)
    (O : CellTallies nD τ sig (HIx 1)) (Ws : Waits sig (HIx 1)) (R : sProp 𝕄) : sProp 𝕄 :=
  iprop(Going d L W (tRows L t) 0 aS cc0_scratch8.sem qw.left fullShare.right.left
     ∗ ((wV).view.loc (V (nD := nD) d (cV L) (jV L)) ↦{qw.right} W)
     ∗ ((iS).view.loc (V (nD := nD) d (cV L) (jV L)) ↦{fullShare.right.right} tRows L t)
     ∗ Targets d L t
     ∗ ((bV).view.loc (V (nD := nD) d (cV L) (jV L)) ↦{qb} b)
     ∗ ((nV).view.loc (V (nD := nD) d (cV L) (jV L)) ↦{qn} nz)
     ∗ semVal (V (nD := nD) d (cV L) (jV L), SemLoc.dma cc0_scratch6.sem) 0
     ∗ semVal (V (nD := nD) d (cV L) (jV L), SemLoc.dma cc0_scratch7.sem) 0
     ∗ (∃ W', ⌜∀ p ∈ W', p ∈ Ws ∨ p.2 = none⌝ ∗ owes (V (nD := nD) d (cV L) (jV L)) O W')
     ∗ Transfers.MayWaits (V d (cV L) (jV L)) (default : HIx 1) O
     ∗ R)

set_option maxHeartbeats 4000000 in
theorem run_front {Q : BitVec 32 → _ → sProp 𝕄} {R : sProp 𝕄} {W : S1000x128.Idx → Elt F .f32} {t : S16384.Idx → BitVec 32} {b nz : S1000.Idx → Elt F .f32}
   (hlt : ∀ i, (t i).toNat < 1000) {qw qb qn : PosShare TreeShare}
   {O : CellTallies nD τ sig (HIx 1)} {Ws : Waits sig (HIx 1)}
   (plan : Transfers.BatchOf (V (nD := nD) d (cV L) (jV L)) (SemLoc.dma (sig := sig) cc0_scratch6.sem) 4 (windows := true))
   (plan2 : Transfers.BatchOf (V (nD := nD) d (cV L) (jV L)) (SemLoc.dma (sig := sig) cc0_scratch7.sem) 2)
   (H : ∀ (z : BitVec 32) (v : Vec F S16 .i32) (h : k0_chk1 v) (w : Vec F S16 .f32), (∀ x : S16.Idx, v x = word (tRows L t) (16 * 0 + (x 0).val)) →
     (∀ x : S16.Idx, w x = b (ix1 (voc (word (tRows L t) (16 * 0 + (x 0).val))))) →
     Regs d L (tRows L t) b nz 0 0 (Rest d L W t b nz qw qb qn O Ws R) ⊢ Q z ⟨lanes, k0_pay1, k0_pay2, v, h, w⟩) :
   iprop((∃ fi, (iS).view.loc (V (nD := nD) d (cV L) (jV L)) ↦{fullShare} fi)
     ∗ Targets d L t
     ∗ ((wV).view.loc (V (nD := nD) d (cV L) (jV L)) ↦{qw} W)
     ∗ ((bV).view.loc (V (nD := nD) d (cV L) (jV L)) ↦{qb} b)
     ∗ ((nV).view.loc (V (nD := nD) d (cV L) (jV L)) ↦{qn} nz)
     ∗ (∃ f, (aS).view.loc (V (nD := nD) d (cV L) (jV L)) ↦{fullShare} f)
     ∗ (∃ f, (oS).view.loc (V (nD := nD) d (cV L) (jV L)) ↦{fullShare} f)
     ∗ (∃ f, (btS).view.loc (V (nD := nD) d (cV L) (jV L)) ↦{fullShare} f)
     ∗ (∃ f, (ntS).view.loc (V (nD := nD) d (cV L) (jV L)) ↦{fullShare} f)
     ∗ semVal (V (nD := nD) d (cV L) (jV L), SemLoc.dma cc0_scratch6.sem) 0
     ∗ semVal (V (nD := nD) d (cV L) (jV L), SemLoc.dma cc0_scratch7.sem) 0
     ∗ semVal (V (nD := nD) d (cV L) (jV L), SemLoc.dma cc0_scratch8.sem) 0
     ∗ owes (V (nD := nD) d (cV L) (jV L)) O Ws ∗ Transfers.MayWaits (V d (cV L) (jV L)) (default : HIx 1) O
     ∗ R)
   ⊢ Wp d L (part1 (F := F) L) fun z => Wp d L (part2 (F := F) L) (Q z) := by
  have hlt' : ∀ i, (tRows L t i).toNat < 1000 := fun i => hlt _
  unfold Wp part1 part2 k0_part1_skel Targets
  iintro ⟨⟨%fi, Hi⟩, ⟨Ht0, Ht1, Ht2, Ht3⟩, Hw, Hb, Hn, ⟨%fa, Ha⟩, Ho, ⟨%f1, Hbt⟩, ⟨%f2, Hnt⟩, Hs0, Hs1, Hs2, HO, #Hmw, HR⟩
  sl_exec
  ihave Hi0 := (Entails.of_eq (congrArg (fun z => ((iS).view.loc (V (nD := nD) d (cV L) (jV L)) ↦{fullShare} z : sProp 𝕄))
    (rows_landed (F := F) (L := L) (t := t) fi (run_front.sl.dma0 (F := F) (L := L) (t := t)) (run_front.sl.dma1 (F := F) (L := L) (t := t))
      (run_front.sl.dma2 (F := F) (L := L) (t := t)) (run_front.sl.dma3 (F := F) (L := L) (t := t)) rfl rfl rfl rfl))) $$ Hi
  ihave Hi' := (pointsTo_share (PosShare.mem_left_op_right fullShare)).1 $$ Hi0
  icases Hi' with ⟨Hi, Hi'⟩
  ihave Hi'' := (pointsTo_share (PosShare.mem_left_op_right fullShare.right)).1 $$ Hi'
  icases Hi'' with ⟨Hi1, Hi2⟩
  ihave Hw' := (pointsTo_share (PosShare.mem_left_op_right qw)).1 $$ Hw
  icases Hw' with ⟨Hw1, Hw2⟩
  ihave Ha' := (Entails.of_eq (show ((aS).view.loc (V (nD := nD) d (cV L) (jV L)) ↦{fullShare} fa : sProp 𝕄)
      = (aS).view.loc (V (nD := nD) d (cV L) (jV L)) ↦[(aS).view.set]{fullShare} fa by rw [show (aS).view.set = Finset.univ from View.set_whole _])) $$ Ha
  iapply (gather_start (dst := aS) (sem := cc0_scratch8.sem) 0 rfl rfl hlt' (by decide)) $$ [Hw1 Ha' Hi1 Hs2]
  · isplitl [Hw1]; · iexact Hw1
    isplitl [Ha']; · iexact Ha'
    isplitl [Hi1]; · iexact Hi1
    iexact Hs2
  iintro Hgo
  unfold Wp
  sl_exec
  have hv : ∀ x : S16.Idx, run_front.sl.v63 (F := F) (L := L) (t := t) x = word (tRows L t) (16 * 0 + (x 0).val) := word_read (j := 0) rfl
  have hk : k0_chk1 (run_front.sl.v63 (F := F) (L := L) (t := t)) := ⟨chk_words (words_lt hlt' hv), chk_words (words_lt hlt' hv)⟩
  have fin : Regs d L (tRows L t) b nz 0 0 (Rest d L W t b nz qw qb qn O Ws R)
      ⊢ Wp d L (Prog.lift (.assume (k0_chk1 (run_front.sl.v63 (F := F) (L := L) (t := t))) (k0_chk1.dec _)) >>= fun q =>
          SparseCore.vectorLoadIdx btS ![run_front.sl.v63 (F := F) (L := L) (t := t)] (k0_idx1_inb _ q.down) (View.loads_vmem h_S1000) >>= fun w =>
            pure ⟨lanes, k0_pay1, k0_pay2, _, q.down, w⟩) (Q (run_front.sl.v2 (L := L))) :=
    step_chk hk (step_bias (step_ret (H _ _ _ _ hv (picked hv hlt' _))))
  ihave Hbt' := (Entails.of_eq (congrArg (fun z => ((btS).view.loc (V (nD := nD) d (cV L) (jV L)) ↦{fullShare} z : sProp 𝕄))
    (show View.write (Elt F) (btS).view f1 (run_front.sl.dma4 (F := F) (b := b)) Finset.univ = b from View.write_whole_univ (Val := Elt F) cc0_scratch4 f1 _))) $$ Hbt
  ihave Hnt' := (Entails.of_eq (congrArg (fun z => ((ntS).view.loc (V (nD := nD) d (cV L) (jV L)) ↦{fullShare} z : sProp 𝕄))
    (show View.write (Elt F) (ntS).view f2 (run_front.sl.dma5 (F := F) (nz := nz)) Finset.univ = nz from View.write_whole_univ (Val := Elt F) cc0_scratch5 f2 _))) $$ Hnt
  icases Ho with ⟨%fo, Ho⟩
  iapply fin
  unfold Regs Rest Targets
  isplitl [Hi]; · iexact Hi
  isplitl [Hbt']; · iexact Hbt'
  isplitl [Hnt']; · iexact Hnt'
  isplitl [Ho]
  · iexists fo
    isplitr
    · ipureintro; exact ⟨filled_zero _ _ _ _, filled_zero _ _ _ _⟩
    · iexact Ho
  isplitl [Hgo]; · iexact Hgo
  isplitl [Hw2]; · iexact Hw2
  isplitl [Hi2]; · iexact Hi2
  isplitl [Ht0 Ht1 Ht2 Ht3]
  · isplitl [Ht0]; · iexact Ht0
    isplitl [Ht1]; · iexact Ht1
    isplitl [Ht2]; · iexact Ht2
    iexact Ht3
  isplitl [Hb]; · iexact Hb
  isplitl [Hn]; · iexact Hn
  isplitl [Hs0]; · iexact Hs0
  isplitl [Hs1]; · iexact Hs1
  isplitl [HO]
  · iexists _; isplitr
    swap; · iexact HO
    ipureintro; intro p hp
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    exact .inl hp
  isplitr [HR]; · iexact Hmw
  iexact HR

end Tile

end Cert.Proof.Nce

end
-- ==== Proof.Back.lean ====
/-
  The back of the SparseCore kernel: the last two steps of the middle, the three other gathers, and the copies of the
  gathered rows and of the small array out to the tile's windows of the two results.
-/
module

public import proofs.«01_k».proof.Proof.Front

@[expose] public section

noncomputable section

namespace Cert.Proof.Nce

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

section Tile

variable [FloatOps F] (d : Dev nD) (L : grid0.Coords)

/-- A tile's windows of the two results. -/
abbrev rWin (c : BitVec 32) (inb : ∀ a, k0_off2 L c a + S128x128.size a ≤ S16384x128.size a) : Memref sig .scVector .hbm S128x128 .f32 :=
  (rV).slice (Rect.unit (s := S16384x128) (k0_off2 L c) S128x128.size inb) (fun _ => rfl)
abbrev gWin : Memref sig .scVector .hbm S8x512 .f32 :=
  (gV).slice (Rect.unit (s := S8x16384) (k0_off3 L) S8x512.size (k0_off3_inb L)) (fun _ => rfl)

/-- The program's tail, after its parts. -/
abbrev tail : Prog (TpuEff nD τ sig (Elt F) Λ₀ (.scVector ((L 0).castLE hcore0) ((L 1).castLE hsub0))) PUnit := do
  Prog.lift (.waitDma2 cc0_scoped3.sem cS (rWin L 384#32 (k0_off2_inb L 3)) (Memref.isWhole_whole cc0_scratch2).wordExact (View.wordExact_bits rfl))
  Prog.lift (.enqueueDma oS (.here (gWin L)) (.dma cc0_scoped4.sem) (Memref.isWhole_whole cc0_scratch3).wordExact (View.wordExact_bits rfl) ⟨Or.inl rfl, trivial⟩)
  Prog.lift (.waitDma2 cc0_scoped4.sem oS (gWin L) (Memref.isWhole_whole cc0_scratch3).wordExact (View.wordExact_bits rfl))
  pure ⟨⟩

variable {d L}

omit [FloatOps F] in
theorem landA (f w : S128x128.Idx → Elt F .f32) :
    ((aS).view.loc (V (nD := nD) d (cV L) (jV L)) ↦[(aS).view.set]{fullShare} ((aS).view.write (Elt F) f w Finset.univ) : sProp 𝕄)
      = (aS).view.loc (V (nD := nD) d (cV L) (jV L)) ↦{fullShare} w := by
  rw [show (aS).view.set = Finset.univ from View.set_whole _, show (aS).view.write (Elt F) f w Finset.univ = w from View.write_whole_univ (Val := Elt F) cc0_scratch1 f w]
omit [FloatOps F] in
theorem landC (f w : S128x128.Idx → Elt F .f32) :
    ((cS).view.loc (V (nD := nD) d (cV L) (jV L)) ↦[(cS).view.set]{fullShare} ((cS).view.write (Elt F) f w Finset.univ) : sProp 𝕄)
      = (cS).view.loc (V (nD := nD) d (cV L) (jV L)) ↦{fullShare} w := by
  rw [show (cS).view.set = Finset.univ from View.set_whole _, show (cS).view.write (Elt F) f w Finset.univ = w from View.write_whole_univ (Val := Elt F) cc0_scratch2 f w]

omit [FloatOps F] in
/-- What a copy of gathered rows leaves in its window. -/
theorem out_landed {W : S1000x128.Idx → Elt F .f32} {t : S16384.Idx → BitVec 32} (g : Fin 4)
    {inb : ∀ a, k0_off2 L (BitVec.ofNat 32 (128 * g.val)) a + S128x128.size a ≤ S16384x128.size a} (f : S16384x128.Idx → Elt F .f32) (w : S128x128.Idx → Elt F .f32)
    (hw : w = gath W (tRows L t) g) :
    ((rWin L (BitVec.ofNat 32 (128 * g.val)) inb).view.loc (V (nD := nD) d (cV L) (jV L))
        ↦[(rWin L (BitVec.ofNat 32 (128 * g.val)) inb).view.set]{fullShare} ((rWin L (BitVec.ofNat 32 (128 * g.val)) inb).view.writes (Elt F) f [⟨Rect.whole S128x128, w⟩]) : sProp 𝕄)
      ⊢ (rWin L (BitVec.ofNat 32 (128 * g.val)) inb).view.loc (V (nD := nD) d (cV L) (jV L))
        ↦[(rWin L (BitVec.ofNat 32 (128 * g.val)) inb).view.set]{fullShare} gWr W t := by
  subst hw
  rw [← View.write_univ_eq_writes_whole, View.writes_nil]
  refine Entails.of_eq (pointsTo_congr fun i hi => ?_)
  obtain ⟨x, -, rfl⟩ := Finset.mem_map.mp hi
  refine (View.write_emb_of_mem _ _ (Finset.mem_univ _)).trans ((cast_eq _ _).trans ?_)
  unfold gath gWr tRows
  have e0 : ((rWin L (BitVec.ofNat 32 (128 * g.val)) inb).view.emb x 0).val = 1024 * (L 1).val + 512 * (L 0).val + 128 * g.val + (x 0).val := by
    show k0_off2 L (BitVec.ofNat 32 (128 * g.val)) 0 + 1 * (x 0).val = _
    rw [k0_off2_eq L g]
    show 1024 * (L 1).val + 512 * (L 0).val + 128 * g.val + 1 * (x 0).val = _
    omega
  have e1 : ((rWin L (BitVec.ofNat 32 (128 * g.val)) inb).view.emb x 1).val = (x 1).val := by
    show k0_off2 L (BitVec.ofNat 32 (128 * g.val)) 1 + 1 * (x 1).val = _
    rw [k0_off2_eq L g]
    show 0 + 1 * (x 1).val = _
    omega
  refine congrArg W (ix2_eta _ _ _ ?_ e1.symm)
  show (voc (t (ix1 _))).val = (voc (t (ix1 _))).val
  refine congrArg (fun k => (voc (t (ix1 k))).val) (Fin.ext ?_)
  exact e0.symm

omit [FloatOps F] in
/-- A word of the tile's rows, by its number. -/
theorem word_tRows {t : S16384.Idx → BitVec 32} (n : Fin 512) (k : Fin 16384) (h : k.val = 1024 * (L 1).val + 512 * (L 0).val + n.val) :
    word (tRows L t) n.val = t (ix1 k) := by
  unfold word tRows
  refine congrArg (fun k => t (ix1 k)) (Fin.ext ?_)
  show 1024 * (L 1).val + 512 * (L 0).val + 128 * (n.val / 128 % 4) + n.val % 128 = k.val
  have := n.isLt
  omega

omit [FloatOps F] in
/-- What the copy of the small array leaves in its window. -/
theorem small_landed {b nz : S1000.Idx → Elt F .f32} {t : S16384.Idx → BitVec 32} {f : S8x16384.Idx → Elt F .f32} {w : S8x512.Idx → Elt F .f32}
    (h0 : Filled b (tRows L t) 0 (16 * 32) w) (h1 : Filled nz (tRows L t) 1 (16 * 32) w) :
    BnOK b nz t (gWin L).view.set ((gWin L).view.writes (Elt F) f [⟨Rect.whole S8x512, w⟩]) := by
  rw [← View.write_univ_eq_writes_whole, View.writes_nil]
  intro i hi
  obtain ⟨x, -, rfl⟩ := Finset.mem_map.mp hi
  have hx : (x 1).val < 512 := (x 1).isLt
  have hx0 : (x 0).val < 8 := (x 0).isLt
  have e0 : ((gWin L).view.emb x 0).val = (x 0).val := by
    show k0_off3 L 0 + 1 * (x 0).val = _
    rw [k0_off3_eq L]
    show 0 + 1 * (x 0).val = _
    omega
  have e1 : ((gWin L).view.emb x 1).val = 1024 * (L 1).val + 512 * (L 0).val + (x 1).val := by
    show k0_off3 L 1 + 1 * (x 1).val = _
    rw [k0_off3_eq L]
    show 1024 * (L 1).val + 512 * (L 0).val + 1 * (x 1).val = _
    omega
  have ew : (gWin L).view.write (Elt F) f w Finset.univ ((gWin L).view.emb x) = w x :=
    (View.write_emb_of_mem _ _ (Finset.mem_univ _)).trans (cast_eq _ _)
  have et := word_tRows (L := L) (t := t) ⟨(x 1).val, hx⟩ ((gWin L).view.emb x 1) e1
  constructor
  · intro h
    exact ew.trans ((h0 x (e0.symm.trans h) (by omega)).trans (congrArg (fun z => b (ix1 (voc z))) et))
  · intro h
    exact ew.trans ((h1 x (e0.symm.trans h) (by omega)).trans (congrArg (fun z => nz (ix1 (voc z))) et))

variable (d L) in
/-- The tile's windows of the gathered rows, each at its contents. -/
def Rows (f : S16384x128.Idx → Elt F .f32) : sProp 𝕄 :=
  iprop(((rWin L 0#32 (k0_off2_inb L 0)).view.loc (V (nD := nD) d (cV L) (jV L)) ↦[(rWin L 0#32 (k0_off2_inb L 0)).view.set]{fullShare} f)
     ∗ ((rWin L 128#32 (k0_off2_inb L 1)).view.loc (V (nD := nD) d (cV L) (jV L)) ↦[(rWin L 128#32 (k0_off2_inb L 1)).view.set]{fullShare} f)
     ∗ ((rWin L 256#32 (k0_off2_inb L 2)).view.loc (V (nD := nD) d (cV L) (jV L)) ↦[(rWin L 256#32 (k0_off2_inb L 2)).view.set]{fullShare} f)
     ∗ ((rWin L 384#32 (k0_off2_inb L 3)).view.loc (V (nD := nD) d (cV L) (jV L)) ↦[(rWin L 384#32 (k0_off2_inb L 3)).view.set]{fullShare} f))

variable (d L) in
/-- What the middle does not use. -/
def Outs (f : S16384x128.Idx → Elt F .f32) (g : S8x16384.Idx → Elt F .f32) : sProp 𝕄 :=
  iprop((∃ f, (cS).view.loc (V (nD := nD) d (cV L) (jV L)) ↦{fullShare} f)
     ∗ Rows d L f
     ∗ ((gWin L).view.loc (V (nD := nD) d (cV L) (jV L)) ↦[(gWin L).view.set]{fullShare} g)
     ∗ semVal (V (nD := nD) d (cV L) (jV L), SemLoc.dma cc0_scratch9.sem) 0
     ∗ semVal (V (nD := nD) d (cV L) (jV L), SemLoc.dma cc0_scoped0.sem) 0
     ∗ semVal (V (nD := nD) d (cV L) (jV L), SemLoc.dma cc0_scoped1.sem) 0
     ∗ semVal (V (nD := nD) d (cV L) (jV L), SemLoc.dma cc0_scoped2.sem) 0
     ∗ semVal (V (nD := nD) d (cV L) (jV L), SemLoc.dma cc0_scoped3.sem) 0
     ∗ semVal (V (nD := nD) d (cV L) (jV L), SemLoc.dma cc0_scoped4.sem) 0)

variable (d L) in
/-- What a tile holds at the end. -/
def Done (W : S1000x128.Idx → Elt F .f32) (t : S16384.Idx → BitVec 32) (b nz : S1000.Idx → Elt F .f32) (qw qb qn : PosShare TreeShare)
    (O : CellTallies nD τ sig (HIx 1)) (Ws : Waits sig (HIx 1)) : sProp 𝕄 :=
  iprop((Targets d L t
     ∗ ((wV).view.loc (V (nD := nD) d (cV L) (jV L)) ↦{qw} W)
     ∗ ((bV).view.loc (V (nD := nD) d (cV L) (jV L)) ↦{qb} b)
     ∗ ((nV).view.loc (V (nD := nD) d (cV L) (jV L)) ↦{qn} nz)
     ∗ Rows d L (gWr W t)
     ∗ (∃ g, ⌜BnOK b nz t (gWin L).view.set g⌝ ∗ ((gWin L).view.loc (V (nD := nD) d (cV L) (jV L)) ↦[(gWin L).view.set]{fullShare} g)))
     ∗ ((∃ f, (iS).view.loc (V (nD := nD) d (cV L) (jV L)) ↦{fullShare} f)
       ∗ (∃ f, (aS).view.loc (V (nD := nD) d (cV L) (jV L)) ↦{fullShare} f)
       ∗ (∃ f, (cS).view.loc (V (nD := nD) d (cV L) (jV L)) ↦{fullShare} f)
       ∗ (∃ f, (oS).view.loc (V (nD := nD) d (cV L) (jV L)) ↦{fullShare} f)
       ∗ (∃ f, (btS).view.loc (V (nD := nD) d (cV L) (jV L)) ↦{fullShare} f)
       ∗ (∃ f, (ntS).view.loc (V (nD := nD) d (cV L) (jV L)) ↦{fullShare} f))
     ∗ (semVal (V (nD := nD) d (cV L) (jV L), SemLoc.dma cc0_scratch6.sem) 0
       ∗ semVal (V (nD := nD) d (cV L) (jV L), SemLoc.dma cc0_scratch7.sem) 0
       ∗ semVal (V (nD := nD) d (cV L) (jV L), SemLoc.dma cc0_scratch8.sem) 0
       ∗ semVal (V (nD := nD) d (cV L) (jV L), SemLoc.dma cc0_scratch9.sem) 0
       ∗ semVal (V (nD := nD) d (cV L) (jV L), SemLoc.dma cc0_scoped0.sem) 0
       ∗ semVal (V (nD := nD) d (cV L) (jV L), SemLoc.dma cc0_scoped1.sem) 0
       ∗ semVal (V (nD := nD) d (cV L) (jV L), SemLoc.dma cc0_scoped2.sem) 0
       ∗ semVal (V (nD := nD) d (cV L) (jV L), SemLoc.dma cc0_scoped3.sem) 0
       ∗ semVal (V (nD := nD) d (cV L) (jV L), SemLoc.dma cc0_scoped4.sem) 0)
     ∗ (∃ W', ⌜∀ p ∈ W', p ∈ Ws ∨ p.2 = none⌝ ∗ owes (V (nD := nD) d (cV L) (jV L)) O W'))

set_option maxHeartbeats 4000000 in
theorem run_back {W : S1000x128.Idx → Elt F .f32} {t : S16384.Idx → BitVec 32} {b nz : S1000.Idx → Elt F .f32}
    (hlt : ∀ i, (t i).toNat < 1000) {qw qb qn : PosShare TreeShare} {O : CellTallies nD τ sig (HIx 1)} {Ws : Waits sig (HIx 1)}
    {f : S16384x128.Idx → Elt F .f32} {g : S8x16384.Idx → Elt F .f32} {z : BitVec 32} {v : Vec F S16 .i32} {h : k0_chk61 v} {w : Vec F S16 .f32}
    (hv : ∀ x : S16.Idx, v x = word (tRows L t) (16 * 30 + (x 0).val))
    (hw : ∀ x : S16.Idx, w x = b (ix1 (voc (word (tRows L t) (16 * 30 + (x 0).val))))) :
    Regs d L (tRows L t) b nz 30 30 (Rest d L W t b nz qw qb qn O Ws (Outs d L f g))
      ⊢ Wp d L (part10 (F := F) L z v h w) fun _ => Wp d L (part11 (F := F) L z) fun _ => Wp d L (tail (F := F) L) fun _ => Done d L W t b nz qw qb qn O Ws := by
  have hlt' : ∀ i, (tRows L t i).toNat < 1000 := fun i => hlt _
  unfold part10 k0_part10_skel
  have hc := cols 30 (by decide)
  refine step_noise (step_chk ⟨chk_cols (by decide) (by decide) row0 hc, chk_cols (by decide) (by decide) row1 hc⟩ ?_)
  refine step_put0 row0 hc hw (step_put1 row1 hc (picked hv hlt' _) ?_)
  refine step_one 31 hlt' rfl (fun _ h => ⟨h, h⟩) row0 row1 (cols 31 (by decide)) (fun h g => ⟨h, g⟩) (by decide) ?_
  unfold Regs Rest Outs Rows
  iintro ⟨Hi0, Hbt, Hnt, ⟨%go, %hgo, Ho⟩, Hgo, Hw2, Hi2, Ht, Hb, Hn, Hs6, Hs7, ⟨%W', %hW', HO⟩, #Hmw, ⟨%fc, Hc⟩, ⟨Hr0, Hr1, Hr2, Hr3⟩, Hg, Hs9, Hq0, Hq1, Hq2, Hq3, Hq4⟩
  iapply (gather_wait_bind (dst := aS)) $$ [Hgo HO]
  · isplitl [Hgo]; · iexact Hgo
    isplitl [HO]; · iexact HO
    iexact Hmw
  iintro ⟨⟨%f1, Ha⟩, Hw1, Hi1, Hs8, HO⟩
  ihave Ha := (Entails.of_eq (landA (F := F) (d := d) (L := L) f1 _)) $$ Ha
  ihave Hc := (Entails.of_eq (show ((cS).view.loc (V (nD := nD) d (cV L) (jV L)) ↦{fullShare} fc : sProp 𝕄)
      = (cS).view.loc (V (nD := nD) d (cV L) (jV L)) ↦[(cS).view.set]{fullShare} fc by rw [show (cS).view.set = Finset.univ from View.set_whole _])) $$ Hc
  iapply (gather_start (dst := cS) (sem := cc0_scratch9.sem) 1 rfl rfl hlt' (by decide)) $$ [Hw2 Hc Hi2 Hs9]
  · isplitl [Hw2]; · iexact Hw2
    isplitl [Hc]; · iexact Hc
    isplitl [Hi2]; · iexact Hi2
    iexact Hs9
  iintro Hgo
  unfold Wp
  sl_exec
  iapply (gather_wait (dst := cS)) $$ [Hgo HO]
  · isplitl [Hgo]; · iexact Hgo
    isplitl [HO]; · iexact HO
    iexact Hmw
  iintro ⟨⟨%f2, Hc⟩, Hw2, Hi2, Hs9, HO⟩
  ihave Hc := (Entails.of_eq (landC (F := F) (d := d) (L := L) f2 _)) $$ Hc
  unfold Wp
  sl_exec
  ihave Ha := (Entails.of_eq (show ((aS).view.loc (V (nD := nD) d (cV L) (jV L)) ↦{fullShare} gath W (tRows L t) 0 : sProp 𝕄)
      = (aS).view.loc (V (nD := nD) d (cV L) (jV L)) ↦[(aS).view.set]{fullShare} gath W (tRows L t) 0 by rw [show (aS).view.set = Finset.univ from View.set_whole _])) $$ Ha
  iapply (gather_start (dst := aS) (sem := cc0_scratch8.sem) 2 rfl rfl hlt' (by decide)) $$ [Hw1 Ha Hi1 Hs8]
  · isplitl [Hw1]; · iexact Hw1
    isplitl [Ha]; · iexact Ha
    isplitl [Hi1]; · iexact Hi1
    iexact Hs8
  iintro Hgo
  unfold Wp
  sl_exec
  iapply (gather_wait (dst := aS)) $$ [Hgo HO]
  · isplitl [Hgo]; · iexact Hgo
    isplitl [HO]; · iexact HO
    iexact Hmw
  iintro ⟨⟨%f3, Ha⟩, Hw1, Hi1, Hs8, HO⟩
  ihave Ha := (Entails.of_eq (landA (F := F) (d := d) (L := L) f3 _)) $$ Ha
  unfold Wp
  sl_exec
  ihave Hc := (Entails.of_eq (show ((cS).view.loc (V (nD := nD) d (cV L) (jV L)) ↦{fullShare} gath W (tRows L t) 1 : sProp 𝕄)
      = (cS).view.loc (V (nD := nD) d (cV L) (jV L)) ↦[(cS).view.set]{fullShare} gath W (tRows L t) 1 by rw [show (cS).view.set = Finset.univ from View.set_whole _])) $$ Hc
  iapply (gather_start (dst := cS) (sem := cc0_scratch9.sem) 3 rfl rfl hlt' (by decide)) $$ [Hw2 Hc Hi2 Hs9]
  · isplitl [Hw2]; · iexact Hw2
    isplitl [Hc]; · iexact Hc
    isplitl [Hi2]; · iexact Hi2
    iexact Hs9
  iintro Hgo
  unfold Wp
  sl_exec
  iapply (gather_wait (dst := cS)) $$ [Hgo HO]
  · isplitl [Hgo]; · iexact Hgo
    isplitl [HO]; · iexact HO
    iexact Hmw
  iintro ⟨⟨%f4, Hc⟩, Hw2, Hi2, Hs9, HO⟩
  ihave Hc := (Entails.of_eq (landC (F := F) (d := d) (L := L) f4 _)) $$ Hc
  unfold Wp
  sl_exec
  sl_step
  unfold Done Rows
  isplitl [Ht Hw1 Hw2 Hb Hn Hr0 Hr1 Hr2 Hr3 Hg]
  · isplitl [Ht]; · iexact Ht
    isplitl [Hw1 Hw2]
    · iapply (pointsTo_share (PosShare.mem_left_op_right qw)).2
      isplitl [Hw1] <;> iassumption
    isplitl [Hb]; · iexact Hb
    isplitl [Hn]; · iexact Hn
    isplitl [Hr0 Hr1 Hr2 Hr3]
    · isplitl [Hr0]; · iapply (out_landed (F := F) (d := d) (L := L) 0 f (run_back.sl.dma0 (F := F) (L := L) (W := W) (t := t)) rfl); iexact Hr0
      isplitl [Hr1]; · iapply (out_landed (F := F) (d := d) (L := L) 1 f (run_back.sl.dma0_1 (F := F) (L := L) (W := W) (t := t)) rfl); iexact Hr1
      isplitl [Hr2]; · iapply (out_landed (F := F) (d := d) (L := L) 2 f (run_back.sl.dma0_2 (F := F) (L := L) (W := W) (t := t)) rfl); iexact Hr2
      iapply (out_landed (F := F) (d := d) (L := L) 3 f (run_back.sl.dma0_3 (F := F) (L := L) (W := W) (t := t)) rfl); iexact Hr3
    iexists _; isplitr
    swap; · iexact Hg
    ipureintro
    exact small_landed hgo.1 hgo.2
  isplitl [Hi0 Hi1 Hi2 Ha Hc Ho Hbt Hnt]
  · isplitl [Hi0 Hi1 Hi2]
    · iexists _
      iapply (pointsTo_share (PosShare.mem_left_op_right fullShare)).2
      isplitl [Hi0]; · iexact Hi0
      iapply (pointsTo_share (PosShare.mem_left_op_right fullShare.right)).2
      isplitl [Hi1] <;> iassumption
    isplitl [Ha]; · iexists _; iexact Ha
    isplitl [Hc]; · iexists _; iexact Hc
    isplitl [Ho]; · iexists _; iexact Ho
    isplitl [Hbt]; · iexists _; iexact Hbt
    iexists _; iexact Hnt
  isplitl [Hs6 Hs7 Hs8 Hs9 Hq0 Hq1 Hq2 Hq3 Hq4]
  · isplitl [Hs6]; · iexact Hs6
    isplitl [Hs7]; · iexact Hs7
    isplitl [Hs8]; · iexact Hs8
    isplitl [Hs9]; · iexact Hs9
    isplitl [Hq0]; · iexact Hq0
    isplitl [Hq1]; · iexact Hq1
    isplitl [Hq2]; · iexact Hq2
    isplitl [Hq3]; · iexact Hq3
    iexact Hq4
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact hW' p hp

end Tile

end Cert.Proof.Nce

end
-- ==== Proof.Tile.lean ====
/-
  A tile's whole run: from its shares of the tables and its windows of the targets and of the two results to the windows
  written, everything else handed back as it came.
-/
module

public import proofs.«01_k».proof.Proof.Back

@[expose] public section

noncomputable section

namespace Cert.Proof.Nce

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

section Tile

variable [FloatOps F] (d : Dev nD) (L : grid0.Coords)

variable {d L} in
theorem ne_cell {s₁ s₂ : DmaSem sig} (h : (SemLoc.dma s₁ : SemLoc sig) ≠ SemLoc.dma s₂) :
    (V (nD := nD) d (cV L) (jV L), SemLoc.dma s₁) ≠ (V (nD := nD) d (cV L) (jV L), SemLoc.dma s₂) := fun e => h (Prod.mk.inj e).2

omit [FloatOps F] in
/-- The kernel's semaphores are among the tile's own: they are them, and the rest. -/
theorem ownSems0_V :
    (ownSems0 (V (nD := nD) d (cV L) (jV L)) : sProp 𝕄)
      = iprop(semVal (V (nD := nD) d (cV L) (jV L), SemLoc.dma cc0_scratch6.sem) 0
          ∗ semVal (V (nD := nD) d (cV L) (jV L), SemLoc.dma cc0_scratch7.sem) 0
          ∗ semVal (V (nD := nD) d (cV L) (jV L), SemLoc.dma cc0_scratch8.sem) 0
          ∗ semVal (V (nD := nD) d (cV L) (jV L), SemLoc.dma cc0_scratch9.sem) 0
          ∗ semVal (V (nD := nD) d (cV L) (jV L), SemLoc.dma cc0_scoped0.sem) 0
          ∗ semVal (V (nD := nD) d (cV L) (jV L), SemLoc.dma cc0_scoped1.sem) 0
          ∗ semVal (V (nD := nD) d (cV L) (jV L), SemLoc.dma cc0_scoped2.sem) 0
          ∗ semVal (V (nD := nD) d (cV L) (jV L), SemLoc.dma cc0_scoped3.sem) 0
          ∗ semVal (V (nD := nD) d (cV L) (jV L), SemLoc.dma cc0_scoped4.sem) 0
          ∗ bigSep ((((((((((ownCells (V (nD := nD) d (cV L) (jV L))).erase (V (nD := nD) d (cV L) (jV L), SemLoc.dma cc0_scratch6.sem)).erase (V (nD := nD) d (cV L) (jV L), SemLoc.dma cc0_scratch7.sem)).erase (V (nD := nD) d (cV L) (jV L), SemLoc.dma cc0_scratch8.sem)).erase (V (nD := nD) d (cV L) (jV L), SemLoc.dma cc0_scratch9.sem)).erase (V (nD := nD) d (cV L) (jV L), SemLoc.dma cc0_scoped0.sem)).erase (V (nD := nD) d (cV L) (jV L), SemLoc.dma cc0_scoped1.sem)).erase (V (nD := nD) d (cV L) (jV L), SemLoc.dma cc0_scoped2.sem)).erase (V (nD := nD) d (cV L) (jV L), SemLoc.dma cc0_scoped3.sem)).erase (V (nD := nD) d (cV L) (jV L), SemLoc.dma cc0_scoped4.sem)) fun g => semVal g 0) := by
  unfold SparseCore.Cfg.ownSems0
  rw [SparseCore.bigSep_erase' ((mem_ownCells (g := (V (nD := nD) d (cV L) (jV L), SemLoc.dma cc0_scratch6.sem))).mpr ⟨rfl, by show (SemLoc.dma cc0_scratch6.sem : SemLoc sig).isScoped .scVector = true; decide⟩),
    SparseCore.bigSep_erase' (Finset.mem_erase.mpr ⟨ne_cell (by decide), ((mem_ownCells (g := (V (nD := nD) d (cV L) (jV L), SemLoc.dma cc0_scratch7.sem))).mpr ⟨rfl, by show (SemLoc.dma cc0_scratch7.sem : SemLoc sig).isScoped .scVector = true; decide⟩)⟩),
    SparseCore.bigSep_erase' (Finset.mem_erase.mpr ⟨ne_cell (by decide), (Finset.mem_erase.mpr ⟨ne_cell (by decide), ((mem_ownCells (g := (V (nD := nD) d (cV L) (jV L), SemLoc.dma cc0_scratch8.sem))).mpr ⟨rfl, by show (SemLoc.dma cc0_scratch8.sem : SemLoc sig).isScoped .scVector = true; decide⟩)⟩)⟩),
    SparseCore.bigSep_erase' (Finset.mem_erase.mpr ⟨ne_cell (by decide), (Finset.mem_erase.mpr ⟨ne_cell (by decide), (Finset.mem_erase.mpr ⟨ne_cell (by decide), ((mem_ownCells (g := (V (nD := nD) d (cV L) (jV L), SemLoc.dma cc0_scratch9.sem))).mpr ⟨rfl, by show (SemLoc.dma cc0_scratch9.sem : SemLoc sig).isScoped .scVector = true; decide⟩)⟩)⟩)⟩),
    SparseCore.bigSep_erase' (Finset.mem_erase.mpr ⟨ne_cell (by decide), (Finset.mem_erase.mpr ⟨ne_cell (by decide), (Finset.mem_erase.mpr ⟨ne_cell (by decide), (Finset.mem_erase.mpr ⟨ne_cell (by decide), ((mem_ownCells (g := (V (nD := nD) d (cV L) (jV L), SemLoc.dma cc0_scoped0.sem))).mpr ⟨rfl, by show (SemLoc.dma cc0_scoped0.sem : SemLoc sig).isScoped .scVector = true; decide⟩)⟩)⟩)⟩)⟩),
    SparseCore.bigSep_erase' (Finset.mem_erase.mpr ⟨ne_cell (by decide), (Finset.mem_erase.mpr ⟨ne_cell (by decide), (Finset.mem_erase.mpr ⟨ne_cell (by decide), (Finset.mem_erase.mpr ⟨ne_cell (by decide), (Finset.mem_erase.mpr ⟨ne_cell (by decide), ((mem_ownCells (g := (V (nD := nD) d (cV L) (jV L), SemLoc.dma cc0_scoped1.sem))).mpr ⟨rfl, by show (SemLoc.dma cc0_scoped1.sem : SemLoc sig).isScoped .scVector = true; decide⟩)⟩)⟩)⟩)⟩)⟩),
    SparseCore.bigSep_erase' (Finset.mem_erase.mpr ⟨ne_cell (by decide), (Finset.mem_erase.mpr ⟨ne_cell (by decide), (Finset.mem_erase.mpr ⟨ne_cell (by decide), (Finset.mem_erase.mpr ⟨ne_cell (by decide), (Finset.mem_erase.mpr ⟨ne_cell (by decide), (Finset.mem_erase.mpr ⟨ne_cell (by decide), ((mem_ownCells (g := (V (nD := nD) d (cV L) (jV L), SemLoc.dma cc0_scoped2.sem))).mpr ⟨rfl, by show (SemLoc.dma cc0_scoped2.sem : SemLoc sig).isScoped .scVector = true; decide⟩)⟩)⟩)⟩)⟩)⟩)⟩),
    SparseCore.bigSep_erase' (Finset.mem_erase.mpr ⟨ne_cell (by decide), (Finset.mem_erase.mpr ⟨ne_cell (by decide), (Finset.mem_erase.mpr ⟨ne_cell (by decide), (Finset.mem_erase.mpr ⟨ne_cell (by decide), (Finset.mem_erase.mpr ⟨ne_cell (by decide), (Finset.mem_erase.mpr ⟨ne_cell (by decide), (Finset.mem_erase.mpr ⟨ne_cell (by decide), ((mem_ownCells (g := (V (nD := nD) d (cV L) (jV L), SemLoc.dma cc0_scoped3.sem))).mpr ⟨rfl, by show (SemLoc.dma cc0_scoped3.sem : SemLoc sig).isScoped .scVector = true; decide⟩)⟩)⟩)⟩)⟩)⟩)⟩)⟩),
    SparseCore.bigSep_erase' (Finset.mem_erase.mpr ⟨ne_cell (by decide), (Finset.mem_erase.mpr ⟨ne_cell (by decide), (Finset.mem_erase.mpr ⟨ne_cell (by decide), (Finset.mem_erase.mpr ⟨ne_cell (by decide), (Finset.mem_erase.mpr ⟨ne_cell (by decide), (Finset.mem_erase.mpr ⟨ne_cell (by decide), (Finset.mem_erase.mpr ⟨ne_cell (by decide), (Finset.mem_erase.mpr ⟨ne_cell (by decide), ((mem_ownCells (g := (V (nD := nD) d (cV L) (jV L), SemLoc.dma cc0_scoped4.sem))).mpr ⟨rfl, by show (SemLoc.dma cc0_scoped4.sem : SemLoc sig).isScoped .scVector = true; decide⟩)⟩)⟩)⟩)⟩)⟩)⟩)⟩)⟩)]

omit [FloatOps F] in
/-- The kernel's scratch buffers are among the tile's own: they are them, at some contents, and the rest. -/
theorem ownBufs_V :
    (ownBufs (V (nD := nD) d (cV L) (jV L)) : sProp 𝕄)
      = iprop((∃ f, (V (nD := nD) d (cV L) (jV L)).loc cc0_scratch0 ↦{fullShare} f)
          ∗ (∃ f, (V (nD := nD) d (cV L) (jV L)).loc cc0_scratch1 ↦{fullShare} f)
          ∗ (∃ f, (V (nD := nD) d (cV L) (jV L)).loc cc0_scratch2 ↦{fullShare} f)
          ∗ (∃ f, (V (nD := nD) d (cV L) (jV L)).loc cc0_scratch3 ↦{fullShare} f)
          ∗ (∃ f, (V (nD := nD) d (cV L) (jV L)).loc cc0_scratch4 ↦{fullShare} f)
          ∗ (∃ f, (V (nD := nD) d (cV L) (jV L)).loc cc0_scratch5 ↦{fullShare} f)
          ∗ bigSep (((((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4)).erase ((Proc.scVector (cV L) (jV L)).devRef cc0_scratch5)) fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := ((Proc.scVector (cV L) (jV L)).devRef cc0_scratch0)) rfl)).trans ?_
  rw [SparseCore.bigSep_erase' (Finset.mem_erase.mpr ⟨fun e => absurd (Proc.devRef_injective _ e) (show (cc0_scratch1 : Ref sig .scVector) ≠ cc0_scratch0 by decide), (SparseCore.Cfg.mem_ownRefs_of_owner (p := Proc.scVector (cV L) (jV L)) (b := ((Proc.scVector (cV L) (jV L)).devRef cc0_scratch1)) rfl)⟩),
    SparseCore.bigSep_erase' (Finset.mem_erase.mpr ⟨fun e => absurd (Proc.devRef_injective _ e) (show (cc0_scratch2 : Ref sig .scVector) ≠ cc0_scratch1 by decide), (Finset.mem_erase.mpr ⟨fun e => absurd (Proc.devRef_injective _ e) (show (cc0_scratch2 : Ref sig .scVector) ≠ cc0_scratch0 by decide), (SparseCore.Cfg.mem_ownRefs_of_owner (p := Proc.scVector (cV L) (jV L)) (b := ((Proc.scVector (cV L) (jV L)).devRef cc0_scratch2)) rfl)⟩)⟩),
    SparseCore.bigSep_erase' (Finset.mem_erase.mpr ⟨fun e => absurd (Proc.devRef_injective _ e) (show (cc0_scratch3 : Ref sig .scVector) ≠ cc0_scratch2 by decide), (Finset.mem_erase.mpr ⟨fun e => absurd (Proc.devRef_injective _ e) (show (cc0_scratch3 : Ref sig .scVector) ≠ cc0_scratch1 by decide), (Finset.mem_erase.mpr ⟨fun e => absurd (Proc.devRef_injective _ e) (show (cc0_scratch3 : Ref sig .scVector) ≠ cc0_scratch0 by decide), (SparseCore.Cfg.mem_ownRefs_of_owner (p := Proc.scVector (cV L) (jV L)) (b := ((Proc.scVector (cV L) (jV L)).devRef cc0_scratch3)) rfl)⟩)⟩)⟩),
    SparseCore.bigSep_erase' (Finset.mem_erase.mpr ⟨fun e => absurd (Proc.devRef_injective _ e) (show (cc0_scratch4 : Ref sig .scVector) ≠ cc0_scratch3 by decide), (Finset.mem_erase.mpr ⟨fun e => absurd (Proc.devRef_injective _ e) (show (cc0_scratch4 : Ref sig .scVector) ≠ cc0_scratch2 by decide), (Finset.mem_erase.mpr ⟨fun e => absurd (Proc.devRef_injective _ e) (show (cc0_scratch4 : Ref sig .scVector) ≠ cc0_scratch1 by decide), (Finset.mem_erase.mpr ⟨fun e => absurd (Proc.devRef_injective _ e) (show (cc0_scratch4 : Ref sig .scVector) ≠ cc0_scratch0 by decide), (SparseCore.Cfg.mem_ownRefs_of_owner (p := Proc.scVector (cV L) (jV L)) (b := ((Proc.scVector (cV L) (jV L)).devRef cc0_scratch4)) rfl)⟩)⟩)⟩)⟩),
    SparseCore.bigSep_erase' (Finset.mem_erase.mpr ⟨fun e => absurd (Proc.devRef_injective _ e) (show (cc0_scratch5 : Ref sig .scVector) ≠ cc0_scratch4 by decide), (Finset.mem_erase.mpr ⟨fun e => absurd (Proc.devRef_injective _ e) (show (cc0_scratch5 : Ref sig .scVector) ≠ cc0_scratch3 by decide), (Finset.mem_erase.mpr ⟨fun e => absurd (Proc.devRef_injective _ e) (show (cc0_scratch5 : Ref sig .scVector) ≠ cc0_scratch2 by decide), (Finset.mem_erase.mpr ⟨fun e => absurd (Proc.devRef_injective _ e) (show (cc0_scratch5 : Ref sig .scVector) ≠ cc0_scratch1 by decide), (Finset.mem_erase.mpr ⟨fun e => absurd (Proc.devRef_injective _ e) (show (cc0_scratch5 : Ref sig .scVector) ≠ cc0_scratch0 by decide), (SparseCore.Cfg.mem_ownRefs_of_owner (p := Proc.scVector (cV L) (jV L)) (b := ((Proc.scVector (cV L) (jV L)).devRef cc0_scratch5)) rfl)⟩)⟩)⟩)⟩)⟩)]

/-- What a tile is handed. -/
def TileIn (W : S1000x128.Idx → Elt F .f32) (t : S16384.Idx → BitVec 32) (b nz : S1000.Idx → Elt F .f32)
    (f : S16384x128.Idx → Elt F .f32) (g : S8x16384.Idx → Elt F .f32) (q : PosShare TreeShare) : sProp 𝕄 :=
  iprop(Targets d L t
     ∗ ((wV).view.loc (V (nD := nD) d (cV L) (jV L)) ↦{q} W)
     ∗ ((bV).view.loc (V (nD := nD) d (cV L) (jV L)) ↦{q} b)
     ∗ ((nV).view.loc (V (nD := nD) d (cV L) (jV L)) ↦{q} nz)
     ∗ Rows d L f
     ∗ ((gWin L).view.loc (V (nD := nD) d (cV L) (jV L)) ↦[(gWin L).view.set]{fullShare} g))
/-- What it hands back. -/
def TileOut (W : S1000x128.Idx → Elt F .f32) (t : S16384.Idx → BitVec 32) (b nz : S1000.Idx → Elt F .f32) (q : PosShare TreeShare) : sProp 𝕄 :=
  iprop(Targets d L t
     ∗ ((wV).view.loc (V (nD := nD) d (cV L) (jV L)) ↦{q} W)
     ∗ ((bV).view.loc (V (nD := nD) d (cV L) (jV L)) ↦{q} b)
     ∗ ((nV).view.loc (V (nD := nD) d (cV L) (jV L)) ↦{q} nz)
     ∗ Rows d L (gWr W t)
     ∗ (∃ g, ⌜BnOK b nz t (gWin L).view.set g⌝ ∗ ((gWin L).view.loc (V (nD := nD) d (cV L) (jV L)) ↦[(gWin L).view.set]{fullShare} g)))

variable {d L}

/-- A sequence's weakest precondition, from its first part's. -/
theorem peel {α β : Type} {p : Prog (TpuEff nD τ sig (Elt F) Λ₀ (V (nD := nD) d (cV L) (jV L)).2) α}
    {k : α → Prog (TpuEff nD τ sig (Elt F) Λ₀ (V (nD := nD) d (cV L) (jV L)).2) β} {Q : β → sProp 𝕄} {P : sProp 𝕄}
    (h : P ⊢ Wp d L p fun a => Wp d L (k a) Q) : P ⊢ Wp d L (p >>= k) Q := by
  unfold Wp at h ⊢
  rw [wp_bind]; exact h

/-- The same of a sequence of two parts before the rest. -/
theorem peel₂ {α β γ : Type} {p : Prog (TpuEff nD τ sig (Elt F) Λ₀ (V (nD := nD) d (cV L) (jV L)).2) α}
    {p' : Prog (TpuEff nD τ sig (Elt F) Λ₀ (V (nD := nD) d (cV L) (jV L)).2) β}
    {k : α → β → Prog (TpuEff nD τ sig (Elt F) Λ₀ (V (nD := nD) d (cV L) (jV L)).2) γ} {Q : γ → sProp 𝕄} {P : sProp 𝕄}
    (h : P ⊢ Wp d L p fun a => Wp d L p' fun b => Wp d L (k a b) Q) : P ⊢ Wp d L (p >>= fun a => p' >>= k a) Q := by
  refine peel ?_
  unfold Wp at h ⊢
  simp only [wp_bind]
  exact h

set_option maxRecDepth 65536 in
set_option maxHeartbeats 4000000 in
/-- The kernel's program, from what the front takes. -/
theorem run_tile {W : S1000x128.Idx → Elt F .f32} {t : S16384.Idx → BitVec 32} {b nz : S1000.Idx → Elt F .f32}
    (hlt : ∀ i, (t i).toNat < 1000) {q : PosShare TreeShare} {O : CellTallies nD τ sig (HIx 1)} {Ws : Waits sig (HIx 1)}
    {f : S16384x128.Idx → Elt F .f32} {g : S8x16384.Idx → Elt F .f32} :
   iprop((∃ fi, (iS).view.loc (V (nD := nD) d (cV L) (jV L)) ↦{fullShare} fi)
     ∗ Targets d L t
     ∗ ((wV).view.loc (V (nD := nD) d (cV L) (jV L)) ↦{q} W)
     ∗ ((bV).view.loc (V (nD := nD) d (cV L) (jV L)) ↦{q} b)
     ∗ ((nV).view.loc (V (nD := nD) d (cV L) (jV L)) ↦{q} nz)
     ∗ (∃ f, (aS).view.loc (V (nD := nD) d (cV L) (jV L)) ↦{fullShare} f)
     ∗ (∃ f, (oS).view.loc (V (nD := nD) d (cV L) (jV L)) ↦{fullShare} f)
     ∗ (∃ f, (btS).view.loc (V (nD := nD) d (cV L) (jV L)) ↦{fullShare} f)
     ∗ (∃ f, (ntS).view.loc (V (nD := nD) d (cV L) (jV L)) ↦{fullShare} f)
     ∗ semVal ((V (nD := nD) d (cV L) (jV L)), SemLoc.dma cc0_scratch6.sem) 0
     ∗ semVal ((V (nD := nD) d (cV L) (jV L)), SemLoc.dma cc0_scratch7.sem) 0
     ∗ semVal ((V (nD := nD) d (cV L) (jV L)), SemLoc.dma cc0_scratch8.sem) 0
     ∗ owes (V (nD := nD) d (cV L) (jV L)) O Ws ∗ Transfers.MayWaits (V d (cV L) (jV L)) (default : HIx 1) O
     ∗ Outs d L f g)
   ⊢ Wp d L (cc0_k (F := F) L wV (Memref.isWhole_whole _) bV (Memref.isWhole_whole _) nV (Memref.isWhole_whole _) tV (Memref.isWhole_whole _) rV (Memref.isWhole_whole _) gV (Memref.isWhole_whole _)
      iS (Memref.isWhole_whole _) aS (Memref.isWhole_whole _) cS (Memref.isWhole_whole _) oS (Memref.isWhole_whole _) btS (Memref.isWhole_whole _) ntS (Memref.isWhole_whole _)
      cc0_scratch6 cc0_scratch7 cc0_scratch8 cc0_scratch9 cc0_scoped0 cc0_scoped1 cc0_scoped2 cc0_scoped3 cc0_scoped4)
      fun _ => Done d L W t b nz q q q O Ws := by
  rw [cc0_k_eq_skeleton]
  unfold cc0_k_skel
  simp only [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton]
  refine peel₂ (run_front hlt trivial trivial fun z v h w hv hw => ?_)
  dsimp only
  have hlt' : ∀ i, (tRows L t i).toNat < 1000 := fun i => hlt _
  refine peel (run_part3 hlt' hv hw fun v w hv hw => ?_)
  dsimp only
  refine peel (run_part4 hlt' hv hw ?_)
  refine peel (run_part5 hlt' fun v hv => ?_)
  refine peel (run_part6 hlt' hv fun v w hv hw => ?_)
  dsimp only
  refine peel (run_part7 hlt' hv hw fun v h hv => ?_)
  dsimp only
  refine peel (run_part8 hlt' hv ?_)
  refine peel (run_part9 hlt' fun v h w hv hw => ?_)
  dsimp only
  exact peel₂ (run_back hlt hv hw)

set_option maxHeartbeats 4000000 in
/-- **A tile's run**, as the launch wants it. -/
theorem tile_body (hF : (K (F := F)).Facts) {W : S1000x128.Idx → Elt F .f32} {t : S16384.Idx → BitVec 32} {b nz : S1000.Idx → Elt F .f32}
    (hlt : ∀ i, (t i).toNat < 1000) {q : PosShare TreeShare} {O : CellTallies nD τ sig (HIx 1)} {Ws : Waits sig (HIx 1)} (hO : ∀ g, O g none = 0)
    {f : S16384x128.Idx → Elt F .f32} {g : S8x16384.Idx → Elt F .f32} :
    iprop(levAts (K (F := F)).L (K (F := F)).lev ∗ emp ∗ TileIn d L W t b nz f g q
       ∗ scopedBufs (V d (cV L) (jV L)) ∗ scopedSems0 (V d (cV L) (jV L)) ∗ owes (V (nD := nD) d (cV L) (jV L)) O Ws)
    ⊢ Wp d L (cc0_k (F := F) L wV (Memref.isWhole_whole _) bV (Memref.isWhole_whole _) nV (Memref.isWhole_whole _) tV (Memref.isWhole_whole _) rV (Memref.isWhole_whole _) gV (Memref.isWhole_whole _)
      iS (Memref.isWhole_whole _) aS (Memref.isWhole_whole _) cS (Memref.isWhole_whole _) oS (Memref.isWhole_whole _) btS (Memref.isWhole_whole _) ntS (Memref.isWhole_whole _)
      cc0_scratch6 cc0_scratch7 cc0_scratch8 cc0_scratch9 cc0_scoped0 cc0_scoped1 cc0_scoped2 cc0_scoped3 cc0_scoped4)
      fun _ => iprop(TileOut d L W t b nz q ∗ scopedBufs (V d (cV L) (jV L)) ∗ scopedSems0 (V d (cV L) (jV L))
        ∗ ∃ W', ⌜∀ p ∈ W', p ∈ Ws ∨ p.2 = none⌝ ∗ owes (V (nD := nD) d (cV L) (jV L)) O W') := by
  rw [(K (F := F)).scopedBufs_V hF d (cV L) (jV L), SparseCore.Cfg.scopedSems0_V (Val := Elt F) d (cV L) (jV L), ownSems0_V, ownBufs_V]
  unfold TileIn TileOut
  iintro ⟨#Hlv, -, ⟨Ht, Hw, Hb, Hn, Hr, Hg⟩, ⟨Bi, Ba, Bc, Bo, Bbt, Bnt, Brest⟩, ⟨S6, S7, S8, S9, Q0, Q1, Q2, Q3, Q4, Srest⟩, HO⟩
  ihave Hmw := (show levAts (K (F := F)).L (K (F := F)).lev ⊢ Transfers.MayWaits (V d (cV L) (jV L)) (default : HIx 1) O
    from (K (F := F)).mayWaits_none (thr := V d (cV L) (jV L)) hO) $$ Hlv
  iapply (wp_wand_r Idealize.ShloMosaic.frame _ _ (Q := fun _ => Done d L W t b nz q q q O Ws))
  isplitr [Brest Srest]
  · iapply (run_tile hlt (q := q) (O := O) (Ws := Ws) (f := f) (g := g) (b := b) (nz := nz) (W := W) (t := t))
    unfold Outs
    isplitl [Bi]; · iexact Bi
    isplitl [Ht]; · iexact Ht
    isplitl [Hw]; · iexact Hw
    isplitl [Hb]; · iexact Hb
    isplitl [Hn]; · iexact Hn
    isplitl [Ba]; · iexact Ba
    isplitl [Bo]; · iexact Bo
    isplitl [Bbt]; · iexact Bbt
    isplitl [Bnt]; · iexact Bnt
    isplitl [S6]; · iexact S6
    isplitl [S7]; · iexact S7
    isplitl [S8]; · iexact S8
    isplitl [HO]; · iexact HO
    isplitr; · iexact Hmw
    isplitl [Bc]; · iexact Bc
    isplitl [Hr]; · iexact Hr
    isplitl [Hg]; · iexact Hg
    isplitl [S9]; · iexact S9
    isplitl [Q0]; · iexact Q0
    isplitl [Q1]; · iexact Q1
    isplitl [Q2]; · iexact Q2
    isplitl [Q3]; · iexact Q3
    iexact Q4
  iintro %_ HD
  unfold Done
  icases HD with ⟨HT, ⟨Bi, Ba, Bc, Bo, Bbt, Bnt⟩, ⟨S6, S7, S8, S9, Q0, Q1, Q2, Q3, Q4⟩, HO⟩
  isplitl [HT]; · iexact HT
  isplitl [Bi Ba Bc Bo Bbt Bnt Brest]
  · isplitl [Bi]; · iexact Bi
    isplitl [Ba]; · iexact Ba
    isplitl [Bc]; · iexact Bc
    isplitl [Bo]; · iexact Bo
    isplitl [Bbt]; · iexact Bbt
    isplitl [Bnt]; · iexact Bnt
    iexact Brest
  isplitl [S6 S7 S8 S9 Q0 Q1 Q2 Q3 Q4 Srest]
  · isplitl [S6]; · iexact S6
    isplitl [S7]; · iexact S7
    isplitl [S8]; · iexact S8
    isplitl [S9]; · iexact S9
    isplitl [Q0]; · iexact Q0
    isplitl [Q1]; · iexact Q1
    isplitl [Q2]; · iexact Q2
    isplitl [Q3]; · iexact Q3
    isplitl [Q4]; · iexact Q4
    iexact Srest
  iexact HO

end Tile

end Cert.Proof.Nce

end
-- ==== Proof.Split.lean ====
/-
  The arrays the SparseCore call is given, split into the tiles' windows and joined back: the targets and the gathered rows
  by 128-row stretches, the small gathered array by its columns, the tables by shares.
-/
module

public import proofs.«01_k».proof.Proof.Tile

@[expose] public section

noncomputable section

namespace Cert.Proof.Nce

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

section Split

variable [FloatOps F] (d : Dev nD)

/-! ## An array, by the blocks a numbering of its elements names -/

omit [FloatOps F] in
theorem blocks_disjoint {I T : Type} [Fintype I] (N : I → ℕ) (num : T → ℕ) (hinj : Function.Injective num) (S : Finset T) :
    ∀ t ∈ S, ∀ t' ∈ S, t ≠ t' → Disjoint (Finset.univ.filter fun i => N i = num t) (Finset.univ.filter fun i => N i = num t') := by
  intro t _ t' _ h
  refine Finset.disjoint_left.mpr fun i h1 h2 => h (hinj ?_)
  exact (Finset.mem_filter.mp h1).2.symm.trans (Finset.mem_filter.mp h2).2
omit [FloatOps F] in
theorem blocks_cover {I T : Type} [Fintype I] [DecidableEq I] [Fintype T] (N : I → ℕ) (num : T → ℕ) (hcov : ∀ i, ∃ t, num t = N i) :
    (Finset.univ : Finset T).biUnion (fun t => Finset.univ.filter fun i => N i = num t) = Finset.univ := by
  ext i
  simp only [Finset.mem_biUnion, Finset.mem_univ, true_and, Finset.mem_filter, iff_true]
  exact (hcov i).imp fun t h => h.symm

omit [FloatOps F] in
theorem pts_blocks {T : Type} [Fintype T] {ℓ : Loc nD τ sig} {q : PosShare TreeShare} {f : Buf (Elt F) ℓ} (N : Idx ℓ → ℕ) (num : T → ℕ)
    (hinj : Function.Injective num) (hcov : ∀ i, ∃ t, num t = N i) :
    (ℓ ↦{q} f : sProp 𝕄) = bigSep Finset.univ fun t => ℓ ↦[Finset.univ.filter fun i => N i = num t]{q} f := by
  rw [← pointsTo_biUnion Finset.univ (ℓ := ℓ) _ (blocks_disjoint N num hinj _), blocks_cover N num hcov]

/-! ## The tiles' windows as blocks -/

/-- The grid's point of a SparseCore and a tile. -/
def coordsV (c : Fin (grid0.bound 0)) (s : Fin (grid0.bound 1)) : grid0.Coords :=
  fun | 0 => c | 1 => s | ⟨_ + 2, h⟩ => absurd h (Nat.not_lt.2 (Nat.le_add_left _ _))

/-- The same of a pair. -/
def pt (p : Fin 2 × Fin 16) : grid0.Coords := coordsV p.1 p.2

/-- A tile's number. -/
def tileNo (p : Fin 2 × Fin 16) : ℕ := 2 * p.2.val + p.1.val

theorem tileNo_inj : Function.Injective tileNo := by
  rintro ⟨a, b⟩ ⟨a', b'⟩ h
  unfold tileNo at h
  have h1 := a.isLt; have h2 := a'.isLt
  simp only at h
  refine Prod.ext (Fin.ext ?_) (Fin.ext ?_) <;> simp only <;> omega
/-- The number of a tile's stretch. -/
def stretchNo (p : (Fin 2 × Fin 16) × Fin 4) : ℕ := tileNo p.1 * 4 + p.2.val
theorem stretchNo_inj : Function.Injective stretchNo := by
  rintro ⟨a, b⟩ ⟨a', b'⟩ h
  unfold stretchNo at h
  have h1 := b.isLt; have h2 := b'.isLt
  simp only at h
  refine Prod.ext (tileNo_inj (by simp only; omega)) (Fin.ext ?_); simp only; omega
theorem tileNo_cov (n : ℕ) (h : n < 32) : ∃ p, tileNo p = n :=
  ⟨(⟨n % 2, Nat.mod_lt _ (by decide)⟩, ⟨n / 2, by omega⟩), by unfold tileNo; simp only; omega⟩
theorem stretchNo_cov (n : ℕ) (h : n < 128) : ∃ p, stretchNo p = n := by
  obtain ⟨p, hp⟩ := tileNo_cov (n / 4) (by omega)
  exact ⟨(p, ⟨n % 4, Nat.mod_lt _ (by decide)⟩), by unfold stretchNo; simp only [hp]; omega⟩

theorem tWin_set (p : Fin 2 × Fin 16) (g : Fin 4) {inb : ∀ a, k0_off1 (pt p) (BitVec.ofNat 32 (128 * g.val)) a + S128.size a ≤ S16384.size a} :
    (tWin (pt p) (BitVec.ofNat 32 (128 * g.val)) inb).view.set
      = (Finset.univ.filter fun i : S16384.Idx => (i 0).val / 128 = stretchNo (p, g)) := by
  rw [show (tWin (pt p) (BitVec.ofNat 32 (128 * g.val)) inb).view.set
      = ((Rect.unit (s := S16384) (k0_off1 (pt p) (BitVec.ofNat 32 (128 * g.val))) S128.size inb).set) from
    (View.set_slice _ _).trans Finset.map_refl]
  ext i
  rw [Rect.mem_set_unit]
  simp only [k0_off1_eq, Finset.mem_filter, Finset.mem_univ, true_and]
  have hg := g.isLt
  unfold stretchNo tileNo
  constructor
  · intro h
    have h0 := h 0
    change 1024 * p.2.val + 512 * p.1.val + 128 * g.val ≤ (i 0).val ∧ (i 0).val < 1024 * p.2.val + 512 * p.1.val + 128 * g.val + 128 at h0
    simp only; omega
  · intro h a
    match a with
    | 0 =>
      change 1024 * p.2.val + 512 * p.1.val + 128 * g.val ≤ (i 0).val ∧ (i 0).val < 1024 * p.2.val + 512 * p.1.val + 128 * g.val + 128
      simp only at h; omega

theorem rWin_set (p : Fin 2 × Fin 16) (g : Fin 4) {inb : ∀ a, k0_off2 (pt p) (BitVec.ofNat 32 (128 * g.val)) a + S128x128.size a ≤ S16384x128.size a} :
    (rWin (pt p) (BitVec.ofNat 32 (128 * g.val)) inb).view.set
      = (Finset.univ.filter fun i : S16384x128.Idx => (i 0).val / 128 = stretchNo (p, g)) := by
  rw [show (rWin (pt p) (BitVec.ofNat 32 (128 * g.val)) inb).view.set
      = ((Rect.unit (s := S16384x128) (k0_off2 (pt p) (BitVec.ofNat 32 (128 * g.val))) S128x128.size inb).set) from
    (View.set_slice _ _).trans Finset.map_refl]
  ext i
  rw [Rect.mem_set_unit]
  simp only [k0_off2_eq, Finset.mem_filter, Finset.mem_univ, true_and]
  have hg := g.isLt
  have h1 : (i 1).val < 128 := (i 1).isLt
  unfold stretchNo tileNo
  constructor
  · intro h
    have h0 := h 0
    change 1024 * p.2.val + 512 * p.1.val + 128 * g.val ≤ (i 0).val ∧ (i 0).val < 1024 * p.2.val + 512 * p.1.val + 128 * g.val + 128 at h0
    simp only; omega
  · intro h a
    match a with
    | 0 =>
      change 1024 * p.2.val + 512 * p.1.val + 128 * g.val ≤ (i 0).val ∧ (i 0).val < 1024 * p.2.val + 512 * p.1.val + 128 * g.val + 128
      simp only at h; omega
    | 1 =>
      change 0 ≤ (i 1).val ∧ (i 1).val < 0 + 128
      omega

theorem gWin_set (p : Fin 2 × Fin 16) :
    (gWin (pt p)).view.set = (Finset.univ.filter fun i : S8x16384.Idx => (i 1).val / 512 = tileNo p) := by
  rw [show (gWin (pt p)).view.set
      = ((Rect.unit (s := S8x16384) (k0_off3 (pt p)) S8x512.size (k0_off3_inb (pt p))).set) from
    (View.set_slice _ _).trans Finset.map_refl]
  ext i
  rw [Rect.mem_set_unit]
  simp only [k0_off3_eq, Finset.mem_filter, Finset.mem_univ, true_and]
  have h1 : (i 0).val < 8 := (i 0).isLt
  unfold tileNo
  constructor
  · intro h
    have h0 := h 1
    change 1024 * p.2.val + 512 * p.1.val ≤ (i 1).val ∧ (i 1).val < 1024 * p.2.val + 512 * p.1.val + 512 at h0
    omega
  · intro h a
    match a with
    | 1 =>
      change 1024 * p.2.val + 512 * p.1.val ≤ (i 1).val ∧ (i 1).val < 1024 * p.2.val + 512 * p.1.val + 512
      omega
    | 0 =>
      change 0 ≤ (i 0).val ∧ (i 0).val < 0 + 8
      omega

omit [FloatOps F] in
theorem four (Φ : Fin 4 → sProp 𝕄) : bigSep Finset.univ Φ = iprop(Φ 0 ∗ Φ 1 ∗ Φ 2 ∗ Φ 3) := by
  rw [show (Finset.univ : Finset (Fin 4)) = {0, 1, 2, 3} by decide, SparseCore.bigSep_insert' (by decide), SparseCore.bigSep_insert' (by decide),
    SparseCore.bigSep_insert' (by decide), bigSep_singleton]

omit [FloatOps F] in
theorem tWin_pts (t : S16384.Idx → BitVec 32) (p : Fin 2 × Fin 16) (g : Fin 4) {inb : ∀ a, k0_off1 (pt p) (BitVec.ofNat 32 (128 * g.val)) a + S128.size a ≤ S16384.size a} :
    (tLoc d ↦[Finset.univ.filter fun i : S16384.Idx => (i 0).val / 128 = stretchNo (p, g)]{fullShare} t : sProp 𝕄)
      = ((tWin (pt p) (BitVec.ofNat 32 (128 * g.val)) inb).view.loc (V (nD := nD) d (cV (pt p)) (jV (pt p)))
          ↦[(tWin (pt p) (BitVec.ofNat 32 (128 * g.val)) inb).view.set]{fullShare} t) :=
  congrArg (fun S => (tLoc d ↦[S]{fullShare} t : sProp 𝕄)) (tWin_set p g).symm

omit [FloatOps F] in
theorem sep_congr4 {A B C E A' B' C' E' : sProp 𝕄} (h0 : A = A') (h1 : B = B') (h2 : C = C') (h3 : E = E') :
    iprop(A ∗ B ∗ C ∗ E) = iprop(A' ∗ B' ∗ C' ∗ E') := by subst h0 h1 h2 h3; rfl

/-- The targets' array is the tiles' stretches of it. -/
theorem targets_split (t : S16384.Idx → BitVec 32) :
    (tLoc d ↦{fullShare} t : sProp 𝕄) = bigSep Finset.univ fun p : Fin 2 × Fin 16 => Targets (F := F) d (pt p) t := by
  rw [pts_blocks (F := F) (ℓ := tLoc d) (fun i : S16384.Idx => (i 0).val / 128) stretchNo stretchNo_inj
    (fun i => stretchNo_cov _ (by have := (i 0).isLt; change (i 0).val < 16384 at this; omega)), bigSep_univ_prod]
  refine bigSep_congr fun p _ => ?_
  rw [four]
  unfold Targets
  exact sep_congr4 (tWin_pts d t p 0 (inb := k0_off1_inb (pt p) 0)) (tWin_pts d t p 1 (inb := k0_off1_inb (pt p) 1)) (tWin_pts d t p 2 (inb := k0_off1_inb (pt p) 2)) (tWin_pts d t p 3 (inb := k0_off1_inb (pt p) 3))

omit [FloatOps F] in
theorem rWin_pts (t : S16384x128.Idx → Elt F .f32) (p : Fin 2 × Fin 16) (g : Fin 4) {inb : ∀ a, k0_off2 (pt p) (BitVec.ofNat 32 (128 * g.val)) a + S128x128.size a ≤ S16384x128.size a} :
    (rLoc d ↦[Finset.univ.filter fun i : S16384x128.Idx => (i 0).val / 128 = stretchNo (p, g)]{fullShare} t : sProp 𝕄)
      = ((rWin (pt p) (BitVec.ofNat 32 (128 * g.val)) inb).view.loc (V (nD := nD) d (cV (pt p)) (jV (pt p)))
          ↦[(rWin (pt p) (BitVec.ofNat 32 (128 * g.val)) inb).view.set]{fullShare} t) :=
  congrArg (fun S => (rLoc d ↦[S]{fullShare} t : sProp 𝕄)) (rWin_set p g).symm

/-- The gathered rows' array is the tiles' stretches of it. -/
theorem rows_split (f : S16384x128.Idx → Elt F .f32) :
    (rLoc d ↦{fullShare} f : sProp 𝕄) = bigSep Finset.univ fun p : Fin 2 × Fin 16 => Rows (F := F) d (pt p) f := by
  rw [pts_blocks (F := F) (ℓ := rLoc d) (fun i : S16384x128.Idx => (i 0).val / 128) stretchNo stretchNo_inj
    (fun i => stretchNo_cov _ (by have := (i 0).isLt; change (i 0).val < 16384 at this; omega)), bigSep_univ_prod]
  refine bigSep_congr fun p _ => ?_
  rw [four]
  unfold Rows
  exact sep_congr4 (rWin_pts d f p 0 (inb := k0_off2_inb (pt p) 0)) (rWin_pts d f p 1 (inb := k0_off2_inb (pt p) 1)) (rWin_pts d f p 2 (inb := k0_off2_inb (pt p) 2)) (rWin_pts d f p 3 (inb := k0_off2_inb (pt p) 3))

/-- The small gathered array is the tiles' columns of it; -/
theorem cols_split (g : S8x16384.Idx → Elt F .f32) :
    (gLoc d ↦{fullShare} g : sProp 𝕄) = bigSep Finset.univ fun p : Fin 2 × Fin 16 =>
      ((gWin (pt p)).view.loc (V (nD := nD) d (cV (pt p)) (jV (pt p))) ↦[(gWin (pt p)).view.set]{fullShare} g) := by
  rw [pts_blocks (F := F) (ℓ := gLoc d) (fun i : S8x16384.Idx => (i 1).val / 512) tileNo tileNo_inj
    (fun i => tileNo_cov _ (by have := (i 1).isLt; change (i 1).val < 16384 at this; omega))]
  refine bigSep_congr fun p _ => ?_
  exact congrArg (fun S => (gLoc d ↦[S]{fullShare} g : sProp 𝕄)) (gWin_set p).symm

set_option maxRecDepth 8192 in
/-- and joined, with what each tile's columns hold. -/
theorem cols_join (t : S16384.Idx → BitVec 32) (b nz : S1000.Idx → Elt F .f32) :
    (bigSep Finset.univ fun p : Fin 2 × Fin 16 => iprop(∃ g, ⌜BnOK b nz t (gWin (pt p)).view.set g⌝
      ∗ ((gWin (pt p)).view.loc (V (nD := nD) d (cV (pt p)) (jV (pt p))) ↦[(gWin (pt p)).view.set]{fullShare} g)))
      ⊢ (iprop(∃ g, ⌜BnOK b nz t Finset.univ g⌝ ∗ gLoc d ↦{fullShare} g) : sProp 𝕄) := by
  have hne : Nonempty (Buf (Elt F) (gLoc d)) := ⟨fun _ => b (ix1 0)⟩
  refine (bigSep_exists_pi Finset.univ (fun (p : Fin 2 × Fin 16) (g : Buf (Elt F) (gLoc d)) =>
    (iprop(⌜BnOK b nz t (gWin (pt p)).view.set g⌝ ∗ gLoc d ↦[(gWin (pt p)).view.set]{fullShare} g) : sProp 𝕄))).trans ?_
  iintro ⟨%gs, H⟩
  ihave H' := (bigSep_pure_sep Finset.univ (fun p : Fin 2 × Fin 16 => BnOK b nz t (gWin (pt p)).view.set (gs p)) _) $$ H
  icases H' with ⟨%hp, H⟩
  ihave H' := (pointsTo_biUnion_join (ℓ := gLoc d) (q := fullShare) (Val := Elt F) Finset.univ (fun p => ((gWin (pt p)).view.set : Finset S8x16384.Idx)) gs (gs (0, 0))
    (fun p hp p' hp' h => by rw [gWin_set, gWin_set]; exact blocks_disjoint (fun i : S8x16384.Idx => (i 1).val / 512) tileNo tileNo_inj _ p hp p' hp' h)) $$ H
  icases H' with ⟨%g, %hg, Hg⟩
  have hc : (Finset.univ : Finset (Fin 2 × Fin 16)).biUnion (fun p => ((gWin (pt p)).view.set : Finset S8x16384.Idx)) = Finset.univ :=
    (Finset.biUnion_congr rfl fun p _ => gWin_set p).trans <| blocks_cover (fun i : S8x16384.Idx => (i 1).val / 512) tileNo
      (fun i => tileNo_cov _ (by have := (i 1).isLt; change (i 1).val < 16384 at this; omega))
  rw [hc]
  iexists g
  isplitr
  · ipureintro
    intro i hi
    have hi' := hi
    rw [← hc] at hi'
    obtain ⟨p, hpm, him⟩ := Finset.mem_biUnion.mp hi'
    rw [hg p hpm i him]
    exact hp p hpm i him
  · iexact Hg

/-! ## Everything at once -/

/-- A tile's share of a table. -/
def tileShare (p : Fin 2 × Fin 16) : PosShare TreeShare := Transfers.shareTok fullShare 32 ((finProdFinEquiv : Fin 2 × Fin 16 ≃ Fin 32) p)

omit [FloatOps F] in
theorem shares_split {ℓ : Loc nD τ sig} {f : Buf (Elt F) ℓ} :
    (ℓ ↦{fullShare} f : sProp 𝕄) ⊣⊢ iprop((ℓ ↦{Transfers.shareDrop fullShare 32} f) ∗ bigSep Finset.univ fun p : Fin 2 × Fin 16 => ℓ ↦{tileShare p} f) := by
  have h := Transfers.pointsTo_toks (nD := nD) (τ := τ) (sig := sig) (Ix := HIx 1) (Val := Elt F) (Name := ℕ) (U := UU) (Lvl := ℕ) (ℓ := ℓ) (S := Finset.univ) (f := f) fullShare 32
  rw [bigSep_univ_equiv (finProdFinEquiv : Fin 2 × Fin 16 ≃ Fin 32)] at h
  exact h

/-- What the call takes, and what it leaves. -/
def Given (W : S1000x128.Idx → Elt F .f32) (t : S16384.Idx → BitVec 32) (b nz : S1000.Idx → Elt F .f32)
    (f : S16384x128.Idx → Elt F .f32) (g : S8x16384.Idx → Elt F .f32) : sProp 𝕄 :=
  iprop((tLoc d ↦{fullShare} t) ∗ (wLoc d ↦{fullShare} W) ∗ (bLoc d ↦{fullShare} b) ∗ (nLoc d ↦{fullShare} nz) ∗ (rLoc d ↦{fullShare} f) ∗ gLoc d ↦{fullShare} g)
/-- What of the tables the tiles are not handed. -/
def Kept (W : S1000x128.Idx → Elt F .f32) (b nz : S1000.Idx → Elt F .f32) : sProp 𝕄 :=
  iprop((wLoc d ↦{Transfers.shareDrop fullShare 32} W) ∗ (bLoc d ↦{Transfers.shareDrop fullShare 32} b) ∗ (nLoc d ↦{Transfers.shareDrop fullShare 32} nz))

theorem given_split (W : S1000x128.Idx → Elt F .f32) (t : S16384.Idx → BitVec 32) (b nz : S1000.Idx → Elt F .f32)
    (f : S16384x128.Idx → Elt F .f32) (g : S8x16384.Idx → Elt F .f32) :
    Given d W t b nz f g ⊢ iprop((bigSep Finset.univ fun c : Fin 2 => bigSep Finset.univ fun i : Fin 16 => TileIn d (coordsV c i) W t b nz f g (tileShare (c, i))) ∗ Kept d W b nz) := by
  rw [show (bigSep Finset.univ fun c : Fin 2 => bigSep Finset.univ fun i : Fin 16 => TileIn d (coordsV c i) W t b nz f g (tileShare (c, i)))
    = bigSep Finset.univ fun p : Fin 2 × Fin 16 => TileIn (F := F) d (pt p) W t b nz f g (tileShare p) from
      (bigSep_univ_prod (fun p : Fin 2 × Fin 16 => TileIn (F := F) d (pt p) W t b nz f g (tileShare p))).symm]
  unfold Given Kept TileIn
  rw [targets_split, rows_split, cols_split]
  rw [bigSep_sep', bigSep_sep', bigSep_sep', bigSep_sep', bigSep_sep']
  iintro ⟨Ht, Hw, Hb, Hn, Hr, Hg⟩
  ihave Hw' := (shares_split (F := F)).1 $$ Hw
  icases Hw' with ⟨Kw, Hw⟩
  ihave Hb' := (shares_split (F := F)).1 $$ Hb
  icases Hb' with ⟨Kb, Hb⟩
  ihave Hn' := (shares_split (F := F)).1 $$ Hn
  icases Hn' with ⟨Kn, Hn⟩
  isplitr [Kw Kb Kn]
  · isplitl [Ht]; · iexact Ht
    isplitl [Hw]; · iexact Hw
    isplitl [Hb]; · iexact Hb
    isplitl [Hn]; · iexact Hn
    isplitl [Hr]; · iexact Hr
    iexact Hg
  · isplitl [Kw]; · iexact Kw
    isplitl [Kb]; · iexact Kb
    iexact Kn

theorem given_join (W : S1000x128.Idx → Elt F .f32) (t : S16384.Idx → BitVec 32) (b nz : S1000.Idx → Elt F .f32) :
    iprop((bigSep Finset.univ fun c : Fin 2 => bigSep Finset.univ fun i : Fin 16 => TileOut d (coordsV c i) W t b nz (tileShare (c, i))) ∗ Kept d W b nz)
      ⊢ iprop(∃ g, ⌜BnOK b nz t Finset.univ g⌝ ∗ Given d W t b nz (gWr W t) g) := by
  rw [show (bigSep Finset.univ fun c : Fin 2 => bigSep Finset.univ fun i : Fin 16 => TileOut d (coordsV c i) W t b nz (tileShare (c, i)))
    = bigSep Finset.univ fun p : Fin 2 × Fin 16 => TileOut (F := F) d (pt p) W t b nz (tileShare p) from
      (bigSep_univ_prod (fun p : Fin 2 × Fin 16 => TileOut (F := F) d (pt p) W t b nz (tileShare p))).symm]
  unfold Given Kept TileOut
  rw [targets_split, rows_split]
  rw [bigSep_sep', bigSep_sep', bigSep_sep', bigSep_sep', bigSep_sep']
  iintro ⟨⟨Ht, Hw, Hb, Hn, Hr, Hg⟩, Kw, Kb, Kn⟩
  ihave Hg' := (cols_join d t b nz) $$ Hg
  icases Hg' with ⟨%g, %hg, Hg⟩
  iexists g
  isplitr; · ipureintro; exact hg
  isplitl [Ht]; · iexact Ht
  isplitl [Hw Kw]
  · iapply (shares_split (F := F)).2; isplitl [Kw]; · iexact Kw
    iexact Hw
  isplitl [Hb Kb]
  · iapply (shares_split (F := F)).2; isplitl [Kb]; · iexact Kb
    iexact Hb
  isplitl [Hn Kn]
  · iapply (shares_split (F := F)).2; isplitl [Kn]; · iexact Kn
    iexact Hn
  isplitl [Hr]; · iexact Hr
  iexact Hg

end Split

end Cert.Proof.Nce

end
-- ==== Proof.Launch.lean ====
/-
  The SparseCore call's tasks as the launch sees them: what each tile is handed and hands back, its body's obligation, and
  the launch element of the ghost state.
-/
module

public import proofs.«01_k».proof.Proof.Split
@[expose] public section

noncomputable section

namespace Cert.Proof.Nce

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

section Launch

variable [FloatOps F] (m : (ℓ : Loc nD τ sig) → Buf (Elt F) ℓ) (ρ : Dev nD → PrngReg)

/-- Every target names a row of the tables. -/
def Targeted : Prop := ∀ d : Dev nD, ∀ i : S16384.Idx, ((show S16384.Idx → BitVec 32 from m (tLoc d)) i).toNat < 1000

/-! ## What the call's tasks are handed and hand back -/

/-- What the tile at `L` is handed of the launch memory's arrays, -/
def taskIn (d : Dev nD) (p : Fin 2 × Fin 16) : sProp 𝕄 :=
  TileIn d (coordsV p.1 p.2) (m (wLoc d)) (m (tLoc d)) (m (bLoc d)) (m (nLoc d)) (m (rLoc d)) (m (gLoc d)) (tileShare p)
/-- and what it hands back. -/
def taskOut (d : Dev nD) (p : Fin 2 × Fin 16) : sProp 𝕄 :=
  TileOut d (coordsV p.1 p.2) (m (wLoc d)) (m (tLoc d)) (m (bLoc d)) (m (nLoc d)) (tileShare p)

instance taskIn_storable (d : Dev nD) (p : Fin 2 × Fin 16) : BI.Storable (upEmb : UEmb _ 𝕄) (taskIn m d p) := by
  unfold taskIn TileIn Targets Rows; infer_instance
instance taskOut_storable (d : Dev nD) (p : Fin 2 × Fin 16) : BI.Storable (upEmb : UEmb _ 𝕄) (taskOut m d p) := by
  unfold taskOut TileOut Targets Rows; infer_instance

/-- A SparseCore and a tile, by their numbers. -/
def coreOf (n : ℕ) : Fin 2 := ⟨n % 2, Nat.mod_lt _ (by decide)⟩
def tileOf (n : ℕ) : Fin 16 := ⟨n % 16, Nat.mod_lt _ (by decide)⟩
theorem coreOf_val (c : Fin 2) : coreOf c.val = c := Fin.ext (Nat.mod_eq_of_lt c.isLt)
theorem tileOf_val (i : Fin 16) : tileOf i.val = i := Fin.ext (Nat.mod_eq_of_lt i.isLt)

def P : (K (F := F)).Pay (nD := nD) (Val := Elt F) (Name := ℕ) (U := UU) where
  st := fun _ d c => bigSep Finset.univ fun i : Fin 16 => taskIn m d (coreOf c.val, i)
  dn := fun _ d c => bigSep Finset.univ fun i : Fin 16 => taskOut m d (coreOf c.val, i)
  go := fun _ d c i => taskIn m d (coreOf c.val, tileOf i.val)
  td := fun _ d c i => taskOut m d (coreOf c.val, tileOf i.val)
  x := fun _ _ => iprop(emp)

instance P_storable : (P (F := F) m).IsStorable where
  st _ d c := (inferInstance : BI.Storable (upEmb : UEmb _ 𝕄) (bigSep Finset.univ fun i : Fin 16 => taskIn m d (coreOf c.val, i)))
  dn _ d c := (inferInstance : BI.Storable (upEmb : UEmb _ 𝕄) (bigSep Finset.univ fun i : Fin 16 => taskOut m d (coreOf c.val, i)))
  go _ d c i := (inferInstance : BI.Storable (upEmb : UEmb _ 𝕄) (taskIn m d (coreOf c.val, tileOf i.val)))
  td _ d c i := (inferInstance : BI.Storable (upEmb : UEmb _ 𝕄) (taskOut m d (coreOf c.val, tileOf i.val)))

omit [FloatOps F] in
theorem bigSep_tiles (Φ : Fin 16 → sProp 𝕄) : (bigSep Finset.univ fun i : Fin ((K (F := F)).nSub 0) => Φ (tileOf i.val)) = bigSep Finset.univ Φ :=
  bigSep_congr fun i _ => congrArg Φ (tileOf_val i)
omit [FloatOps F] in
theorem bigSep_cores (Φ : Fin 2 → sProp 𝕄) : (bigSep Finset.univ fun c : Fin ((K (F := F)).nCore 0) => Φ (coreOf c.val)) = bigSep Finset.univ Φ :=
  bigSep_congr fun c _ => congrArg Φ (coreOf_val c)

/-! ## The tiles' bodies -/

theorem defs₀_vector (c : Fin τ.nSC) (s : Fin τ.nSub) :
    defs₀ (F := F) (.scVector c s) 0 ()
      = SparseCore.onTile hcore0 hsub0 (fun c s => cc0_k (coordsV c s)
          wV (Memref.isWhole_whole _) bV (Memref.isWhole_whole _) nV (Memref.isWhole_whole _) tV (Memref.isWhole_whole _) rV (Memref.isWhole_whole _) gV (Memref.isWhole_whole _)
          iS (Memref.isWhole_whole _) aS (Memref.isWhole_whole _) cS (Memref.isWhole_whole _) oS (Memref.isWhole_whole _) btS (Memref.isWhole_whole _) ntS (Memref.isWhole_whole _)
          cc0_scratch6 cc0_scratch7 cc0_scratch8 cc0_scratch9 cc0_scoped0 cc0_scoped1 cc0_scoped2 cc0_scoped3 cc0_scoped4) ⟨⟩ c s := rfl

omit [FloatOps F] in
/-- The waits a tile's body records are its own, a case the launch allows. -/
theorem waits_weaken {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : Targeted m) : (K (F := F)).TileObl (D (F := F)) 𝒱 (P m) v₀ 0 := by
  intro d c i O W hO _ _
  simp only [show (P (F := F) m).ox = fun _ _ => 0 from rfl, add_zero]
  have hci : ((K (F := F)).core 0 c).val < grid0.bound 0 ∧ ((K (F := F)).sub 0 i).val < grid0.bound 1 := ⟨c.isLt, i.isLt⟩
  have hci' : (((K (F := F)).core 0 c).val < ![2, 16] 0) = True ∧ (((K (F := F)).sub 0 i).val < ![2, 16] 1) = True := ⟨eq_true hci.1, eq_true hci.2⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci', and_true, true_and, ↓reduceDIte]
  show iprop(_ ∗ _ ∗ taskIn m d (coreOf c.val, tileOf i.val) ∗ _) ⊢ wp _ _ _ _ (fun _ => iprop(taskOut m d (coreOf c.val, tileOf i.val) ∗ _))
  rw [show coreOf c.val = ⟨((K (F := F)).core 0 c).val, hci.1⟩ from Fin.ext (Nat.mod_eq_of_lt c.isLt), show tileOf i.val = ⟨((K (F := F)).sub 0 i).val, hci.2⟩ from Fin.ext (Nat.mod_eq_of_lt i.isLt)]
  exact (tile_body (d := d) (L := coordsV ⟨_, hci.1⟩ ⟨_, hci.2⟩) hF (hpre d) (q := tileShare (⟨_, hci.1⟩, ⟨_, hci.2⟩)) (O := O) (Ws := W) hO).trans (wp_mono Idealize.ShloMosaic.frame _ _ fun _ => waits_weaken)

theorem vecSplit : (K (F := F)).VecSplit' (P m) 0 := by
  intro d c
  show (bigSep Finset.univ fun i : Fin 16 => taskIn m d (coreOf c.val, i)) ⊢ |={Set.univ}=> iprop(
      (bigSep Finset.univ fun i : Fin ((K (F := F)).nSub 0) => taskIn m d (coreOf c.val, tileOf i.val))
      ∗ ((bigSep Finset.univ fun i : Fin ((K (F := F)).nSub 0) => taskOut m d (coreOf c.val, tileOf i.val)) -∗ bigSep Finset.univ fun i : Fin 16 => taskOut m d (coreOf c.val, i)))
  rw [bigSep_tiles (F := F) (fun i => taskIn m d (coreOf c.val, i)), bigSep_tiles (F := F) (fun i => taskOut m d (coreOf c.val, i))]
  iintro H; imodintro
  isplitl [H]; · iexact H
  iintro H; iexact H

/-! ## The call's arrays, as what it starts from and what it ends with -/

theorem st_given (d : Dev nD) : Given d (m (wLoc d)) (m (tLoc d)) (m (bLoc d)) (m (nLoc d)) (m (rLoc d)) (m (gLoc d))
    ⊢ iprop((bigSep Finset.univ fun c : Fin ((K (F := F)).nCore 0) => (P m).st 0 d c) ∗ Kept d (m (wLoc d)) (m (bLoc d)) (m (nLoc d))) := by
  show _ ⊢ iprop((bigSep Finset.univ fun c : Fin ((K (F := F)).nCore 0) => bigSep Finset.univ fun i : Fin 16 => taskIn m d (coreOf c.val, i)) ∗ _)
  rw [bigSep_cores (F := F) (fun c => bigSep Finset.univ fun i : Fin 16 => taskIn m d (c, i))]
  exact given_split d _ _ _ _ _ _
theorem dn_given (d : Dev nD) : iprop((bigSep Finset.univ fun c : Fin ((K (F := F)).nCore 0) => (P m).dn 0 d c) ∗ Kept d (m (wLoc d)) (m (bLoc d)) (m (nLoc d)))
    ⊢ iprop(∃ g, ⌜BnOK (m (bLoc d)) (m (nLoc d)) (m (tLoc d)) Finset.univ g⌝ ∗ Given d (m (wLoc d)) (m (tLoc d)) (m (bLoc d)) (m (nLoc d)) (gWr (m (wLoc d)) (m (tLoc d))) g) := by
  show iprop((bigSep Finset.univ fun c : Fin ((K (F := F)).nCore 0) => bigSep Finset.univ fun i : Fin 16 => taskOut m d (coreOf c.val, i)) ∗ _) ⊢ _
  rw [bigSep_cores (F := F) (fun c => bigSep Finset.univ fun i : Fin 16 => taskOut m d (c, i))]
  exact given_join d _ _ _ _

/-! ## The launch element of the ghost state -/

abbrev adm : (p : Fin 2) → (pcfgs (F := F) p).Adm := fun q => (cfgs q).toPCfg_adm
abbrev pins : Dev nD → Fin 2 → Pipeline.Cfg sig Λ₀ := Pipeline.pinD (pcfgs (F := F)) (fun _ : Dev nD => adm (F := F))

/-- The two pipelines' rounds, dealt to a core. -/
def G (d : Dev nD) : sProp 𝕄 :=
  iprop((bigSep Finset.univ fun p => Pipeline.PerCore.cellsGhost (pins (F := F)) EP p d) ∗ bigSep Finset.univ fun p => Pipeline.PerCore.toksInit (pins (F := F)) EP p d)

theorem pins_inj : Function.Injective (Pipeline.PerCore.cellOf (nD := nD) (τ := τ) (pins (F := F))) := cellOf_inj

def u₀ : UU := (initOf (K (F := F)).hsCells (K (F := F)).hsToks, (initOf (Pipeline.PerCore.cells (pins (F := F)) pins_inj) (Pipeline.PerCore.launchToks (pins (F := F)) pins_inj), 1))

omit [FloatOps F] in
theorem emps {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  iintro Hu
  ihave H := (ownU_pair (initOf (K (F := F)).hsCells (K (F := F)).hsToks) _) $$ Hu
  icases H with ⟨HH, HR⟩
  ihave H2 := (own_pair_emb embR _ (1 : Counters)) $$ HR
  icases H2 with ⟨HP, -⟩
  imod (Pipeline.PerCore.fund_ghost (pins (F := F)) EP pins_inj) $$ HP with ⟨Hc, Ht⟩
  imodintro
  isplitl [HH]; · iexact HH
  isplitl [Hc Ht]
  · unfold G; rw [bigSep_sep']
    isplitl [Hc]; · iexact Hc
    iexact Ht
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), emps]
  iempintro
end Launch

end Cert.Proof.Nce

end
-- ==== Proof.DataRun.lean ====
/- The body of the TensorCore call over the data: what one grid point leaves in the accumulator. -/
module

public import proofs.«01_k».proof.Proof.Setup
public import Idealize.ShloMosaic.Lib.WholeRead
public import Idealize.ShloMosaic.Lib.Pipeline.Value
public import Idealize.ShloMosaic.Lib.Pipeline.ReadBack

@[expose] public section

noncomputable section

namespace Cert.Proof.Nce

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- Row `k` of a block of the transposed pair of gathered arrays. -/
def rowOf {n m : ℕ} {α : Type} (k : Fin n) (x : (⟨2, ![n, m]⟩ : Shape).Idx → α) : (⟨2, ![1, m]⟩ : Shape).Idx → α := fun j => x (ix2 k (j 1))

/-- A load of the whole of a staging buffer reads its contents; -/
theorem load_whole {sp : Space} {S : Shape} {e : EltTy} {r : Memref sig .tc sp S e} (h : r.IsWhole) (X : S.Idx → Elt F e)
    {off : Fin S.rank → ℕ} (inb : ∀ a, off a + S.size a ≤ S.size a) :
    View.readAt (Elt F) r.view (Rect.unit (s := S) off S.size inb).toLoadRect (h.unread X) = X := by
  funext x
  rw [h.readAt_unread]
  refine congrArg X (funext fun a => Fin.ext ?_)
  have h0 := inb a
  have : ((Rect.unit (s := S) off S.size inb).toLoadRect.idx x a).val = off a + (x a).val := by
    simp [Rect.toLoadRect, LoadRect.idx, Rect.unit]
  rw [this]; omega

/-- a load of one row reads that row. -/
theorem load_row {sp : Space} {n m : ℕ} {e : EltTy} {r : Memref sig .tc sp (⟨2, ![n, m]⟩ : Shape) e} (h : r.IsWhole) (X : (⟨2, ![n, m]⟩ : Shape).Idx → Elt F e) (k : Fin n)
    (inb : ∀ a, (![k.val, 0] : Fin 2 → ℕ) a + (![1, m] : Fin 2 → ℕ) a ≤ (⟨2, ![n, m]⟩ : Shape).size a) :
    View.readAt (Elt F) r.view (Rect.unit (s := (⟨2, ![n, m]⟩ : Shape)) ![k.val, 0] ![1, m] inb).toLoadRect (h.unread X) = rowOf k X := by
  funext x
  rw [h.readAt_unread]
  refine congrArg X (ix2_eta _ _ _ ?_ ?_)
  · have h1 : (x 0).val < 1 := (x 0).isLt
    have h2 : (x 0).val = 0 := by omega
    simp [Rect.toLoadRect, LoadRect.idx, Rect.unit, h2]
  · simp [Rect.toLoadRect, LoadRect.idx, Rect.unit]

/-- What a store of the whole of a staging buffer leaves reads as the value stored. -/
theorem store_whole {sp : Space} {S : Shape} {e : EltTy} {r : Memref sig .tc sp S e} [∀ e, Nonempty (Elt F e)] (f : r.view.ty.Contents (Elt F))
    {off : Fin S.rank → ℕ} (h0 : off = fun _ => 0) (inb : ∀ a, off a + S.size a ≤ S.size a) (w : S.Idx → Elt F e) (L : List (View.Piece (Elt F) S e)) :
    r.view.read (Elt F) (r.view.writes (Elt F) f (⟨Rect.unit (s := S) off S.size inb, w⟩ :: L)) = w := by
  rw [View.read_writes_eq_canon _ _ _ fun y => ⟨_, List.mem_cons_self, by subst h0; show y ∈ (Rect.whole S).set; rw [Rect.set_whole]; exact Finset.mem_univ y⟩]
  exact View.canon_cons_unit_zero h0 inb w L

theorem zero2 : (![0, 0] : Fin 2 → ℕ) = fun _ => 0 := by funext a; fin_cases a <;> rfl

variable [FloatOps F]

theorem congr_pay1 (i : grid2.Coords) {x0 x0' x1 x1' : Vec F S4096x128 .f32} {r0 r0' r1 r1' : Vec F S1x4096 .f32} {y y' : Vec F S1x1 .f32}
    (h0 : x0 = x0') (h1 : x1 = x1') (h2 : r0 = r0') (h3 : r1 = r1') (h4 : y = y') : k2_pay1 i x0 x1 r0 r1 y = k2_pay1 i x0' x1' r0' r1' y' := by
  rw [h0, h1, h2, h3, h4]

set_option maxHeartbeats 1000000 in
/-- The data body at a point before the last: it adds the point's block to the accumulator. -/
theorem data_run_early (c : Dev nD) (i : grid2.Coords) (arg1 : Memref sig .tc .vmem S4096x128 .f32) (harg1 : arg1.IsWhole) (arg2 : Memref sig .tc .vmem S4096x128 .f32) (harg2 : arg2.IsWhole) (arg3 : Memref sig .tc .vmem S8x4096 .f32) (harg3 : arg3.IsWhole)
    (arg4 : Memref sig .tc .vmem S1x1 .f32) (harg4 : arg4.IsWhole) (arg5 : Memref sig .tc .vmem S1x1 .f32) (harg5 : arg5.IsWhole)
    (hc : ¬ Scalar.cmpi .ne (Scalar.extui (Scalar.cmpi .eq (BitVec.ofNat 32 (i 0).val) 3#32)) 0#32 = 1#1)
    (x0 : Vec F S4096x128 .f32) (x1 : Vec F S4096x128 .f32) (x2 : Vec F S8x4096 .f32) (x3 : Vec F S1x1 .f32) (y : Vec F S1x1 .f32) (E : Set ℕ) (Q : PUnit → sProp 𝕄) :
    iprop(owns (c.tc : Thread nD τ) arg1 fullShare x0 ∗ owns (c.tc : Thread nD τ) arg2 fullShare x1 ∗ owns (c.tc : Thread nD τ) arg3 fullShare x2 ∗ owns (c.tc : Thread nD τ) arg4 fullShare x3 ∗ owns (c.tc : Thread nD τ) arg5 fullShare y
        ∗ (iprop(owns (c.tc : Thread nD τ) arg1 fullShare x0 ∗ owns (c.tc : Thread nD τ) arg2 fullShare x1 ∗ owns (c.tc : Thread nD τ) arg3 fullShare x2 ∗ owns (c.tc : Thread nD τ) arg4 fullShare x3 ∗ owns (c.tc : Thread nD τ) arg5 fullShare (k2_pay1 i x0 x1 (rowOf 0 x2) (rowOf 1 x2) y)) -∗ Q ⟨⟩))
      ⊢ wp Idealize.ShloMosaic.frame (wpE (defs₀ (F := F)) Variants.none (c.tc : Thread nD τ) none) E (cc2__data_body i arg1 harg1 arg2 harg2 arg3 harg3 arg4 harg4 arg5 harg5) Q := by
  simp only [cc2__data_body_eq_skeleton]; unfold cc2__data_body_skel
  unfold owns
  iintro ⟨⟨%f0, %hf0, H0⟩, ⟨%f1, %hf1, H1⟩, ⟨%f2, %hf2, H2⟩, ⟨%f3, %hf3, H3⟩, ⟨%f4, %hf4, H4⟩, Hk⟩
  obtain rfl := harg1.eq_unread hf0; obtain rfl := harg2.eq_unread hf1; obtain rfl := harg3.eq_unread hf2; obtain rfl := harg4.eq_unread hf3; obtain rfl := harg5.eq_unread hf4
  sl_exec (disch := sl_exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  iexists _; isplitr; swap; · iexact H4
  ipureintro
  refine (store_whole _ zero2 _ _ _).trans ?_
  exact congr_pay1 i (load_whole harg1 x0 _) (load_whole harg2 x1 _) (load_row harg3 x2 0 _) (load_row harg3 x2 1 _) (load_whole harg5 y _)
set_option maxHeartbeats 1000000 in
/-- The data body at the last point: it adds the block, then the noise sum, and scales. -/
theorem data_run_last (c : Dev nD) (i : grid2.Coords) (arg1 : Memref sig .tc .vmem S4096x128 .f32) (harg1 : arg1.IsWhole) (arg2 : Memref sig .tc .vmem S4096x128 .f32) (harg2 : arg2.IsWhole) (arg3 : Memref sig .tc .vmem S8x4096 .f32) (harg3 : arg3.IsWhole)
    (arg4 : Memref sig .tc .vmem S1x1 .f32) (harg4 : arg4.IsWhole) (arg5 : Memref sig .tc .vmem S1x1 .f32) (harg5 : arg5.IsWhole)
    (hc : Scalar.cmpi .ne (Scalar.extui (Scalar.cmpi .eq (BitVec.ofNat 32 (i 0).val) 3#32)) 0#32 = 1#1)
    (x0 : Vec F S4096x128 .f32) (x1 : Vec F S4096x128 .f32) (x2 : Vec F S8x4096 .f32) (x3 : Vec F S1x1 .f32) (y : Vec F S1x1 .f32) (E : Set ℕ) (Q : PUnit → sProp 𝕄) :
    iprop(owns (c.tc : Thread nD τ) arg1 fullShare x0 ∗ owns (c.tc : Thread nD τ) arg2 fullShare x1 ∗ owns (c.tc : Thread nD τ) arg3 fullShare x2 ∗ owns (c.tc : Thread nD τ) arg4 fullShare x3 ∗ owns (c.tc : Thread nD τ) arg5 fullShare y
        ∗ (iprop(owns (c.tc : Thread nD τ) arg1 fullShare x0 ∗ owns (c.tc : Thread nD τ) arg2 fullShare x1 ∗ owns (c.tc : Thread nD τ) arg3 fullShare x2 ∗ owns (c.tc : Thread nD τ) arg4 fullShare x3 ∗ owns (c.tc : Thread nD τ) arg5 fullShare (k2_pay2 (k2_pay1 i x0 x1 (rowOf 0 x2) (rowOf 1 x2) y) x3)) -∗ Q ⟨⟩))
      ⊢ wp Idealize.ShloMosaic.frame (wpE (defs₀ (F := F)) Variants.none (c.tc : Thread nD τ) none) E (cc2__data_body i arg1 harg1 arg2 harg2 arg3 harg3 arg4 harg4 arg5 harg5) Q := by
  simp only [cc2__data_body_eq_skeleton]; unfold cc2__data_body_skel
  unfold owns
  iintro ⟨⟨%f0, %hf0, H0⟩, ⟨%f1, %hf1, H1⟩, ⟨%f2, %hf2, H2⟩, ⟨%f3, %hf3, H3⟩, ⟨%f4, %hf4, H4⟩, Hk⟩
  obtain rfl := harg1.eq_unread hf0; obtain rfl := harg2.eq_unread hf1; obtain rfl := harg3.eq_unread hf2; obtain rfl := harg4.eq_unread hf3; obtain rfl := harg5.eq_unread hf4
  sl_exec (disch := sl_exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  iexists _; isplitr; swap; · iexact H4
  ipureintro
  refine (store_whole _ zero2 _ _ _).trans ?_
  refine congr (congrArg k2_pay2 ?_) (load_whole harg4 x3 _)
  unfold data_run_last.sl.v31 data_run_last.sl.H4_1
  refine (View.readCov_unit_zero _ zero2 _ _).trans ?_
  exact congr_pay1 i (load_whole harg1 x0 _) (load_whole harg2 x1 _) (load_row harg3 x2 0 _) (load_row harg3 x2 1 _) (load_whole harg5 y _)

end Cert.Proof.Nce

end
-- ==== Proof.NoiseRun.lean ====
/- The body of the TensorCore call over the noise samples: what one grid point leaves in the accumulator and in the scratch. -/
module

public import proofs.«01_k».proof.Proof.DataRun

@[expose] public section

noncomputable section

namespace Cert.Proof.Nce

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- The noise words' column the body reads: the eight columns of its table are the same. -/
def colOf {α : Type} (x : S64x8.Idx → α) : S64x1.Idx → α := fun j => x (ix2 (j 0) 0)

theorem load_col {r : Memref sig .tc .vmem S64x8 .i32} (h : r.IsWhole) (X : S64x8.Idx → Elt F .i32)
    (inb : ∀ a, (![0, 0] : Fin 2 → ℕ) a + S64x1.size a ≤ S64x8.size a) :
    View.readAt (Elt F) r.view (Rect.unit (s := S64x8) ![0, 0] S64x1.size inb).toLoadRect (h.unread X) = colOf X := by
  funext x
  rw [h.readAt_unread]
  have h1 : (x 1).val < 1 := (x 1).isLt
  have h2 : (x 1).val = 0 := by omega
  refine congrArg X (ix2_eta _ _ _ ?_ ?_)
  · simp [Rect.toLoadRect, LoadRect.idx, Rect.unit]
  · simp [Rect.toLoadRect, LoadRect.idx, Rect.unit, h2]

/-- A load of a row of what one whole store left reads the row stored. -/
theorem load_row_stored [∀ e, Nonempty (Elt F e)] {sp : Space} {n m : ℕ} {e : EltTy} (v : View sig .tc sp (⟨2, ![n, m]⟩ : Shape) e) (w : (⟨2, ![n, m]⟩ : Shape).Idx → Elt F e) (k : Fin n)
    (inb0 : ∀ a, (![0, 0] : Fin 2 → ℕ) a + (⟨2, ![n, m]⟩ : Shape).size a ≤ (⟨2, ![n, m]⟩ : Shape).size a)
    (inb : ∀ a, (![k.val, 0] : Fin 2 → ℕ) a + (![1, m] : Fin 2 → ℕ) a ≤ (⟨2, ![n, m]⟩ : Shape).size a) :
    v.readCov [(⟨Rect.unit (s := (⟨2, ![n, m]⟩ : Shape)) ![0, 0] (⟨2, ![n, m]⟩ : Shape).size inb0, w⟩ : View.Piece (Elt F) _ e)] (Rect.unit (s := (⟨2, ![n, m]⟩ : Shape)) ![k.val, 0] ![1, m] inb).toLoadRect = rowOf k w := by
  rw [View.readCov_eq_canon', View.canon_unit_zero zero2]
  funext x
  have h1 : (x 0).val < 1 := (x 0).isLt
  have h2 : (x 0).val = 0 := by omega
  refine congrArg w (ix2_eta _ _ _ ?_ ?_)
  · simp [Rect.toLoadRect, LoadRect.idx, Rect.unit, h2]
  · simp [Rect.toLoadRect, LoadRect.idx, Rect.unit]

variable [FloatOps F]

/-- The sampled rows of the weights, and the sampled biases and noise values, as the first point leaves them. -/
abbrev nzW (x2 : Vec F S64x8 .i32) (x1 : Vec F S1000x128 .f32) : Vec F S64x128 .f32 := k1_pay3 (colOf x2) x1
abbrev nzA (x2 : Vec F S64x8 .i32) (x3 : Vec F S1000x8 .f32) : Vec F S2x64 .f32 := k1_pay4 (colOf x2) x3
/-- One point's step: its block's sum added to the accumulator (which the first point takes as zero). -/
def nzStep (i : grid1.Coords) (x0 : Vec F S4096x128 .f32) (s0 : Vec F S64x128 .f32) (s1 : Vec F S2x64 .f32) (y : Vec F S1x1 .f32) : Vec F S1x1 .f32 :=
  k1_pay1 (k1_pay5 x0 (rowOf 0 s1) (rowOf 1 s1) s0) (k1_pay6 i y)

theorem congr_nzStep (i : grid1.Coords) {x0 x0' : Vec F S4096x128 .f32} {r0 r0' r1 r1' : Vec F S1x64 .f32} {s0 s0' : Vec F S64x128 .f32} {y y' : Vec F S1x1 .f32}
    (h0 : x0 = x0') (h2 : r0 = r0') (h3 : r1 = r1') (h1 : s0 = s0') (h4 : y = y') :
    k1_pay1 (k1_pay5 x0 r0 r1 s0) (k1_pay6 i y) = k1_pay1 (k1_pay5 x0' r0' r1' s0') (k1_pay6 i y') := by
  rw [h0, h1, h2, h3, h4]

set_option maxHeartbeats 1000000 in
/-- The noise body at a point after the first: it adds the point's block to the accumulator. -/
theorem noise_run_later (c : Dev nD) (i : grid1.Coords) (arg1 : Memref sig .tc .vmem S4096x128 .f32) (harg1 : arg1.IsWhole) (arg2 : Memref sig .tc .vmem S1000x128 .f32) (harg2 : arg2.IsWhole) (arg3 : Memref sig .tc .vmem S64x8 .i32) (harg3 : arg3.IsWhole) (arg4 : Memref sig .tc .vmem S1000x8 .f32) (harg4 : arg4.IsWhole) (arg5 : Memref sig .tc .vmem S1x1 .f32) (harg5 : arg5.IsWhole) (arg6 : Memref sig .tc .vmem S64x128 .f32) (harg6 : arg6.IsWhole) (arg7 : Memref sig .tc .vmem S2x64 .f32) (harg7 : arg7.IsWhole)
    (hc : ¬ Scalar.cmpi .ne (Scalar.extui (Scalar.cmpi .eq (BitVec.ofNat 32 (i 0).val) 0#32)) 0#32 = 1#1)
    (x0 : Vec F S4096x128 .f32) (x1 : Vec F S1000x128 .f32) (x2 : Vec F S64x8 .i32) (x3 : Vec F S1000x8 .f32) (y : Vec F S1x1 .f32) (s0 : Vec F S64x128 .f32) (s1 : Vec F S2x64 .f32) (E : Set ℕ) (Q : PUnit → sProp 𝕄) :
    iprop(owns (c.tc : Thread nD τ) arg1 fullShare x0 ∗ owns (c.tc : Thread nD τ) arg2 fullShare x1 ∗ owns (c.tc : Thread nD τ) arg3 fullShare x2 ∗ owns (c.tc : Thread nD τ) arg4 fullShare x3 ∗ owns (c.tc : Thread nD τ) arg5 fullShare y ∗ owns (c.tc : Thread nD τ) arg6 fullShare s0 ∗ owns (c.tc : Thread nD τ) arg7 fullShare s1
        ∗ (iprop(owns (c.tc : Thread nD τ) arg1 fullShare x0 ∗ owns (c.tc : Thread nD τ) arg2 fullShare x1 ∗ owns (c.tc : Thread nD τ) arg3 fullShare x2 ∗ owns (c.tc : Thread nD τ) arg4 fullShare x3 ∗ owns (c.tc : Thread nD τ) arg5 fullShare (nzStep i x0 s0 s1 y) ∗ owns (c.tc : Thread nD τ) arg6 fullShare s0 ∗ owns (c.tc : Thread nD τ) arg7 fullShare s1) -∗ Q ⟨⟩))
      ⊢ wp Idealize.ShloMosaic.frame (wpE (defs₀ (F := F)) Variants.none (c.tc : Thread nD τ) none) E (cc1__noise_body i arg1 harg1 arg2 harg2 arg3 harg3 arg4 harg4 arg5 harg5 arg6 harg6 arg7 harg7) Q := by
  simp only [cc1__noise_body_eq_skeleton]; unfold cc1__noise_body_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
  sl_exec (disch := sl_exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; swap; · iexact H4
    ipureintro
    refine (store_whole _ zero2 _ _ _).trans ?_
    exact congr_nzStep i (load_whole harg1 x0 _) (load_row harg7 s1 0 _) (load_row harg7 s1 1 _) (load_whole harg6 s0 _) (load_whole harg5 y _)
  isplitl [H5]
  · iexists _; isplitr; swap; · iexact H5
    ipureintro
    exact harg6.read_unread _
  iexists _; isplitr; swap; · iexact H6
  ipureintro
  exact harg7.read_unread _

set_option maxHeartbeats 1000000 in
/-- The noise body at the first point: it gathers the sampled rows, then adds the point's block. -/
theorem noise_run_first (c : Dev nD) (i : grid1.Coords) (arg1 : Memref sig .tc .vmem S4096x128 .f32) (harg1 : arg1.IsWhole) (arg2 : Memref sig .tc .vmem S1000x128 .f32) (harg2 : arg2.IsWhole) (arg3 : Memref sig .tc .vmem S64x8 .i32) (harg3 : arg3.IsWhole) (arg4 : Memref sig .tc .vmem S1000x8 .f32) (harg4 : arg4.IsWhole) (arg5 : Memref sig .tc .vmem S1x1 .f32) (harg5 : arg5.IsWhole) (arg6 : Memref sig .tc .vmem S64x128 .f32) (harg6 : arg6.IsWhole) (arg7 : Memref sig .tc .vmem S2x64 .f32) (harg7 : arg7.IsWhole)
    (hc : Scalar.cmpi .ne (Scalar.extui (Scalar.cmpi .eq (BitVec.ofNat 32 (i 0).val) 0#32)) 0#32 = 1#1)
    (x0 : Vec F S4096x128 .f32) (x1 : Vec F S1000x128 .f32) (x2 : Vec F S64x8 .i32) (x3 : Vec F S1000x8 .f32) (y : Vec F S1x1 .f32) (s0 : Vec F S64x128 .f32) (s1 : Vec F S2x64 .f32) (E : Set ℕ) (Q : PUnit → sProp 𝕄) :
    iprop(owns (c.tc : Thread nD τ) arg1 fullShare x0 ∗ owns (c.tc : Thread nD τ) arg2 fullShare x1 ∗ owns (c.tc : Thread nD τ) arg3 fullShare x2 ∗ owns (c.tc : Thread nD τ) arg4 fullShare x3 ∗ owns (c.tc : Thread nD τ) arg5 fullShare y ∗ owns (c.tc : Thread nD τ) arg6 fullShare s0 ∗ owns (c.tc : Thread nD τ) arg7 fullShare s1
        ∗ (iprop(owns (c.tc : Thread nD τ) arg1 fullShare x0 ∗ owns (c.tc : Thread nD τ) arg2 fullShare x1 ∗ owns (c.tc : Thread nD τ) arg3 fullShare x2 ∗ owns (c.tc : Thread nD τ) arg4 fullShare x3 ∗ owns (c.tc : Thread nD τ) arg5 fullShare (nzStep i x0 (nzW x2 x1) (nzA x2 x3) y) ∗ owns (c.tc : Thread nD τ) arg6 fullShare (nzW x2 x1) ∗ owns (c.tc : Thread nD τ) arg7 fullShare (nzA x2 x3)) -∗ Q ⟨⟩))
      ⊢ wp Idealize.ShloMosaic.frame (wpE (defs₀ (F := F)) Variants.none (c.tc : Thread nD τ) none) E (cc1__noise_body i arg1 harg1 arg2 harg2 arg3 harg3 arg4 harg4 arg5 harg5 arg6 harg6 arg7 harg7) Q := by
  simp only [cc1__noise_body_eq_skeleton]; unfold cc1__noise_body_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
  sl_exec (disch := sl_exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; swap; · iexact H4
    ipureintro
    refine (store_whole _ zero2 _ _ _).trans ?_
    show k1_pay1 (k1_pay5 _ _ _ _) (k1_pay6 i _) = _
    unfold noise_run_first.sl.v4 noise_run_first.sl.v5 noise_run_first.sl.v6 noise_run_first.sl.H5_1 noise_run_first.sl.H6_1
    refine (congr_nzStep i (load_whole harg1 x0 _) (load_row_stored _ _ 0 _ _) (load_row_stored _ _ 1 _ _) (View.readCov_unit_zero _ zero2 _ _) (load_whole harg5 y _)).trans ?_
    unfold nzStep
    have hW : k1_pay3 (View.readAt (Elt F) arg3.view (Rect.unit (s := S64x8) ![0, 0] S64x1.size inb_S64x8_S64x1_0_0).toLoadRect (harg3.unread x2)) (View.readAt (Elt F) arg2.view (Rect.unit ![0, 0] S1000x128.size inb_S1000x128_S1000x128_0_0).toLoadRect (harg2.unread x1)) = nzW x2 x1 :=
      congr (congrArg k1_pay3 (load_col harg3 x2 _)) (load_whole harg2 x1 _)
    have hA : k1_pay4 (View.readAt (Elt F) arg3.view (Rect.unit (s := S64x8) ![0, 0] S64x1.size inb_S64x8_S64x1_0_0).toLoadRect (harg3.unread x2)) (View.readAt (Elt F) arg4.view (Rect.unit ![0, 0] S1000x8.size inb_S1000x8_S1000x8_0_0).toLoadRect (harg4.unread x3)) = nzA x2 x3 :=
      congr (congrArg k1_pay4 (load_col harg3 x2 _)) (load_whole harg4 x3 _)
    rw [hW, hA]
  isplitl [H5]
  · iexists _; isplitr; swap; · iexact H5
    ipureintro
    unfold noise_run_first.sl.H5_1
    refine (store_whole _ zero2 _ _ _).trans ?_
    exact congr (congrArg k1_pay3 (load_col harg3 x2 _)) (load_whole harg2 x1 _)
  iexists _; isplitr; swap; · iexact H6
  ipureintro
  unfold noise_run_first.sl.H6_1
  refine (store_whole _ zero2 _ _ _).trans ?_
  exact congr (congrArg k1_pay4 (load_col harg3 x2 _)) (load_whole harg4 x3 _)

end Cert.Proof.Nce

end
-- ==== Proof.NoiseRegion.lean ====
/- The TensorCore call over the noise samples as a region: its proof data at any entry contents, and its body at every point. -/
module

public import proofs.«01_k».proof.Proof.NoiseRun
public import Idealize.ShloMosaic.Lib.Pipeline.RegionArraysS
public import Idealize.ShloMosaic.Lib.WordCmp
@[expose] public section

noncomputable section

namespace Cert.Proof.Nce

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat)

variable {F : FTy → Type}

local notation "𝕄" => MT nD τ sig (HIx 1) (Elt F) ℕ UU ℕ

variable [FloatOps F]

/-! ## The blocks -/

variable (X : Dev nD → Valuation τ sig (Elt F))

/-- Window `w`'s block at point `t`, read off its array at the entry contents. -/
def blk1 (c : Dev nD) (w : Fin cfg1.W) (t : Fin cfg1.N) : ((cfg1.win w).xblock (cfg1.grid.coords t)).Idx → Elt F (cfg1.win w).elt :=
  ((cfg1.win w).blk t).view.read (Elt F) (X c (Proc.devRef .tc (Pipeline.arrRef spec1 w)))

/-- The grid's points, counted round. -/
def pnt1 (n : ℕ) : Fin cfg1.N := ⟨n % 4, by show n % 4 < grid1.N; rw [N_1]; omega⟩
theorem pnt1_val (t : Fin cfg1.N) : pnt1 t.val = t := Fin.ext (Nat.mod_eq_of_lt (lt_of_lt_of_eq t.isLt N_1))

/-- The sampled rows of the weights, and the sampled biases and noise values. -/
def smpW (c : Dev nD) : Vec F S64x128 .f32 := nzW (blk1 X c 2 (pnt1 0)) (blk1 X c 1 (pnt1 0))
def smpA (c : Dev nD) : Vec F S2x64 .f32 := nzA (blk1 X c 2 (pnt1 0)) (blk1 X c 3 (pnt1 0))

/-- The accumulator after each point. -/
def nzAcc (c : Dev nD) : ℕ → Vec F S1x1 .f32
  | 0 => nzStep (grid1.coords (pnt1 0)) (blk1 X c 0 (pnt1 0)) (smpW X c) (smpA X c) (constant S1x1 .f32 0x00000000#32)
  | n + 1 => nzStep (grid1.coords (pnt1 (n + 1))) (blk1 X c 0 (pnt1 (n + 1))) (smpW X c) (smpA X c) (nzAcc c n)

/-- The body's branch is taken at the first point only. -/
abbrev first1 (i : grid1.Coords) : Prop := Scalar.cmpi .ne (Scalar.extui (Scalar.cmpi .eq (BitVec.ofNat 32 (i 0).val) 0#32)) 0#32 = 1#1
theorem first1_iff (t : Fin grid1.N) : first1 (grid1.coords t) ↔ t.val % 4 = 0 := by
  have ht : t.val < 4 := lt_of_lt_of_eq t.isLt N_1
  have e0 : (grid1.coords t 0).val = t.val / 1 % 4 := Pipeline.Grid.coords_val t 0 (by decide) rfl
  simp only [first1, e0]
  word_cmp

/-- At the first point the accumulator is taken as zero, whatever it holds. -/
theorem pay6_first (t : Fin grid1.N) (h : t.val = 0) (y y' : Vec F S1x1 .f32) : k1_pay6 (grid1.coords t) y = k1_pay6 (grid1.coords t) y' := by
  have e0 : (grid1.coords t 0).val = t.val / 1 % 4 := Pipeline.Grid.coords_val t 0 (by decide) rfl
  have hc : Scalar.cmpi .eq (BitVec.ofNat 32 (grid1.coords t 0).val) 0#32 = 1#1 := by rw [e0, h]; decide
  simp only [k1_pay6, hc]; rfl
theorem nzStep_zero (c : Dev nD) (y : Vec F S1x1 .f32) :
    nzStep (grid1.coords (pnt1 0)) (blk1 X c 0 (pnt1 0)) (nzW (blk1 X c 2 (pnt1 0)) (blk1 X c 1 (pnt1 0))) (nzA (blk1 X c 2 (pnt1 0)) (blk1 X c 3 (pnt1 0))) y
      = nzAcc X c (pnt1 0).val := by
  show nzStep (grid1.coords (pnt1 0)) (blk1 X c 0 (pnt1 0)) (smpW X c) (smpA X c) y = nzStep (grid1.coords (pnt1 0)) (blk1 X c 0 (pnt1 0)) (smpW X c) (smpA X c) _
  unfold nzStep; rw [pay6_first (pnt1 0) rfl]
theorem nzStep_pos (c : Dev nD) (t : Fin cfg1.N) (h : t.val ≠ 0) :
    nzStep (grid1.coords t) (blk1 X c 0 t) (smpW X c) (smpA X c) (nzAcc X c (t.val - 1)) = nzAcc X c t.val := by
  conv_rhs => rw [show t.val = t.val - 1 + 1 by omega]
  rw [nzAcc, show t.val - 1 + 1 = t.val by omega, pnt1_val]

/-! ## The proof data -/

/-- The scoped buffers this call neither stages nor keeps anything in. -/
def rest1 (c : Dev nD) : sProp 𝕄 := iprop((∃ f : Buf (Elt F) ((c.tc : Thread nD τ).loc cc2_stg0_0), ((c.tc : Thread nD τ).loc cc2_stg0_0) ↦{fullShare} f) ∗ (∃ f : Buf (Elt F) ((c.tc : Thread nD τ).loc cc2_stg0_1), ((c.tc : Thread nD τ).loc cc2_stg0_1) ↦{fullShare} f) ∗ (∃ f : Buf (Elt F) ((c.tc : Thread nD τ).loc cc2_stg1_0), ((c.tc : Thread nD τ).loc cc2_stg1_0) ↦{fullShare} f) ∗ (∃ f : Buf (Elt F) ((c.tc : Thread nD τ).loc cc2_stg1_1), ((c.tc : Thread nD τ).loc cc2_stg1_1) ↦{fullShare} f) ∗ (∃ f : Buf (Elt F) ((c.tc : Thread nD τ).loc cc2_stg2_0), ((c.tc : Thread nD τ).loc cc2_stg2_0) ↦{fullShare} f) ∗ (∃ f : Buf (Elt F) ((c.tc : Thread nD τ).loc cc2_stg2_1), ((c.tc : Thread nD τ).loc cc2_stg2_1) ↦{fullShare} f) ∗ (∃ f : Buf (Elt F) ((c.tc : Thread nD τ).loc cc2_stg3_0), ((c.tc : Thread nD τ).loc cc2_stg3_0) ↦{fullShare} f) ∗ (∃ f : Buf (Elt F) ((c.tc : Thread nD τ).loc cc2_stg4_0), ((c.tc : Thread nD τ).loc cc2_stg4_0) ↦{fullShare} f))

/-- Between points: the scratch holds the sampled rows once the first point has run. -/
def Phi1 (c : Dev nD) (n : ℕ) : sProp 𝕄 :=
  iprop((∃ s : Vec F S64x128 .f32, ⌜n ≠ 0 → s = smpW X c⌝ ∗ owns (c.tc : Thread nD τ) (Memref.whole cc1_scratch0) fullShare s)
    ∗ (∃ s : Vec F S2x64 .f32, ⌜n ≠ 0 → s = smpA X c⌝ ∗ owns (c.tc : Thread nD τ) (Memref.whole cc1_scratch1) fullShare s) ∗ rest1 c)

theorem Phi1_in (c : Dev nD) : iprop((Pipeline.scopedRest spec1 c : sProp 𝕄) ∗ emp) ⊢ Phi1 X c 0 := by
  rw [scopedRest1_eq]; unfold Phi1 rest1; simp only [owns_whole_eq]
  iintro ⟨⟨⟨%f0, H0⟩, ⟨%f1, H1⟩, Hr⟩, -⟩
  isplitl [H0]
  · iexists f0; isplitr
    · ipureintro; exact fun h => absurd rfl h
    iexists f0; isplitr
    · ipureintro; rfl
    iexact H0
  isplitl [H1]
  · iexists f1; isplitr
    · ipureintro; exact fun h => absurd rfl h
    iexists f1; isplitr
    · ipureintro; rfl
    iexact H1
  iexact Hr
theorem Phi1_out (c : Dev nD) (n : ℕ) : Phi1 X c n ⊢ iprop((Pipeline.scopedRest spec1 c : sProp 𝕄) ∗ emp) := by
  rw [scopedRest1_eq]; unfold Phi1 rest1; simp only [owns_whole_eq]
  iintro ⟨⟨%s0, -, %f0, -, H0⟩, ⟨%s1, -, %f1, -, H1⟩, Hr⟩
  isplitl
  · isplitl [H0]; · iexists f0; iexact H0
    isplitl [H1]; · iexists f1; iexact H1
    iexact Hr
  iempintro

/-- The call's proof data from entry contents `X`. -/
def dat1 (c : Dev nD) : Dat τ (Elt F) (HIx 1) ℕ UU ℕ cfg1 c where
  A w := X c (Proc.devRef .tc (Pipeline.arrRef spec1 w))
  after w t := match w with
    | ⟨0, _⟩ => blk1 X c 0 t
    | ⟨1, _⟩ => blk1 X c 1 t
    | ⟨2, _⟩ => blk1 X c 2 t
    | ⟨3, _⟩ => blk1 X c 3 t
    | ⟨4, _⟩ => nzAcc X c t.val
  Φ t := Phi1 X c t.val
  q _ := fullShare
  owed _ := 0

theorem dat1_A (c : Dev nD) (w : Fin cfg1.W) : (dat1 X c).A w = X c (Proc.devRef .tc (Pipeline.arrRef spec1 w)) := by dsimp only [dat1]
theorem after1_0 (c : Dev nD) (t : Fin cfg1.N) : (dat1 X c).after 0 t = blk1 X c 0 t := by dsimp only [dat1]
theorem before1_0 (c : Dev nD) (t : Fin cfg1.N) (d) : (dat1 X c).before 0 t d = blk1 X c 0 t :=
  ((dat1 X c).before_in_eq_fetched 0 rfl (fun _ => rfl) (fun _ _ _ => rfl) (fun t => by rw [after1_0]; unfold Dat.blockOf blk1; rw [dat1_A]; try rfl) t d).trans
    (by unfold Dat.fetched Dat.blockOf blk1; rw [dat1_A]; try rfl)
theorem after1_1 (c : Dev nD) (t : Fin cfg1.N) : (dat1 X c).after 1 t = blk1 X c 1 t := by dsimp only [dat1]
theorem before1_1 (c : Dev nD) (t : Fin cfg1.N) (d) : (dat1 X c).before 1 t d = blk1 X c 1 t :=
  ((dat1 X c).before_in_eq_fetched 1 rfl (fun _ => rfl) (fun _ _ _ => rfl) (fun t => by rw [after1_1]; unfold Dat.blockOf blk1; rw [dat1_A]; try rfl) t d).trans
    (by unfold Dat.fetched Dat.blockOf blk1; rw [dat1_A]; try rfl)
theorem after1_2 (c : Dev nD) (t : Fin cfg1.N) : (dat1 X c).after 2 t = blk1 X c 2 t := by dsimp only [dat1]
theorem before1_2 (c : Dev nD) (t : Fin cfg1.N) (d) : (dat1 X c).before 2 t d = blk1 X c 2 t :=
  ((dat1 X c).before_in_eq_fetched 2 rfl (fun _ => rfl) (fun _ _ _ => rfl) (fun t => by rw [after1_2]; unfold Dat.blockOf blk1; rw [dat1_A]; try rfl) t d).trans
    (by unfold Dat.fetched Dat.blockOf blk1; rw [dat1_A]; try rfl)
theorem after1_3 (c : Dev nD) (t : Fin cfg1.N) : (dat1 X c).after 3 t = blk1 X c 3 t := by dsimp only [dat1]
theorem before1_3 (c : Dev nD) (t : Fin cfg1.N) (d) : (dat1 X c).before 3 t d = blk1 X c 3 t :=
  ((dat1 X c).before_in_eq_fetched 3 rfl (fun _ => rfl) (fun _ _ _ => rfl) (fun t => by rw [after1_3]; unfold Dat.blockOf blk1; rw [dat1_A]; try rfl) t d).trans
    (by unfold Dat.fetched Dat.blockOf blk1; rw [dat1_A]; try rfl)
theorem after1_4 (c : Dev nD) (t : Fin cfg1.N) : (dat1 X c).after 4 t = nzAcc X c t.val := by dsimp only [dat1]
/-- After the first point the accumulator still holds what the point before left. -/
theorem before1_4 (c : Dev nD) (t : Fin cfg1.N) (ht : t.val ≠ 0) (d) : (dat1 X c).before 4 t d = nzAcc X c (t.val - 1) := by
  have hlt : t.val < 4 := lt_of_lt_of_eq t.isLt N_1
  rw [(dat1 X c).before_out_kept 4 rfl t ht (Bool.eq_false_iff.mpr fun h => by have := (flush1_4 _).mp h; dsimp only at this; omega) (fun _ => rfl) (fun _ _ => rfl), after1_4]

/-! ## The body at a point -/

def pre1 (c : Dev nD) (t : Fin cfg1.N) : sProp 𝕄 :=
  iprop((dat1 X c).Φ t.castSucc ∗ (dat1 X c).owesAt none t.castSucc
    ∗ (∃ d, owns (c.tc : Thread nD τ) (st1_0 t) fullShare ((dat1 X c).before 0 t d))
    ∗ (∃ d, owns (c.tc : Thread nD τ) (st1_1 t) fullShare ((dat1 X c).before 1 t d))
    ∗ (∃ d, owns (c.tc : Thread nD τ) (st1_2 t) fullShare ((dat1 X c).before 2 t d))
    ∗ (∃ d, owns (c.tc : Thread nD τ) (st1_3 t) fullShare ((dat1 X c).before 3 t d))
    ∗ (∃ d, owns (c.tc : Thread nD τ) (st1_4 t) fullShare ((dat1 X c).before 4 t d)))
def post1 (c : Dev nD) (t : Fin cfg1.N) : sProp 𝕄 :=
  iprop((dat1 X c).Φ t.succ ∗ (dat1 X c).owesAt none t.succ
    ∗ owns (c.tc : Thread nD τ) (st1_0 t) fullShare ((dat1 X c).after 0 t)
    ∗ owns (c.tc : Thread nD τ) (st1_1 t) fullShare ((dat1 X c).after 1 t)
    ∗ owns (c.tc : Thread nD τ) (st1_2 t) fullShare ((dat1 X c).after 2 t)
    ∗ owns (c.tc : Thread nD τ) (st1_3 t) fullShare ((dat1 X c).after 3 t)
    ∗ owns (c.tc : Thread nD τ) (st1_4 t) fullShare ((dat1 X c).after 4 t))

set_option maxHeartbeats 1000000 in
theorem sound1 (c : Dev nD) (t : Fin cfg1.N) :
    pre1 X c t ⊢ wp Idealize.ShloMosaic.frame (wpE (defs₀ (F := F)) Variants.none (c.tc : Thread nD τ) none) Set.univ (bodyAt1 t) (fun _ => post1 X c t) := by
  unfold pre1 post1 bodyAt1
  simp only [before1_0, before1_1, before1_2, before1_3]
  rw [show (dat1 X c).owesAt none t.succ = (dat1 X c).owesAt none t.castSucc from rfl, after1_0, after1_1, after1_2, after1_3, after1_4,
    show (dat1 X c).Φ t.castSucc = Phi1 X c t.val from rfl, show (dat1 X c).Φ t.succ = Phi1 X c (t.val + 1) from rfl]
  have hN : t.val < 4 := lt_of_lt_of_eq t.isLt N_1
  unfold Phi1
  by_cases h0 : t.val = 0
  · obtain rfl : t = pnt1 0 := Fin.ext (h0.trans rfl)
    iintro ⟨⟨⟨%s0, -, HS0⟩, ⟨%s1, -, HS1⟩, Hr⟩, Ho, ⟨%d0, H0⟩, ⟨%d1, H1⟩, ⟨%d2, H2⟩, ⟨%d3, H3⟩, ⟨%d4, H4⟩⟩
    iapply (noise_run_first c (grid1.coords (pnt1 0)) _ _ _ _ _ _ _ _ _ _ _ _ _ _ ((first1_iff (pnt1 0)).mpr (by omega)) (blk1 X c 0 (pnt1 0)) (blk1 X c 1 (pnt1 0)) (blk1 X c 2 (pnt1 0)) (blk1 X c 3 (pnt1 0)) _ s0 s1 Set.univ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    iintro ⟨H0, H1, H2, H3, H4, HS0, HS1⟩
    isplitl [HS0 HS1 Hr]
    · isplitl [HS0]
      · iexists _; isplitr; swap; · iexact HS0
        ipureintro; exact fun _ => rfl
      isplitl [HS1]
      · iexists _; isplitr; swap; · iexact HS1
        ipureintro; exact fun _ => rfl
      iexact Hr
    isplitl [Ho]; · iexact Ho
    isplitl [H0]; · iexact H0
    isplitl [H1]; · iexact H1
    isplitl [H2]; · iexact H2
    isplitl [H3]; · iexact H3
    iapply (Entails.of_eq (congrArg (owns (c.tc : Thread nD τ) (st1_4 (pnt1 0)) fullShare) (nzStep_zero X c _))) $$ H4
  · have hk : t.val - 1 + 1 = t.val := by omega
    simp only [before1_4 X c t h0]
    iintro ⟨⟨⟨%s0, %hs0, HS0⟩, ⟨%s1, %hs1, HS1⟩, Hr⟩, Ho, ⟨%d0, H0⟩, ⟨%d1, H1⟩, ⟨%d2, H2⟩, ⟨%d3, H3⟩, ⟨%d4, H4⟩⟩
    obtain rfl := hs0 h0; obtain rfl := hs1 h0
    iapply (noise_run_later c (grid1.coords t) _ _ _ _ _ _ _ _ _ _ _ _ _ _ (fun h => h0 (by have := (first1_iff t).mp h; omega)) (blk1 X c 0 t) (blk1 X c 1 t) (blk1 X c 2 t) (blk1 X c 3 t) (nzAcc X c (t.val - 1)) (smpW X c) (smpA X c) Set.univ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    iintro ⟨H0, H1, H2, H3, H4, HS0, HS1⟩
    isplitl [HS0 HS1 Hr]
    · isplitl [HS0]
      · iexists _; isplitr; swap; · iexact HS0
        ipureintro; exact fun _ => rfl
      isplitl [HS1]
      · iexists _; isplitr; swap; · iexact HS1
        ipureintro; exact fun _ => rfl
      iexact Hr
    isplitl [Ho]; · iexact Ho
    isplitl [H0]; · iexact H0
    isplitl [H1]; · iexact H1
    isplitl [H2]; · iexact H2
    isplitl [H3]; · iexact H3
    iapply (Entails.of_eq (congrArg (owns (c.tc : Thread nD τ) (st1_4 t) fullShare) (nzStep_pos X c t h0))) $$ H4

/-- The body table's row at point `t` is the body as it is printed. -/
theorem tableRow1 (t : Fin cfg1.N) : defs₀ (F := F) .tc cfg1.body (cfg1.bodyArgs t (cfg1.slots t)) = bodyAt1 t := by
  rfl

theorem obl1 (c : Dev nD) : Pipeline.BodyObligation (dat1 X c) (defs₀ (F := F)) Variants.none none Set.univ := fun t => by
  rw [bigSep_W1, bigSep_W1, tableRow1]
  exact triple_restated (sound1 X c t) rfl .rfl fun _ => .rfl

end Cert.Proof.Nce

end
-- ==== Proof.DataRegion.lean ====
/- The TensorCore call over the targets as a region: its proof data at any entry contents, and its body at every point. -/
module

public import proofs.«01_k».proof.Proof.DataRun
public import Idealize.ShloMosaic.Lib.Pipeline.RegionArraysS
public import Idealize.ShloMosaic.Lib.WordCmp
@[expose] public section

noncomputable section

namespace Cert.Proof.Nce

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat)

variable {F : FTy → Type}

local notation "𝕄" => MT nD τ sig (HIx 1) (Elt F) ℕ UU ℕ

variable [FloatOps F]

/-! ## The blocks -/

variable (X : Dev nD → Valuation τ sig (Elt F))

/-- Window `w`'s block at point `t`, read off its array at the entry contents. -/
def blk2 (c : Dev nD) (w : Fin cfg2.W) (t : Fin cfg2.N) : ((cfg2.win w).xblock (cfg2.grid.coords t)).Idx → Elt F (cfg2.win w).elt :=
  ((cfg2.win w).blk t).view.read (Elt F) (X c (Proc.devRef .tc (Pipeline.arrRef spec2 w)))

/-- The grid's points, counted round. -/
def pnt2 (n : ℕ) : Fin cfg2.N := ⟨n % 4, by show n % 4 < grid2.N; rw [N_2]; omega⟩
theorem pnt2_val (t : Fin cfg2.N) : pnt2 t.val = t := Fin.ext (Nat.mod_eq_of_lt (lt_of_lt_of_eq t.isLt N_2))

/-- The accumulator after each point, the noise sum not yet added. -/
def dtAcc (c : Dev nD) : ℕ → Vec F S1x1 .f32
  | 0 => k2_pay1 (grid2.coords (pnt2 0)) (blk2 X c 0 (pnt2 0)) (blk2 X c 1 (pnt2 0)) (rowOf 0 (blk2 X c 2 (pnt2 0))) (rowOf 1 (blk2 X c 2 (pnt2 0))) (constant S1x1 .f32 0x00000000#32)
  | n + 1 => k2_pay1 (grid2.coords (pnt2 (n + 1))) (blk2 X c 0 (pnt2 (n + 1))) (blk2 X c 1 (pnt2 (n + 1))) (rowOf 0 (blk2 X c 2 (pnt2 (n + 1)))) (rowOf 1 (blk2 X c 2 (pnt2 (n + 1)))) (dtAcc c n)

/-- What the output block holds after each point: at the last one the noise sum is added and the whole is scaled. -/
def dtOut (c : Dev nD) (n : ℕ) : Vec F S1x1 .f32 := if n = 3 then k2_pay2 (dtAcc X c n) (blk2 X c 3 (pnt2 n)) else dtAcc X c n

/-- The body's branch is taken at the last point only. -/
abbrev last2 (i : grid2.Coords) : Prop := Scalar.cmpi .ne (Scalar.extui (Scalar.cmpi .eq (BitVec.ofNat 32 (i 0).val) 3#32)) 0#32 = 1#1
theorem last2_iff (t : Fin grid2.N) : last2 (grid2.coords t) ↔ t.val % 4 = 3 := by
  have ht : t.val < 4 := lt_of_lt_of_eq t.isLt N_2
  have e0 : (grid2.coords t 0).val = t.val / 1 % 4 := Pipeline.Grid.coords_val t 0 (by decide) rfl
  simp only [last2, e0]
  word_cmp

/-- At the first point the accumulator is taken as zero, whatever it holds. -/
theorem pay1_first (t : Fin grid2.N) (h : t.val = 0) (x0 x1 : Vec F S4096x128 .f32) (r0 r1 : Vec F S1x4096 .f32) (y y' : Vec F S1x1 .f32) :
    k2_pay1 (grid2.coords t) x0 x1 r0 r1 y = k2_pay1 (grid2.coords t) x0 x1 r0 r1 y' := by
  have e0 : (grid2.coords t 0).val = t.val / 1 % 4 := Pipeline.Grid.coords_val t 0 (by decide) rfl
  have hc : Scalar.cmpi .eq (BitVec.ofNat 32 (grid2.coords t 0).val) 0#32 = 1#1 := by rw [e0, h]; decide
  simp only [k2_pay1, hc]; rfl
theorem dtAcc_zero (c : Dev nD) (y : Vec F S1x1 .f32) :
    k2_pay1 (grid2.coords (pnt2 0)) (blk2 X c 0 (pnt2 0)) (blk2 X c 1 (pnt2 0)) (rowOf 0 (blk2 X c 2 (pnt2 0))) (rowOf 1 (blk2 X c 2 (pnt2 0))) y = dtOut X c (pnt2 0).val :=
  pay1_first (pnt2 0) rfl _ _ _ _ _ _
theorem dtAcc_pos (c : Dev nD) (t : Fin cfg2.N) (h : t.val ≠ 0) :
    k2_pay1 (grid2.coords t) (blk2 X c 0 t) (blk2 X c 1 t) (rowOf 0 (blk2 X c 2 t)) (rowOf 1 (blk2 X c 2 t)) (dtOut X c (t.val - 1)) = dtAcc X c t.val := by
  have hN : t.val < 4 := lt_of_lt_of_eq t.isLt N_2
  rw [dtOut, if_neg (by omega)]
  conv_rhs => rw [show t.val = t.val - 1 + 1 by omega]
  rw [dtAcc, show t.val - 1 + 1 = t.val by omega, pnt2_val]
theorem dtOut_early (c : Dev nD) (t : Fin cfg2.N) (h : t.val ≠ 0) (h3 : t.val ≠ 3) :
    k2_pay1 (grid2.coords t) (blk2 X c 0 t) (blk2 X c 1 t) (rowOf 0 (blk2 X c 2 t)) (rowOf 1 (blk2 X c 2 t)) (dtOut X c (t.val - 1)) = dtOut X c t.val := by
  rw [dtAcc_pos X c t h, dtOut, if_neg h3]
theorem dtOut_last (c : Dev nD) (t : Fin cfg2.N) (h3 : t.val = 3) :
    k2_pay2 (k2_pay1 (grid2.coords t) (blk2 X c 0 t) (blk2 X c 1 t) (rowOf 0 (blk2 X c 2 t)) (rowOf 1 (blk2 X c 2 t)) (dtOut X c (t.val - 1))) (blk2 X c 3 t) = dtOut X c t.val := by
  rw [dtAcc_pos X c t (by omega)]
  conv_rhs => rw [dtOut, if_pos h3, pnt2_val]

/-! ## The proof data -/

/-- Between points the body keeps nothing. -/
def Phi2 (c : Dev nD) (n : ℕ) : sProp 𝕄 := Pipeline.scopedRest spec2 c
theorem Phi2_in (c : Dev nD) : iprop((Pipeline.scopedRest spec2 c : sProp 𝕄) ∗ emp) ⊢ Phi2 (F := F) c 0 := sep_elim_left
theorem Phi2_out (c : Dev nD) (n : ℕ) : Phi2 (F := F) c n ⊢ iprop((Pipeline.scopedRest spec2 c : sProp 𝕄) ∗ emp) := by
  unfold Phi2
  iintro H
  isplitl; · iexact H
  iempintro

/-- The call's proof data from entry contents `X`. -/
def dat2 (c : Dev nD) : Dat τ (Elt F) (HIx 1) ℕ UU ℕ cfg2 c where
  A w := X c (Proc.devRef .tc (Pipeline.arrRef spec2 w))
  after w t := match w with
    | ⟨0, _⟩ => blk2 X c 0 t
    | ⟨1, _⟩ => blk2 X c 1 t
    | ⟨2, _⟩ => blk2 X c 2 t
    | ⟨3, _⟩ => blk2 X c 3 t
    | ⟨4, _⟩ => dtOut X c t.val
  Φ t := Phi2 c t.val
  q _ := fullShare
  owed _ := 0

theorem dat2_A (c : Dev nD) (w : Fin cfg2.W) : (dat2 X c).A w = X c (Proc.devRef .tc (Pipeline.arrRef spec2 w)) := by dsimp only [dat2]
theorem after2_0 (c : Dev nD) (t : Fin cfg2.N) : (dat2 X c).after 0 t = blk2 X c 0 t := by dsimp only [dat2]
theorem before2_0 (c : Dev nD) (t : Fin cfg2.N) (d) : (dat2 X c).before 0 t d = blk2 X c 0 t :=
  ((dat2 X c).before_in_eq_fetched 0 rfl (fun _ => rfl) (fun _ _ _ => rfl) (fun t => by rw [after2_0]; unfold Dat.blockOf blk2; rw [dat2_A]; try rfl) t d).trans
    (by unfold Dat.fetched Dat.blockOf blk2; rw [dat2_A]; try rfl)
theorem after2_1 (c : Dev nD) (t : Fin cfg2.N) : (dat2 X c).after 1 t = blk2 X c 1 t := by dsimp only [dat2]
theorem before2_1 (c : Dev nD) (t : Fin cfg2.N) (d) : (dat2 X c).before 1 t d = blk2 X c 1 t :=
  ((dat2 X c).before_in_eq_fetched 1 rfl (fun _ => rfl) (fun _ _ _ => rfl) (fun t => by rw [after2_1]; unfold Dat.blockOf blk2; rw [dat2_A]; try rfl) t d).trans
    (by unfold Dat.fetched Dat.blockOf blk2; rw [dat2_A]; try rfl)
theorem after2_2 (c : Dev nD) (t : Fin cfg2.N) : (dat2 X c).after 2 t = blk2 X c 2 t := by dsimp only [dat2]
theorem before2_2 (c : Dev nD) (t : Fin cfg2.N) (d) : (dat2 X c).before 2 t d = blk2 X c 2 t :=
  ((dat2 X c).before_in_eq_fetched 2 rfl (fun _ => rfl) (fun _ _ _ => rfl) (fun t => by rw [after2_2]; unfold Dat.blockOf blk2; rw [dat2_A]; try rfl) t d).trans
    (by unfold Dat.fetched Dat.blockOf blk2; rw [dat2_A]; try rfl)
theorem after2_3 (c : Dev nD) (t : Fin cfg2.N) : (dat2 X c).after 3 t = blk2 X c 3 t := by dsimp only [dat2]
theorem before2_3 (c : Dev nD) (t : Fin cfg2.N) (d) : (dat2 X c).before 3 t d = blk2 X c 3 t :=
  ((dat2 X c).before_in_eq_fetched 3 rfl (fun _ => rfl) (fun _ _ _ => rfl) (fun t => by rw [after2_3]; unfold Dat.blockOf blk2; rw [dat2_A]; try rfl) t d).trans
    (by unfold Dat.fetched Dat.blockOf blk2; rw [dat2_A]; try rfl)
theorem after2_4 (c : Dev nD) (t : Fin cfg2.N) : (dat2 X c).after 4 t = dtOut X c t.val := by dsimp only [dat2]
/-- After the first point the accumulator still holds what the point before left. -/
theorem before2_4 (c : Dev nD) (t : Fin cfg2.N) (ht : t.val ≠ 0) (d) : (dat2 X c).before 4 t d = dtOut X c (t.val - 1) := by
  have hlt : t.val < 4 := lt_of_lt_of_eq t.isLt N_2
  rw [(dat2 X c).before_out_kept 4 rfl t ht (Bool.eq_false_iff.mpr fun h => by have := (flush2_4 _).mp h; dsimp only at this; omega) (fun _ => rfl) (fun _ _ => rfl), after2_4]

/-! ## The body at a point -/

def pre2 (c : Dev nD) (t : Fin cfg2.N) : sProp 𝕄 :=
  iprop((dat2 X c).Φ t.castSucc ∗ (dat2 X c).owesAt none t.castSucc
    ∗ (∃ d, owns (c.tc : Thread nD τ) (st2_0 t) fullShare ((dat2 X c).before 0 t d))
    ∗ (∃ d, owns (c.tc : Thread nD τ) (st2_1 t) fullShare ((dat2 X c).before 1 t d))
    ∗ (∃ d, owns (c.tc : Thread nD τ) (st2_2 t) fullShare ((dat2 X c).before 2 t d))
    ∗ (∃ d, owns (c.tc : Thread nD τ) (st2_3 t) fullShare ((dat2 X c).before 3 t d))
    ∗ (∃ d, owns (c.tc : Thread nD τ) (st2_4 t) fullShare ((dat2 X c).before 4 t d)))
def post2 (c : Dev nD) (t : Fin cfg2.N) : sProp 𝕄 :=
  iprop((dat2 X c).Φ t.succ ∗ (dat2 X c).owesAt none t.succ
    ∗ owns (c.tc : Thread nD τ) (st2_0 t) fullShare ((dat2 X c).after 0 t)
    ∗ owns (c.tc : Thread nD τ) (st2_1 t) fullShare ((dat2 X c).after 1 t)
    ∗ owns (c.tc : Thread nD τ) (st2_2 t) fullShare ((dat2 X c).after 2 t)
    ∗ owns (c.tc : Thread nD τ) (st2_3 t) fullShare ((dat2 X c).after 3 t)
    ∗ owns (c.tc : Thread nD τ) (st2_4 t) fullShare ((dat2 X c).after 4 t))

set_option maxHeartbeats 1000000 in
theorem sound2 (c : Dev nD) (t : Fin cfg2.N) :
    pre2 X c t ⊢ wp Idealize.ShloMosaic.frame (wpE (defs₀ (F := F)) Variants.none (c.tc : Thread nD τ) none) Set.univ (bodyAt2 t) (fun _ => post2 X c t) := by
  unfold pre2 post2 bodyAt2
  simp only [before2_0, before2_1, before2_2, before2_3]
  rw [show (dat2 X c).owesAt none t.succ = (dat2 X c).owesAt none t.castSucc from rfl, after2_0, after2_1, after2_2, after2_3, after2_4,
    show (dat2 X c).Φ t.castSucc = Phi2 c 0 from rfl, show (dat2 X c).Φ t.succ = Phi2 c 0 from rfl]
  have hN : t.val < 4 := lt_of_lt_of_eq t.isLt N_2
  by_cases h0 : t.val = 0
  · obtain rfl : t = pnt2 0 := Fin.ext (h0.trans rfl)
    iintro ⟨HF, Ho, ⟨%d0, H0⟩, ⟨%d1, H1⟩, ⟨%d2, H2⟩, ⟨%d3, H3⟩, ⟨%d4, H4⟩⟩
    iapply (data_run_early c (grid2.coords (pnt2 0)) _ _ _ _ _ _ _ _ _ _ (fun h => by have := (last2_iff (pnt2 0)).mp h; omega) (blk2 X c 0 (pnt2 0)) (blk2 X c 1 (pnt2 0)) (blk2 X c 2 (pnt2 0)) (blk2 X c 3 (pnt2 0)) _ Set.univ _)
    isplitl [H0]; · iexact H0
    isplitl [H1]; · iexact H1
    isplitl [H2]; · iexact H2
    isplitl [H3]; · iexact H3
    isplitl [H4]; · iexact H4
    iintro ⟨H0, H1, H2, H3, H4⟩
    isplitl [HF]; · iexact HF
    isplitl [Ho]; · iexact Ho
    isplitl [H0]; · iexact H0
    isplitl [H1]; · iexact H1
    isplitl [H2]; · iexact H2
    isplitl [H3]; · iexact H3
    iapply (Entails.of_eq (congrArg (owns (c.tc : Thread nD τ) (st2_4 (pnt2 0)) fullShare) (dtAcc_zero X c _))) $$ H4
  simp only [before2_4 X c t h0]
  by_cases h3 : t.val = 3
  · iintro ⟨HF, Ho, ⟨%d0, H0⟩, ⟨%d1, H1⟩, ⟨%d2, H2⟩, ⟨%d3, H3⟩, ⟨%d4, H4⟩⟩
    iapply (data_run_last c (grid2.coords t) _ _ _ _ _ _ _ _ _ _ ((last2_iff t).mpr (by omega)) (blk2 X c 0 t) (blk2 X c 1 t) (blk2 X c 2 t) (blk2 X c 3 t) (dtOut X c (t.val - 1)) Set.univ _)
    isplitl [H0]; · iexact H0
    isplitl [H1]; · iexact H1
    isplitl [H2]; · iexact H2
    isplitl [H3]; · iexact H3
    isplitl [H4]; · iexact H4
    iintro ⟨H0, H1, H2, H3, H4⟩
    isplitl [HF]; · iexact HF
    isplitl [Ho]; · iexact Ho
    isplitl [H0]; · iexact H0
    isplitl [H1]; · iexact H1
    isplitl [H2]; · iexact H2
    isplitl [H3]; · iexact H3
    iapply (Entails.of_eq (congrArg (owns (c.tc : Thread nD τ) (st2_4 t) fullShare) (dtOut_last X c t h3))) $$ H4
  · iintro ⟨HF, Ho, ⟨%d0, H0⟩, ⟨%d1, H1⟩, ⟨%d2, H2⟩, ⟨%d3, H3⟩, ⟨%d4, H4⟩⟩
    iapply (data_run_early c (grid2.coords t) _ _ _ _ _ _ _ _ _ _ (fun h => h3 (by have := (last2_iff t).mp h; omega)) (blk2 X c 0 t) (blk2 X c 1 t) (blk2 X c 2 t) (blk2 X c 3 t) (dtOut X c (t.val - 1)) Set.univ _)
    isplitl [H0]; · iexact H0
    isplitl [H1]; · iexact H1
    isplitl [H2]; · iexact H2
    isplitl [H3]; · iexact H3
    isplitl [H4]; · iexact H4
    iintro ⟨H0, H1, H2, H3, H4⟩
    isplitl [HF]; · iexact HF
    isplitl [Ho]; · iexact Ho
    isplitl [H0]; · iexact H0
    isplitl [H1]; · iexact H1
    isplitl [H2]; · iexact H2
    isplitl [H3]; · iexact H3
    iapply (Entails.of_eq (congrArg (owns (c.tc : Thread nD τ) (st2_4 t) fullShare) (dtOut_early X c t h0 h3))) $$ H4

/-- The body table's row at point `t` is the body as it is printed. -/
theorem tableRow2 (t : Fin cfg2.N) : defs₀ (F := F) .tc cfg2.body (cfg2.bodyArgs t (cfg2.slots t)) = bodyAt2 t := by
  rfl

theorem obl2 (c : Dev nD) : Pipeline.BodyObligation (dat2 X c) (defs₀ (F := F)) Variants.none none Set.univ := fun t => by
  rw [bigSep_W2, bigSep_W2, tableRow2]
  exact triple_restated (sound2 X c t) rfl .rfl fun _ => .rfl

end Cert.Proof.Nce

end
-- ==== Proof.Regions.lean ====
/-
  The two TensorCore calls as regions over the unscoped buffers held at a valuation.
-/
module

public import proofs.«01_k».proof.Proof.Launch
public import proofs.«01_k».proof.Proof.NoiseRegion
public import proofs.«01_k».proof.Proof.DataRegion
@[expose] public section

noncomputable section

namespace Cert.Proof.Nce

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat ucRefs)

variable {F : FTy → Type}

local notation "𝕄" => MT nD τ sig (HIx 1) (Elt F) ℕ UU ℕ

section Regions

variable [FloatOps F]

/-- Proof data for the pipeline an entry does not run: anything. -/
def anyDat {cfg : Pipeline.Cfg sig Λ₀} (c : Dev nD) : Dat τ (Elt F) (HIx 1) ℕ UU ℕ cfg c where
  A _ := fun _ => Classical.arbitrary _
  after _ _ := fun _ => Classical.arbitrary _
  Φ _ := BI.emp
  q _ := fullShare
  owed _ := 0

variable (X : Dev nD → Valuation τ sig (Elt F))

/-- The proof data of the noise call entered at `X`. -/
def fam1 : (p : Fin 2) → (c : Dev nD) → Dat τ (Elt F) (HIx 1) ℕ UU ℕ (Pipeline.pin (pcfgs (F := F)) adm p) c
  | ⟨0, _⟩ => fun c => dat1 X c
  | ⟨1, _⟩ => fun c => anyDat c

theorem cut1 : Pipeline.LevelCut (nD := nD) (τ := τ) (pcfgs (F := F)) adm none (K (F := F)).L (K (F := F)).lev 0 (fun _ => (0 : CellTallies nD τ sig (HIx 1))) (fun _ => 0) where
  hι _ _ _ := Finset.mem_univ _
  hιb _ _ _ := Nat.le_refl 0
  hD _ _ _ h := absurd h (Nat.lt_irrefl 0)

set_option backward.isDefEq.respectTransparency.types false in
/-- The call as a region over the unscoped buffers held at `X`. -/
def seg1 : Pipeline.RegionSeg (pcfgs (F := F)) adm (fam1 X) none defs₀ 𝒱₀ (K (F := F)).L (K (F := F)).lev 0 :=
  Pipeline.RegionSeg.ofHeldIn (pcfgs (F := F)) adm (fam1 X) none defs₀ 𝒱₀ (K (F := F)).L (K (F := F)).lev 0 (fun _ => 0) (ucRefs τ sig) (fun _ => BI.emp) (fun _ => BI.emp)
    launch1.toP rfl (fun c => (obl1 X c).loose) (fun _ _ => rfl) (fun _ => rfl) (fun c w => (dat1 X c).share_full (fun _ => rfl) w)
    (fun c => Phi1_in X c) (fun c => Phi1_out X c _) (fun _ => 0) cut1 (fun _ => BI.emp) X (fun c w => rfl)

theorem arrs1 : Pipeline.arrRefs (τ := τ) spec1 ⊆ ucRefs τ sig := Pipeline.arrRefs_sub_ucRefs spec1 fun w => by fin_cases w <;> rfl

/-- What the buffers hold after the call. -/
def out1 (c : Dev nD) : Valuation τ sig (Elt F) := Pipeline.afterRegion (fam1 X 0 c) (X c)

theorem seg1_pre (d : Dev nD) : iprop(StableHlo.held (d.tc : Thread nD τ) (ucRefs τ sig) (X d) ∗ ((∃ W, owes (d.tc : Thread nD τ) (0 : CellTallies nD τ sig (HIx 1)) W) ∗ emp ∗ emp)) ⊢ (seg1 X).pre d := by
  show _ ⊢ iprop(StableHlo.held (d.tc : Thread nD τ) (Pipeline.arrRefs spec1) (X d) ∗ BI.emp
    ∗ (StableHlo.held (d.tc : Thread nD τ) (ucRefs τ sig \ Pipeline.arrRefs spec1) (X d) ∗ BI.emp) ∗ ∃ W, owes (d.tc : Thread nD τ) (0 : CellTallies nD τ sig (HIx 1)) W)
  rw [StableHlo.held_sub_split (d.tc : Thread nD τ) arrs1 (X d)]
  iintro ⟨⟨Ha, Hu⟩, HO, HX, HR⟩
  isplitl [Ha]; · iexact Ha
  isplitl [HX]; · iexact HX
  isplitl [Hu HR]
  · isplitl [Hu]; · iexact Hu
    iexact HR
  iexact HO
theorem seg1_post (d : Dev nD) : (seg1 X).post d ⊢ iprop(StableHlo.held (d.tc : Thread nD τ) (ucRefs τ sig) (out1 X d) ∗ (∃ W, owes (d.tc : Thread nD τ) (0 : CellTallies nD τ sig (HIx 1)) W)) := by
  show iprop(StableHlo.held (d.tc : Thread nD τ) (Pipeline.arrRefs spec1) (out1 X d) ∗ BI.emp
    ∗ (StableHlo.held (d.tc : Thread nD τ) (ucRefs τ sig \ Pipeline.arrRefs spec1) (X d) ∗ BI.emp) ∗ ∃ W, owes (d.tc : Thread nD τ) (0 : CellTallies nD τ sig (HIx 1)) W) ⊢ _
  have hoff : ∀ b ∈ ucRefs τ sig \ Pipeline.arrRefs spec1, out1 X d b = X d b := Pipeline.afterRegion_off (fam1 X 0 d) (X d) (ucRefs τ sig)
  rw [StableHlo.held_sub_split (d.tc : Thread nD τ) arrs1 (out1 X d), StableHlo.held_congr (d.tc : Thread nD τ) hoff]
  iintro ⟨Ha, -, ⟨Hu, -⟩, HO⟩
  isplitl [Ha Hu]
  · isplitl [Ha]; · iexact Ha
    iexact Hu
  iexact HO

/-- What a core holds after the call. -/
def after1At (d : Dev nD) : sProp 𝕄 :=
  iprop(boundary (d.tc : Thread nD τ) ∗ StableHlo.held (d.tc : Thread nD τ) (ucRefs τ sig) (out1 X d) ∗ (∃ W, owes (d.tc : Thread nD τ) (0 : CellTallies nD τ sig (HIx 1)) W))

set_option backward.isDefEq.respectTransparency.types false in
set_option maxHeartbeats 1000000 in
theorem run1 [∀ e, Nonempty (Elt F e)] (d : Dev nD) :
    iprop(boundary (d.tc : Thread nD τ) ∗ StableHlo.held (d.tc : Thread nD τ) (ucRefs τ sig) (X d) ∗ (∃ W, owes (d.tc : Thread nD τ) (0 : CellTallies nD τ sig (HIx 1)) W)
        ∗ levAts (K (F := F)).L (K (F := F)).lev ∗ Pipeline.PerCore.cellsGhost (pins (F := F)) EP 0 d ∗ Pipeline.PerCore.toksInit (pins (F := F)) EP 0 d)
      ⊢ wp Idealize.ShloMosaic.frame (wpE ((K (F := F)).defs (D (F := F))) 𝒱 (d.tc : Thread nD τ) none) Set.univ
          (Prog.lift (.customCall (SparseCore.inner (Pipeline.entry 0)) ()))
          fun _ => after1At X d := by
  have hl : (Prog.lift (.customCall (SparseCore.inner (Pipeline.entry 0)) ()) : Prog (TpuEff nD τ sig (Elt F) (SparseCore.Sig (ΛP (F := F)) 1) .tc) PUnit)
      = SparseCore.liftProg (Prog.lift (.customCall (Pipeline.entry 0) ())) := rfl
  rw [hl]
  have hA := ((K (F := F)).wp_liftProg (D (F := F)) 𝒱 (d.tc : Thread nD τ) Set.univ none (Prog.lift (.customCall (Pipeline.entry 0) ()))
    (fun _ => after1At X d))
  have hB := (Pipeline.RegionSeg.wp (pcfgs (F := F)) adm (fam1 X) none cellOf_inj EP defs₀ 𝒱₀ (K (F := F)).L (K (F := F)).lev (seg1 X) d none (fun _ h => nomatch h) Prog.ret
    (fun _ => after1At X d))
  have hBA := hB.trans hA
  iintro ⟨Hb, Hh, Ho, Hl, Hc, Ht⟩
  iapply hBA
  isplitr [Hb Hh Ho Hl Hc Ht]
  · rw [wp_ret]; unfold after1At
    iintro ⟨Hb, Hp⟩
    ihave Hq := (seg1_post X d) $$ Hp
    icases Hq with ⟨Hh, Ho⟩
    imodintro
    isplitl [Hb]; · iexact Hb
    isplitl [Hh]; · iexact Hh
    iexact Ho
  isplitl [Hb]; · iexact Hb
  isplitl [Hh Ho]
  · iapply (seg1_pre X d)
    isplitl [Hh]; · iexact Hh
    isplitl [Ho]; · iexact Ho
    isplitl <;> iempintro
  isplitl [Hl]; · iexact Hl
  isplitl [Hc]; · iexact Hc
  iexact Ht

/-- The proof data of the data call entered at `X`. -/
def fam2 : (p : Fin 2) → (c : Dev nD) → Dat τ (Elt F) (HIx 1) ℕ UU ℕ (Pipeline.pin (pcfgs (F := F)) adm p) c
  | ⟨0, _⟩ => fun c => anyDat c
  | ⟨1, _⟩ => fun c => dat2 X c

theorem cut2 : Pipeline.LevelCut (nD := nD) (τ := τ) (pcfgs (F := F)) adm none (K (F := F)).L (K (F := F)).lev 1 (fun _ => (0 : CellTallies nD τ sig (HIx 1))) (fun _ => 0) where
  hι _ _ _ := Finset.mem_univ _
  hιb _ _ _ := Nat.le_refl 0
  hD _ _ _ h := absurd h (Nat.lt_irrefl 0)

set_option backward.isDefEq.respectTransparency.types false in
/-- The call as a region over the unscoped buffers held at `X`. -/
def seg2 : Pipeline.RegionSeg (pcfgs (F := F)) adm (fam2 X) none defs₀ 𝒱₀ (K (F := F)).L (K (F := F)).lev 1 :=
  Pipeline.RegionSeg.ofHeldIn (pcfgs (F := F)) adm (fam2 X) none defs₀ 𝒱₀ (K (F := F)).L (K (F := F)).lev 1 (fun _ => 0) (ucRefs τ sig) (fun _ => BI.emp) (fun _ => BI.emp)
    launch2.toP rfl (fun c => (obl2 X c).loose) (fun _ _ => rfl) (fun _ => rfl) (fun c w => (dat2 X c).share_full (fun _ => rfl) w)
    (fun c => Phi2_in  c) (fun c => Phi2_out  c 4) (fun _ => 0) cut2 (fun _ => BI.emp) X (fun c w => rfl)

theorem arrs2 : Pipeline.arrRefs (τ := τ) spec2 ⊆ ucRefs τ sig := Pipeline.arrRefs_sub_ucRefs spec2 fun w => by fin_cases w <;> rfl

/-- What the buffers hold after the call. -/
def out2 (c : Dev nD) : Valuation τ sig (Elt F) := Pipeline.afterRegion (fam2 X 1 c) (X c)

theorem seg2_pre (d : Dev nD) : iprop(StableHlo.held (d.tc : Thread nD τ) (ucRefs τ sig) (X d) ∗ ((∃ W, owes (d.tc : Thread nD τ) (0 : CellTallies nD τ sig (HIx 1)) W) ∗ emp ∗ emp)) ⊢ (seg2 X).pre d := by
  show _ ⊢ iprop(StableHlo.held (d.tc : Thread nD τ) (Pipeline.arrRefs spec2) (X d) ∗ BI.emp
    ∗ (StableHlo.held (d.tc : Thread nD τ) (ucRefs τ sig \ Pipeline.arrRefs spec2) (X d) ∗ BI.emp) ∗ ∃ W, owes (d.tc : Thread nD τ) (0 : CellTallies nD τ sig (HIx 1)) W)
  rw [StableHlo.held_sub_split (d.tc : Thread nD τ) arrs2 (X d)]
  iintro ⟨⟨Ha, Hu⟩, HO, HX, HR⟩
  isplitl [Ha]; · iexact Ha
  isplitl [HX]; · iexact HX
  isplitl [Hu HR]
  · isplitl [Hu]; · iexact Hu
    iexact HR
  iexact HO
theorem seg2_post (d : Dev nD) : (seg2 X).post d ⊢ iprop(StableHlo.held (d.tc : Thread nD τ) (ucRefs τ sig) (out2 X d) ∗ (∃ W, owes (d.tc : Thread nD τ) (0 : CellTallies nD τ sig (HIx 1)) W)) := by
  show iprop(StableHlo.held (d.tc : Thread nD τ) (Pipeline.arrRefs spec2) (out2 X d) ∗ BI.emp
    ∗ (StableHlo.held (d.tc : Thread nD τ) (ucRefs τ sig \ Pipeline.arrRefs spec2) (X d) ∗ BI.emp) ∗ ∃ W, owes (d.tc : Thread nD τ) (0 : CellTallies nD τ sig (HIx 1)) W) ⊢ _
  have hoff : ∀ b ∈ ucRefs τ sig \ Pipeline.arrRefs spec2, out2 X d b = X d b := Pipeline.afterRegion_off (fam2 X 1 d) (X d) (ucRefs τ sig)
  rw [StableHlo.held_sub_split (d.tc : Thread nD τ) arrs2 (out2 X d), StableHlo.held_congr (d.tc : Thread nD τ) hoff]
  iintro ⟨Ha, -, ⟨Hu, -⟩, HO⟩
  isplitl [Ha Hu]
  · isplitl [Ha]; · iexact Ha
    iexact Hu
  iexact HO

/-- What a core holds after the call. -/
def after2At (d : Dev nD) : sProp 𝕄 :=
  iprop(boundary (d.tc : Thread nD τ) ∗ StableHlo.held (d.tc : Thread nD τ) (ucRefs τ sig) (out2 X d) ∗ (∃ W, owes (d.tc : Thread nD τ) (0 : CellTallies nD τ sig (HIx 1)) W))

set_option backward.isDefEq.respectTransparency.types false in
set_option maxHeartbeats 1000000 in
theorem run2 [∀ e, Nonempty (Elt F e)] (d : Dev nD) :
    iprop(boundary (d.tc : Thread nD τ) ∗ StableHlo.held (d.tc : Thread nD τ) (ucRefs τ sig) (X d) ∗ (∃ W, owes (d.tc : Thread nD τ) (0 : CellTallies nD τ sig (HIx 1)) W)
        ∗ levAts (K (F := F)).L (K (F := F)).lev ∗ Pipeline.PerCore.cellsGhost (pins (F := F)) EP 1 d ∗ Pipeline.PerCore.toksInit (pins (F := F)) EP 1 d)
      ⊢ wp Idealize.ShloMosaic.frame (wpE ((K (F := F)).defs (D (F := F))) 𝒱 (d.tc : Thread nD τ) none) Set.univ
          (Prog.lift (.customCall (SparseCore.inner (Pipeline.entry 1)) ()))
          fun _ => after2At X d := by
  have hl : (Prog.lift (.customCall (SparseCore.inner (Pipeline.entry 1)) ()) : Prog (TpuEff nD τ sig (Elt F) (SparseCore.Sig (ΛP (F := F)) 1) .tc) PUnit)
      = SparseCore.liftProg (Prog.lift (.customCall (Pipeline.entry 1) ())) := rfl
  rw [hl]
  have hA := ((K (F := F)).wp_liftProg (D (F := F)) 𝒱 (d.tc : Thread nD τ) Set.univ none (Prog.lift (.customCall (Pipeline.entry 1) ()))
    (fun _ => after2At X d))
  have hB := (Pipeline.RegionSeg.wp (pcfgs (F := F)) adm (fam2 X) none cellOf_inj EP defs₀ 𝒱₀ (K (F := F)).L (K (F := F)).lev (seg2 X) d none (fun _ h => nomatch h) Prog.ret
    (fun _ => after2At X d))
  have hBA := hB.trans hA
  iintro ⟨Hb, Hh, Ho, Hl, Hc, Ht⟩
  iapply hBA
  isplitr [Hb Hh Ho Hl Hc Ht]
  · rw [wp_ret]; unfold after2At
    iintro ⟨Hb, Hp⟩
    ihave Hq := (seg2_post X d) $$ Hp
    icases Hq with ⟨Hh, Ho⟩
    imodintro
    isplitl [Hb]; · iexact Hb
    isplitl [Hh]; · iexact Hh
    iexact Ho
  isplitl [Hb]; · iexact Hb
  isplitl [Hh Ho]
  · iapply (seg2_pre X d)
    isplitl [Hh]; · iexact Hh
    isplitl [Ho]; · iexact Ho
    isplitl <;> iempintro
  isplitl [Hl]; · iexact Hl
  isplitl [Hc]; · iexact Hc
  iexact Ht

end Regions

end Cert.Proof.Nce

end
-- ==== Proof.Main.lean ====
/-
  The TensorCore's program: its host operations, the SparseCore call, the two TensorCore calls and the last reshape, threaded through the
  unscoped buffers held at a valuation.
-/
module

public import proofs.«01_k».proof.Proof.Regions
@[expose] public section

noncomputable section

namespace Cert.Proof.Nce

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Idealize.ShloMosaic.Pipeline (ucRefs)

variable {F : FTy → Type}

local notation "𝕄" => MT nD τ sig (HIx 1) (Elt F) ℕ UU ℕ

section Main

variable [FloatOps F]

/-- The host operations before the SparseCore call. -/
def pre : List (HloOp τ sig (Elt F)) :=
  [StableHlo.nullary main_c (constantI S_ 32 0#32),
   StableHlo.unary main_c main_v0 (broadcastInDim S14 ![] bcast_S_S14 : (⟨S_, .i32⟩ : BufTy).Contents (Elt F) → (⟨S14, .i32⟩ : BufTy).Contents (Elt F)),
   StableHlo.binary main_arg5 main_v0 main_v1 ((fun a b => concatenate S64 0 [⟨S50, a⟩, ⟨S14, b⟩] concatenates_S50_S14_S64_d0) : (⟨S50, .i32⟩ : BufTy).Contents (Elt F) → (⟨S14, .i32⟩ : BufTy).Contents (Elt F) → (⟨S64, .i32⟩ : BufTy).Contents (Elt F)),
   StableHlo.unary main_v1 main_v2 (broadcastInDim S64x1 ![0] bcast_S64_S64x1_0 : (⟨S64, .i32⟩ : BufTy).Contents (Elt F) → (⟨S64x1, .i32⟩ : BufTy).Contents (Elt F)),
   StableHlo.unary main_v2 main_v3 (broadcastInDim S64x8 ![0, 1] bcast_S64x1_S64x8_0_1 : (⟨S64x1, .i32⟩ : BufTy).Contents (Elt F) → (⟨S64x8, .i32⟩ : BufTy).Contents (Elt F)),
   StableHlo.unary main_arg3 main_v4 (broadcastInDim S1000x1 ![0] bcast_S1000_S1000x1_0 : (⟨S1000, .f32⟩ : BufTy).Contents (Elt F) → (⟨S1000x1, .f32⟩ : BufTy).Contents (Elt F)),
   StableHlo.unary main_arg4 main_v5 (broadcastInDim S1000x1 ![0] bcast_S1000_S1000x1_0 : (⟨S1000, .f32⟩ : BufTy).Contents (Elt F) → (⟨S1000x1, .f32⟩ : BufTy).Contents (Elt F)),
   StableHlo.nullary main_cst (constant S_ .f32 0x00000000#32),
   StableHlo.unary main_cst main_v6 (broadcastInDim S1000x6 ![] bcast_S_S1000x6 : (⟨S_, .f32⟩ : BufTy).Contents (Elt F) → (⟨S1000x6, .f32⟩ : BufTy).Contents (Elt F)),
   StableHlo.nary ![main_v4, main_v5, main_v6] main_v7 (fun u => (concatenate S1000x8 1 [⟨S1000x1, (u 0 : (⟨S1000x1, .f32⟩ : BufTy).Contents (Elt F))⟩, ⟨S1000x1, (u 1 : (⟨S1000x1, .f32⟩ : BufTy).Contents (Elt F))⟩, ⟨S1000x6, (u 2 : (⟨S1000x6, .f32⟩ : BufTy).Contents (Elt F))⟩] concatenates_S1000x1_S1000x1_S1000x6_S1000x8_d1 : (⟨S1000x8, .f32⟩ : BufTy).Contents (Elt F)))]
/-- The one after the TensorCore calls. -/
def post : HloOp τ sig (Elt F) := StableHlo.reshape main_v10 main_v11 (rfl : (.f32 : EltTy) = .f32) shapeCasts_S1x1_S_

theorem main_eq (d : Dev nD) : main (F := F) d = StableHlo.seq pre >>= fun _ => ((sc (F := F)).run d 0 >>= fun _ =>
    (Prog.lift (.customCall (SparseCore.inner (Pipeline.entry 0)) ()) >>= fun _ => (Prog.lift (.customCall (SparseCore.inner (Pipeline.entry 1)) ()) >>= fun _ =>
      (hlo rfl post (fun _ => .ret (⟨⟩ : PUnit)) >>= fun _ => pure (⟨⟩ : PUnit))))) := by
  simp only [main, pre, post, StableHlo.seq, bind_assoc, pure_bind]

theorem pre_bufs : (pre (F := F)).Forall fun op => op.bufs ⊆ StableHlo.tcRefs τ sig :=
  ⟨StableHlo.nullary_bufs_sub .., StableHlo.unary_bufs_sub .., StableHlo.binary_bufs_sub .., StableHlo.unary_bufs_sub .., StableHlo.unary_bufs_sub ..,
    StableHlo.unary_bufs_sub .., StableHlo.unary_bufs_sub .., StableHlo.nullary_bufs_sub .., StableHlo.unary_bufs_sub .., StableHlo.nary_bufs_sub ..⟩
theorem pre_fresh : (pre (F := F)).Forall fun op => op.fresh = ∅ := StableHlo.forall_fresh_of_map rfl
theorem pre_writes : (pre (F := F)).Forall fun op => op.writes ⊆ (([main_c, main_v0, main_v1, main_v2, main_v3, main_v4, main_v5, main_cst, main_v6, main_v7]).map (Proc.devRef (τ := τ) .tc)).toFinset :=
  StableHlo.forall_writes_sub_of_map rfl
theorem post_bufs : (post (F := F)).bufs ⊆ ucRefs τ sig := Pipeline.sub_ucRefs post (StableHlo.reshape_bufs_sub ..)

variable (m : (ℓ : Loc nD τ sig) → Buf (Elt F) ℓ)

/-! ## The buffers' contents as the program goes -/

/-- At the launch, -/
def V0 (d : Dev nD) : Valuation τ sig (Elt F) := fun b => m (d, b)
/-- after the first host operations, -/
def V1 (d : Dev nD) : Valuation τ sig (Elt F) := StableHlo.after pre (V0 m d)
/-- after the SparseCore call, which left `g` in its second result, -/
def V2 (d : Dev nD) (g : S8x16384.Idx → Elt F .f32) : Valuation τ sig (Elt F) :=
  Function.update (Function.update (V1 m d) (Proc.devRef .tc main_v8_0) (gWr (m (wLoc d)) (m (tLoc d)))) (Proc.devRef .tc main_v8_1) g
/-- after the noise call, -/
def V3 (d : Dev nD) (g : S8x16384.Idx → Elt F .f32) : Valuation τ sig (Elt F) := out1 (fun _ => V2 m d g) d
/-- after the data call, -/
def V4 (d : Dev nD) (g : S8x16384.Idx → Elt F .f32) : Valuation τ sig (Elt F) := out2 (fun _ => V3 m d g) d
/-- and at the end. -/
def V5 (d : Dev nD) (g : S8x16384.Idx → Elt F .f32) : Valuation τ sig (Elt F) := post.result (V4 m d g)

theorem V1_of (d : Dev nD) (r : Ref sig .tc) (hr : r ∉ ([main_c, main_v0, main_v1, main_v2, main_v3, main_v4, main_v5, main_cst, main_v6, main_v7] : List (Ref sig .tc))) :
    V1 m d (Proc.devRef .tc r) = m ((SparseCore.T d).loc r) := StableHlo.after_of_writes_sub pre (V0 m d) pre_writes hr

/-- The six arrays of the SparseCore call. -/
def six : Finset (DevRef τ sig) := {Proc.devRef .tc main_arg1, Proc.devRef .tc main_arg2, Proc.devRef .tc main_arg3, Proc.devRef .tc main_arg4, Proc.devRef .tc main_v8_0, Proc.devRef .tc main_v8_1}

theorem mem_uc (r : Ref sig .tc) (h : r.isScoped = false) : Proc.devRef (τ := τ) .tc r ∈ ucRefs τ sig :=
  Finset.mem_filter.mpr ⟨StableHlo.devRef_mem_tcRefs r, by show ¬ (r.isScoped = true); rw [h]; decide⟩

theorem six_sub : six ⊆ ucRefs τ sig := by
  intro b hb
  simp only [six, Finset.mem_insert, Finset.mem_singleton] at hb
  rcases hb with rfl | rfl | rfl | rfl | rfl | rfl <;> exact mem_uc _ rfl

theorem held_six (d : Dev nD) (W : Valuation τ sig (Elt F)) :
    (StableHlo.held (d.tc : Thread nD τ) six W : sProp 𝕄) = Given d (W (Proc.devRef .tc main_arg2)) (W (Proc.devRef .tc main_arg1)) (W (Proc.devRef .tc main_arg3)) (W (Proc.devRef .tc main_arg4))
      (W (Proc.devRef .tc main_v8_0)) (W (Proc.devRef .tc main_v8_1)) := by
  unfold StableHlo.held six Given
  rw [SparseCore.bigSep_insert' (by decide), SparseCore.bigSep_insert' (by decide), SparseCore.bigSep_insert' (by decide), SparseCore.bigSep_insert' (by decide), SparseCore.bigSep_insert' (by decide), bigSep_singleton]

/-! ## The six arrays out of the buffers and back -/

theorem six_in (d : Dev nD) : (StableHlo.held (d.tc : Thread nD τ) six (V1 m d) : sProp 𝕄)
    = Given d (m (wLoc d)) (m (tLoc d)) (m (bLoc d)) (m (nLoc d)) (m (rLoc d)) (m (gLoc d)) := by
  rw [held_six, V1_of m d main_arg2 (by decide), V1_of m d main_arg1 (by decide), V1_of m d main_arg3 (by decide), V1_of m d main_arg4 (by decide), V1_of m d main_v8_0 (by decide), V1_of m d main_v8_1 (by decide)]

theorem V2_of (d : Dev nD) (g : S8x16384.Idx → Elt F .f32) (b : DevRef τ sig) (h0 : b ≠ Proc.devRef .tc main_v8_0) (h1 : b ≠ Proc.devRef .tc main_v8_1) : V2 m d g b = V1 m d b := by
  unfold V2; rw [Function.update_of_ne h1, Function.update_of_ne h0]
theorem V2_rows (d : Dev nD) (g : S8x16384.Idx → Elt F .f32) : V2 m d g (Proc.devRef .tc main_v8_0) = gWr (m (wLoc d)) (m (tLoc d)) := by
  unfold V2; rw [Function.update_of_ne (by decide), Function.update_self]
theorem V2_bnt (d : Dev nD) (g : S8x16384.Idx → Elt F .f32) : V2 m d g (Proc.devRef .tc main_v8_1) = g := by
  unfold V2; rw [Function.update_self]
theorem V2_arg (d : Dev nD) (g : S8x16384.Idx → Elt F .f32) (r : Ref sig .tc)
    (hr : r ∉ ([main_c, main_v0, main_v1, main_v2, main_v3, main_v4, main_v5, main_cst, main_v6, main_v7] : List (Ref sig .tc))) (h0 : r ≠ main_v8_0) (h1 : r ≠ main_v8_1) :
    V2 m d g (Proc.devRef .tc r) = m ((SparseCore.T d).loc r) :=
  (V2_of m d g _ (fun e => h0 (Proc.devRef_injective _ e)) (fun e => h1 (Proc.devRef_injective _ e))).trans (V1_of m d r hr)

theorem six_out (d : Dev nD) (g : S8x16384.Idx → Elt F .f32) : (StableHlo.held (d.tc : Thread nD τ) six (V2 m d g) : sProp 𝕄)
    = Given d (m (wLoc d)) (m (tLoc d)) (m (bLoc d)) (m (nLoc d)) (gWr (m (wLoc d)) (m (tLoc d))) g := by
  rw [held_six, V2_arg m d g main_arg2 (by decide) (by decide) (by decide), V2_arg m d g main_arg1 (by decide) (by decide) (by decide), V2_arg m d g main_arg3 (by decide) (by decide) (by decide),
    V2_arg m d g main_arg4 (by decide) (by decide) (by decide), V2_rows, V2_bnt]

theorem six_rest (d : Dev nD) (g : S8x16384.Idx → Elt F .f32) :
    (StableHlo.held (d.tc : Thread nD τ) (ucRefs τ sig \ six) (V2 m d g) : sProp 𝕄) = StableHlo.held (d.tc : Thread nD τ) (ucRefs τ sig \ six) (V1 m d) :=
  StableHlo.held_congr (d.tc : Thread nD τ) fun b hb => V2_of m d g b
    (fun e => (Finset.mem_sdiff.mp hb).2 (by rw [e]; decide)) (fun e => (Finset.mem_sdiff.mp hb).2 (by rw [e]; decide))

/-! ## The TensorCore's run -/

/-- What the program ends with on a core. -/
def FIN (d : Dev nD) : sProp 𝕄 :=
  iprop(∃ g, ⌜BnOK (m (bLoc d)) (m (nLoc d)) (m (tLoc d)) Finset.univ g⌝ ∗ StableHlo.held (d.tc : Thread nD τ) (ucRefs τ sig) (V5 m d g))

variable (ρ : Dev nD → PrngReg)

omit [FloatOps F] in
theorem lev_le (d : Dev nD) (sm : SemLoc sig) (o : HIx 1) : (K (F := F)).lev (SparseCore.T d, sm) o ≤ 8 := by
  cases o with
  | none => exact Nat.zero_le _
  | some q => match q with | 0 => show 8 * 0 + 6 + 1 ≤ 8; decide

omit [FloatOps F] in
/-- The TensorCore's state after the call, its debts taken out, -/
theorem tcSt_out (d : Dev nD) : ((K (F := F)).tcSt EH d ((0 : Fin 1).val + 1) : sProp 𝕄) ⊢ iprop((∃ W, owes (d.tc : Thread nD τ) (0 : CellTallies nD τ sig (HIx 1)) W)
    ∗ ((∃ W, owes (d.tc : Thread nD τ) (0 : CellTallies nD τ sig (HIx 1)) W) -∗ (K (F := F)).tcSt EH d 1)) := by
  show ((K (F := F)).tcSt EH d 1 : sProp 𝕄) ⊢ _
  unfold SparseCore.Cfg.tcSt
  rw [(K (F := F)).Otc_end d (Nat.le_refl 1)]
  iintro ⟨⟨%W, -, HO⟩, HR⟩
  isplitl [HO]
  · iexists W; iexact HO
  iintro ⟨%W', HO⟩
  isplitr [HR]
  · iexists W'; isplitr
    · ipureintro; exact fun p _ => lev_le d p.1 p.2
    iexact HO
  iexact HR

theorem levels (κ : GSem nD τ sig → ℕ) : (K (F := F)).ctx EH (P m) κ ⊢ (levAts (K (F := F)).L (K (F := F)).lev : sProp 𝕄) := SparseCore.Cfg.ctx_levAts κ

theorem bigSep_two (Φ : Fin 2 → sProp 𝕄) : bigSep Finset.univ Φ = iprop(Φ 0 ∗ Φ 1) := by
  rw [show (Finset.univ : Finset (Fin 2)) = {0, 1} from rfl, SparseCore.bigSep_insert' (by decide), bigSep_singleton]

omit [FloatOps F] in
theorem entry_held (d : Dev nD) : (unscopedBufs d (fun b => m ((SparseCore.T d).loc b)) : sProp 𝕄) ⊢ StableHlo.held (d.tc : Thread nD τ) (ucRefs τ sig) (V0 m d) :=
  Entails.of_eq (Pipeline.unscopedBufs_held d (V0 m d))

theorem at_call (d : Dev nD) : (StableHlo.held (d.tc : Thread nD τ) (ucRefs τ sig) (StableHlo.after pre (V0 m d)) : sProp 𝕄)
    ⊢ iprop(StableHlo.held (d.tc : Thread nD τ) six (V1 m d) ∗ StableHlo.held (d.tc : Thread nD τ) (ucRefs τ sig \ six) (V1 m d)) :=
  Entails.of_eq (StableHlo.held_sub_split (d.tc : Thread nD τ) six_sub (V1 m d))

set_option maxHeartbeats 1000000 in
theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G (F := F) d)
      ⊢ wp Idealize.ShloMosaic.frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd G
  rw [main_eq, bigSep_two, bigSep_two]
  iintro ⟨#Hctx, Hst, ⟨Hb, Hu, Hsem, -⟩, ⟨Hc0, Hc1⟩, Ht0, Ht1⟩
  ihave Hh := (entry_held m d) $$ Hu
  iapply (StableHlo.wp_seq 𝒱 none Set.univ d (ucRefs τ sig) _ pre (fun op h => Pipeline.sub_ucRefs op (List.forall_iff_forall_mem.mp pre_bufs op h)) (List.forall_iff_forall_mem.mp pre_fresh) (V0 m d)) $$ [Hb Hh]
  · isplitl [Hb]; · iexact Hb
    iexact Hh
  iintro ⟨Hb, Hh⟩
  ihave Hh := (at_call m d) $$ Hh
  icases Hh with ⟨H6, Hr⟩
  ihave H6 := (Entails.of_eq (six_in m d)) $$ H6
  ihave H6 := (st_given m d) $$ H6
  icases H6 with ⟨H6, Hk⟩
  iapply (Entails.of_eq (wp_bind _ _ _ _ _ _).symm)
  iapply ((K (F := F)).wp_run (D (F := F)) 𝒱 (EH := EH) (P := P m) κ d 0) $$ [Hst H6 Hb Hsem Hc0 Hc1 Ht0 Ht1 Hr Hk]
  isplitr; · iexact Hctx
  isplitl [Hst]; · iexact Hst
  isplitl [H6]; · iexact H6
  iintro ⟨Hst, Hdn⟩
  ihave Hd := (dn_given m d) $$ [Hdn Hk]
  · isplitl [Hdn]; · iexact Hdn
    iexact Hk
  icases Hd with ⟨%g, %hg, H6⟩
  ihave H6 := (Entails.of_eq (six_out m d g).symm) $$ H6
  ihave Hr := (Entails.of_eq (six_rest m d g).symm) $$ Hr
  ihave Hh := (Entails.of_eq (StableHlo.held_sub_split (d.tc : Thread nD τ) six_sub (V2 m d g)).symm) $$ [H6 Hr]
  · isplitl [H6]; · iexact H6
    iexact Hr
  ihave Hst := (tcSt_out d) $$ Hst
  icases Hst with ⟨HO, Hst⟩
  ihave #Hl := (levels m κ) $$ Hctx
  iapply (Entails.of_eq (wp_bind _ _ _ _ _ _).symm)
  ihave Hw := (run1 (fun _ => V2 m d g) d) $$ [Hb Hh HO Hc0 Ht0]
  · isplitl [Hb]; · iexact Hb
    isplitl [Hh]; · iexact Hh
    isplitl [HO]; · iexact HO
    isplitr; · iexact Hl
    isplitl [Hc0]; · iexact Hc0
    iexact Ht0
  iapply wp_wand_r
  isplitl [Hw]; · iexact Hw
  iintro %_ Ha
  unfold after1At
  icases Ha with ⟨Hb, Hh, HO⟩
  iapply (Entails.of_eq (wp_bind _ _ _ _ _ _).symm)
  ihave Hw := (run2 (fun _ => V3 m d g) d) $$ [Hb Hh HO Hc1 Ht1]
  · isplitl [Hb]; · iexact Hb
    isplitl [Hh]; · iexact Hh
    isplitl [HO]; · iexact HO
    isplitr; · iexact Hl
    isplitl [Hc1]; · iexact Hc1
    iexact Ht1
  iapply wp_wand_r
  isplitl [Hw]; · iexact Hw
  iintro %_ Ha
  unfold after2At
  icases Ha with ⟨Hb, Hh, HO⟩
  iapply (Entails.of_eq (wp_bind _ _ _ _ _ _).symm)
  iapply (StableHlo.wp_hlo_within 𝒱 (d.tc : Thread nD τ) none Set.univ post_bufs (V := V4 m d g)) $$ [Hb Hh]
  · isplitl [Hb]; · iexact Hb
    iexact Hh
  iintro ⟨Hb, Hh⟩
  rw [wp_ret]; imodintro
  rw [wp_pure]
  imodintro
  isplitl [Hst HO]
  · iapply Hst; iexact HO
  isplitl [Hh]
  · unfold FIN; iexists g; isplitr
    · ipureintro; exact hg
    iexact Hh
  isplitl [Hb]; · iexact Hb
  iexact Hsem

end Main

end Cert.Proof.Nce

end
-- ==== Proof.Run.lean ====
/-
  The whole program's run: its arguments end unchanged, its semaphores at zero, and its result at the last valuation's.
-/
module

public import proofs.«01_k».proof.Proof.Main
@[expose] public section

noncomputable section

namespace Cert.Proof.Nce

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Idealize.ShloMosaic.Pipeline (ucRefs)

variable {F : FTy → Type}

local notation "𝕄" => MT nD τ sig (HIx 1) (Elt F) ℕ UU ℕ

section Run

variable [FloatOps F]

/-! ## What the two TensorCore calls leave alone -/

theorem out1_of (X : Dev nD → Valuation τ sig (Elt F)) (d : Dev nD) (r : Ref sig .tc) (h : r ≠ main_v9) : out1 X d (Proc.devRef .tc r) = X d (Proc.devRef .tc r) :=
  Pipeline.afterRegion_keeps (fam1 X 0 d) (X d) (show Function.Injective (Pipeline.arrRef spec1) by decide) (fun _ => rfl) r fun w => by
    fin_cases w <;> first | exact fun _ => rfl | exact fun e => absurd e.symm h
theorem out2_of (X : Dev nD → Valuation τ sig (Elt F)) (d : Dev nD) (r : Ref sig .tc) (h : r ≠ main_v10) : out2 X d (Proc.devRef .tc r) = X d (Proc.devRef .tc r) :=
  Pipeline.afterRegion_keeps (fam2 X 1 d) (X d) (show Function.Injective (Pipeline.arrRef spec2) by decide) (fun _ => rfl) r fun w => by
    fin_cases w <;> first | exact fun _ => rfl | exact fun e => absurd e.symm h

variable (m : (ℓ : Loc nD τ sig) → Buf (Elt F) ℓ)

/-- A buffer nothing writes ends as it started. -/
theorem V5_of (d : Dev nD) (g : S8x16384.Idx → Elt F .f32) (r : Ref sig .tc)
    (hr : r ∉ ([main_c, main_v0, main_v1, main_v2, main_v3, main_v4, main_v5, main_cst, main_v6, main_v7] : List (Ref sig .tc))) (h0 : r ≠ main_v8_0) (h1 : r ≠ main_v8_1)
    (h9 : r ≠ main_v9) (h10 : r ≠ main_v10) (h11 : r ≠ main_v11) : V5 m d g (Proc.devRef .tc r) = m ((SparseCore.T d).loc r) := by
  refine (StableHlo.reshape_result_ne _ _ _ _ _ _ (V4 m d g) h11).trans ?_
  exact (out2_of _ d r h10).trans ((out1_of _ d r h9).trans (V2_arg m d g r hr h0 h1))

/-! ## The final state -/

omit [FloatOps F] in
/-- The memory holds what is held. -/
theorem held_agree (c : Thread nD τ) (W : Valuation τ sig (Elt F)) (s' : Phys nD τ sig (Elt F)) (S : Finset (DevRef τ sig)) :
    iprop(StableHlo.held c S W ∗ SI s') ⊢ (⌜∀ b ∈ S, s'.mem.mem (c.1, b) = W b⌝ : sProp 𝕄) := by
  induction S using Finset.induction_on with
  | empty => iintro -; ipureintro; exact fun b hb => absurd hb (Finset.notMem_empty b)
  | insert a S ha ih =>
    unfold StableHlo.held at ih ⊢
    rw [SparseCore.bigSep_insert' ha]
    iintro ⟨⟨Ha, HS⟩, HSI⟩
    ihave H := (persistent_entails_right (SI_pointsTo_agree (st := s') (ℓ := (c.1, a)) (I := Finset.univ) (q := fullShare) (f := W a))) $$ [HSI Ha]
    · isplitl [HSI] <;> iassumption
    icases H with ⟨%h1, HSI, -⟩
    ihave H := ih $$ [HSI HS]
    · isplitl [HS] <;> iassumption
    icases H with %h2
    ipureintro
    intro b hb
    rcases Finset.mem_insert.mp hb with rfl | hb
    · exact funext fun i => h1 i (Finset.mem_univ i)
    · exact h2 b hb

/-- The arguments as the launch had them, the result the last valuation's at some gathered table. -/
def fq (d : Dev nD) (s' : Phys nD τ sig (Elt F)) : Prop :=
  (s'.mem.mem (xLoc d) = m (xLoc d) ∧ s'.mem.mem (tLoc d) = m (tLoc d) ∧ s'.mem.mem (wLoc d) = m (wLoc d) ∧ s'.mem.mem (bLoc d) = m (bLoc d)
    ∧ s'.mem.mem (nLoc d) = m (nLoc d) ∧ s'.mem.mem (sLoc d) = m (sLoc d))
  ∧ ∃ g, BnOK (m (bLoc d)) (m (nLoc d)) (m (tLoc d)) Finset.univ g ∧ s'.mem.mem ((SparseCore.T d).loc main_v11) = V5 m d g (Proc.devRef .tc main_v11)

theorem hfin (d : Dev nD) (s' : Phys nD τ sig (Elt F)) : iprop(FIN m d ∗ SI s') ⊢ (⌜fq m d s'⌝ : sProp 𝕄) := by
  unfold FIN
  iintro ⟨⟨%g, %hg, Hh⟩, HSI⟩
  ihave H := (held_agree (d.tc : Thread nD τ) (V5 m d g) s' (ucRefs τ sig)) $$ [Hh HSI]
  · isplitl [Hh] <;> iassumption
  icases H with %h
  ipureintro
  have hk := fun (r : Ref sig .tc) (hs : r.isScoped = false) => h _ (mem_uc r hs)
  refine ⟨⟨?_, ?_, ?_, ?_, ?_, ?_⟩, g, hg, hk main_v11 rfl⟩
  · exact (hk main_arg0 rfl).trans (V5_of m d g main_arg0 (by decide) (by decide) (by decide) (by decide) (by decide) (by decide))
  · exact (hk main_arg1 rfl).trans (V5_of m d g main_arg1 (by decide) (by decide) (by decide) (by decide) (by decide) (by decide))
  · exact (hk main_arg2 rfl).trans (V5_of m d g main_arg2 (by decide) (by decide) (by decide) (by decide) (by decide) (by decide))
  · exact (hk main_arg3 rfl).trans (V5_of m d g main_arg3 (by decide) (by decide) (by decide) (by decide) (by decide) (by decide))
  · exact (hk main_arg4 rfl).trans (V5_of m d g main_arg4 (by decide) (by decide) (by decide) (by decide) (by decide) (by decide))
  · exact (hk main_arg5 rfl).trans (V5_of m d g main_arg5 (by decide) (by decide) (by decide) (by decide) (by decide) (by decide))

/-- What every final state satisfies. -/
def QC : PUnit × MemSt nD τ sig (Elt F) → Prop := fun r =>
  (∀ d : Dev nD, (r.2.mem (xLoc d) = m (xLoc d) ∧ r.2.mem (tLoc d) = m (tLoc d) ∧ r.2.mem (wLoc d) = m (wLoc d) ∧ r.2.mem (bLoc d) = m (bLoc d)
    ∧ r.2.mem (nLoc d) = m (nLoc d) ∧ r.2.mem (sLoc d) = m (sLoc d))
  ∧ ∃ g, BnOK (m (bLoc d)) (m (nLoc d)) (m (tLoc d)) Finset.univ g ∧ r.2.mem ((SparseCore.T d).loc main_v11) = V5 m d g (Proc.devRef .tc main_v11))
  ∧ r.2.sem = fun _ => 0

theorem run_main [∀ e, Nonempty (Elt F e)] (ρ : Dev nD → PrngReg) (hpre : Targeted m) : θ_run (defs (F := F)) (threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (G (F := F)) (FIN m) (u₀ (F := F)) (sep_elim_left.trans (hu₀ m)) (hmain m ρ) (fq m) (hfin m) (QC m) (fun _ h hz => ⟨h, hz⟩)

end Run

end Cert.Proof.Nce

end
-- ==== Proof.Range.lean ====
/-
  What the index precondition says: every index word names a vocabulary row.
-/
module

public import proofs.«01_k».proof.Proof.Gen.Pre_in_range
public import Idealize.ShloMosaic.Lib.ReduceAll
@[expose] public section

noncomputable section

namespace Cert.Proof.Nce

open Idealize.ShloMosaic

/-- One-bit words, as truth values. -/
theorem bit_and (a b : BitVec 1) : a &&& b = 1#1 ↔ a = 1#1 ∧ b = 1#1 := by
  revert a b; decide
theorem bit_ofBool (b : Bool) : BitVec.ofBool b = 1#1 ↔ b = true := by cases b <;> decide

/-- A word at least 0 and below 1000 as a signed number is below 1000 as an unsigned one. -/
theorem word_lt (w : BitVec 32) (h0 : (0#32).sle w = true) (h1 : w.slt 1000#32 = true) : w.toNat < 1000 := by
  simp only [BitVec.sle_eq_decide, BitVec.slt_eq_decide, decide_eq_true_eq, BitVec.toInt_eq_toNat_cond, BitVec.reduceToNat] at h0 h1
  have := w.isLt
  split at h0 <;> split at h1 <;> omega

instance : Subsingleton (Shape.Idx ⟨0, ![]⟩) := ⟨fun a b => funext fun i => i.elim0⟩

section
variable {F : FTy → Type} [FloatOps F]
attribute [local instance] Cert.Pre_in_range.Gen.facts

/-- What `in_range` says of its two index arrays. -/
theorem range_of (x : FVec F Pre_in_range.S16384x128 .f32) (t : IVec Pre_in_range.S16384 32) (W : FVec F Pre_in_range.S1000x128 .f32) (b nz : FVec F Pre_in_range.S1000 .f32)
    (s : IVec Pre_in_range.S50 32) (h : Pre_in_range.fn x t W b nz s = fun _ => 1#1) : (∀ i, (t i).toNat < 1000) ∧ ∀ i, (s i).toNat < 1000 := by
  have h := congrFun h (Shape.Idx.first Pre_in_range.Facts.h_S_)
  simp only [Pre_in_range.fn, andi, IntOp.andi, bit_and] at h
  obtain ⟨h1, h2⟩ := h
  constructor <;> intro i
  · have e := Host.reduce_andi_all _ _ _ _ _ h1 i
    simp only [andi, IntOp.andi, bit_and, cmpi, IntOp.cmpi, bit_ofBool, broadcastInDim, constantI] at e
    exact word_lt _ e.1 e.2
  · have e := Host.reduce_andi_all _ _ _ _ _ h2 i
    simp only [andi, IntOp.andi, bit_and, cmpi, IntOp.cmpi, bit_ofBool, broadcastInDim, constantI] at e
    exact word_lt _ e.1 e.2

end

end Cert.Proof.Nce

end
-- ==== Proof.Frames.lean ====
/-
  The frame claims: the kernel at the hardware's words and at exact arithmetic, and the reference.
-/
module

public import proofs.«01_k».proof.Defs
public import proofs.«01_k».proof.Proof.Gen.Kernel
public import proofs.«01_k».proof.Proof.Gen.ReferenceIdeal
public import proofs.«01_k».proof.Proof.Gen.ReferenceIdeal.Run
public import proofs.«01_k».proof.Proof.Run
public import proofs.«01_k».proof.Proof.Range
public import Idealize.ShloMosaic.Init
@[expose] public section

noncomputable section

namespace Cert.Proof.Nce

open Idealize.ShloMosaic Idealize.SL.Sem

attribute [local instance] Cert.Kernel.Gen.facts Cert.KernelIdeal.Gen.facts Cert.ReferenceIdeal.Gen.facts Cert.Pre_in_range.Gen.facts

/-- The printed kernel and its reading at exact arithmetic are one text, so one body table: label by label. -/
theorem table_tc1 (a) : (Cert.Kernel.defs₀ (F := Bits)) .tc (1 : Fin 3) a = Cert.KernelIdeal.defs₀ (F := Bits) .tc (1 : Fin 3) a := rfl
theorem table_tc2 (a) : (Cert.Kernel.defs₀ (F := Bits)) .tc (2 : Fin 3) a = Cert.KernelIdeal.defs₀ (F := Bits) .tc (2 : Fin 3) a := rfl
theorem table_tc0 (a) : (Cert.Kernel.defs₀ (F := Bits)) .tc (0 : Fin 3) a = Cert.KernelIdeal.defs₀ (F := Bits) .tc (0 : Fin 3) a := rfl
theorem table_scalar (c ℓ a) : (Cert.Kernel.defs₀ (F := Bits)) (.scScalar c) ℓ a = Cert.KernelIdeal.defs₀ (F := Bits) (.scScalar c) ℓ a := rfl
theorem table_tile1 (c s a) : (Cert.Kernel.defs₀ (F := Bits)) (.scVector c s) (1 : Fin 3) a = Cert.KernelIdeal.defs₀ (F := Bits) (.scVector c s) (1 : Fin 3) a := rfl
theorem table_tile2 (c s a) : (Cert.Kernel.defs₀ (F := Bits)) (.scVector c s) (2 : Fin 3) a = Cert.KernelIdeal.defs₀ (F := Bits) (.scVector c s) (2 : Fin 3) a := rfl
theorem table_tile0 (c s a) : (Cert.Kernel.defs₀ (F := Bits)) (.scVector c s) (0 : Fin 3) a = Cert.KernelIdeal.defs₀ (F := Bits) (.scVector c s) (0 : Fin 3) a := rfl

theorem table_kernels : (Cert.Kernel.defs₀ (F := Bits)) = Cert.KernelIdeal.defs₀ (F := Bits) := by
  funext k ℓ a
  match k, ℓ, a with
  | .tc, (0 : Fin 3), a => exact table_tc0 a
  | .tc, (1 : Fin 3), a => exact table_tc1 a
  | .tc, (2 : Fin 3), a => exact table_tc2 a
  | .scScalar c, ℓ, a => exact table_scalar c ℓ a
  | .scVector c s, (0 : Fin 3), a => exact table_tile0 c s a
  | .scVector c s, (1 : Fin 3), a => exact table_tile1 c s a
  | .scVector c s, (2 : Fin 3), a => exact table_tile2 c s a

/-- The whole table, with the pipelines and the dispatch put on top. -/
theorem table : (Cert.Kernel.defs (F := Bits)) = Cert.KernelIdeal.defs (F := Bits) :=
  congrArg (fun D => (Cert.KernelIdeal.sc (F := Bits)).defs (Pipeline.defs Cert.KernelIdeal.pcfgs D)) table_kernels

theorem frame_kernel : Cert.quiescent_Kernel := by
  intro m ρ h
  rw [table]
  exact (θ_run Cert.KernelIdeal.defs _ _).mono (fun _ h => ⟨fun c => (h.1 c).1, h.2⟩)
    (run_main (F := Bits) m ρ fun d => (range_of _ _ _ _ _ _ (h d)).1)

theorem frame_ideal : Cert.quiescent_KernelIdeal := fun m ρ h =>
  (θ_run Cert.KernelIdeal.defs _ _).mono (fun _ h => ⟨fun c => (h.1 c).1, h.2⟩)
    (run_main (F := Ideal) m ρ fun d => (range_of _ _ _ _ _ _ (h d)).1)

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof.Nce

end
-- ==== Proof.Domain.lean ====
/-
  The value claim's precondition — indices in range, noise nonnegative — and the two frames under it.
-/
module

public import proofs.«01_k».proof.Proof.Gen.Pre_in_domain
public import proofs.«01_k».proof.Proof.Frames
public import Idealize.ShloMosaic.PureOps.Ideal
@[expose] public section

noncomputable section

namespace Cert.Proof.Nce

open Idealize.ShloMosaic Idealize.SL.Sem

section
variable {F : FTy → Type} [FloatOps F]
attribute [local instance] Cert.Pre_in_domain.Gen.facts

/-- What `in_domain` says: the same, -/
theorem range_of_domain (x : FVec F Pre_in_domain.S16384x128 .f32) (t : IVec Pre_in_domain.S16384 32) (W : FVec F Pre_in_domain.S1000x128 .f32) (b nz : FVec F Pre_in_domain.S1000 .f32)
    (s : IVec Pre_in_domain.S50 32) (h : Pre_in_domain.fn x t W b nz s = fun _ => 1#1) : (∀ i, (t i).toNat < 1000) ∧ ∀ i, (s i).toNat < 1000 := by
  have h := congrFun h (Shape.Idx.first Pre_in_domain.Facts.h_S_)
  simp only [Pre_in_domain.fn, Pre_in_domain.fn_part1, andi, IntOp.andi, bit_and] at h
  obtain ⟨⟨h1, h2⟩, -⟩ := h
  constructor <;> intro i
  · have e := Host.reduce_andi_all _ _ _ _ _ h1 i
    simp only [andi, IntOp.andi, bit_and, cmpi, IntOp.cmpi, bit_ofBool, broadcastInDim, constantI] at e
    exact word_lt _ e.1 e.2
  · have e := Host.reduce_andi_all _ _ _ _ _ h2 i
    simp only [andi, IntOp.andi, bit_and, cmpi, IntOp.cmpi, bit_ofBool, broadcastInDim, constantI] at e
    exact word_lt _ e.1 e.2
end

attribute [local instance] Cert.Pre_in_domain.Gen.facts
/-- And the noise values are nonnegative. -/
theorem noise_of_domain (x : FVec Ideal Pre_in_domain.S16384x128 .f32) (t : IVec Pre_in_domain.S16384 32) (W : FVec Ideal Pre_in_domain.S1000x128 .f32)
    (b nz : FVec Ideal Pre_in_domain.S1000 .f32) (s : IVec Pre_in_domain.S50 32) (h : Pre_in_domain.fn x t W b nz s = fun _ => 1#1) : ∀ i, (0 : EReal) ≤ nz i := by
  have h := congrFun h (Shape.Idx.first Pre_in_domain.Facts.h_S_)
  simp only [Pre_in_domain.fn, Pre_in_domain.fn_part1, andi, IntOp.andi, bit_and] at h
  intro i
  have e := Host.reduce_andi_all _ _ _ _ _ h.2 i
  simp only [cmpf, FloatOps.cmpf, Ideal.cmp, bit_ofBool, decide_eq_true_eq, broadcastInDim, constant] at e
  refine le_of_eq_of_le ?_ (of_decide_eq_true e)
  show (0 : EReal) = Ideal.ofBits .f32 0x00000000#32
  simp [Ideal.ofBits, Ideal.ieee]

attribute [local instance] Cert.KernelIdeal.Gen.facts Cert.ReferenceIdeal.Gen.facts

theorem frame_ideal_domain : Cert.quiescent_KernelIdeal_pre_in_domain := fun m ρ h =>
  (θ_run Cert.KernelIdeal.defs _ _).mono (fun _ h => ⟨fun c => (h.1 c).1, h.2⟩)
    (run_main (F := Ideal) m ρ fun d => (range_of_domain _ _ _ _ _ _ (h d)).1)

theorem frame_reference_domain : Cert.quiescent_ReferenceIdeal_pre_in_domain := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof.Nce

end
-- ==== Proof.Scalars.lean ====
/-
  The scalar facts the value claim rests on: what the constants denote, and the two identities of the logarithm of a quotient.
-/
module

public import Idealize.ShloMosaic.PureOps.Ideal
@[expose] public section

noncomputable section

namespace Cert.Proof.NceValue

open Idealize.ShloMosaic

/-! ## Constants -/

theorem bits_zero : Ideal.ofBits .f32 0x00000000#32 = (0 : EReal) := by
  simp [Ideal.ofBits, Ideal.ieee]
theorem bits_one : Ideal.ofBits .f32 0x3F800000#32 = (1 : EReal) := by
  simp [Ideal.ofBits, Ideal.ieee]; rw [← EReal.coe_mul]; norm_num
theorem bits_neg_one : Ideal.ofBits .f32 0xBF800000#32 = ((-1 : ℝ) : EReal) := by
  simp [Ideal.ofBits, Ideal.ieee]; rw [← EReal.coe_mul]; norm_num
theorem bits_nine : Ideal.ofBits .f32 0x41100000#32 = ((9 : ℝ) : EReal) := by
  simp [Ideal.ofBits, Ideal.ieee]; rw [← EReal.coe_mul]; norm_num
theorem bits_fifty : Ideal.ofBits .f32 0x42480000#32 = ((50 : ℝ) : EReal) := by
  simp [Ideal.ofBits, Ideal.ieee]; rw [← EReal.coe_mul]; norm_num
theorem bits_batch : Ideal.ofBits .f32 0x46800000#32 = ((16384 : ℝ) : EReal) := by
  simp [Ideal.ofBits, Ideal.ieee]; rw [← EReal.coe_mul]; norm_num
theorem bits_mean : Ideal.ofBits .f32 0xB8800000#32 = ((-(1 / 16384) : ℝ) : EReal) := by
  simp [Ideal.ofBits, Ideal.ieee]; rw [← EReal.coe_mul]; norm_num

/-! ## The two identities -/

theorem fifty_nonneg : (0 : EReal) ≤ ((50 : ℝ) : EReal) := EReal.coe_nonneg.mpr (by norm_num)
theorem exp_real (r : ℝ) : Ideal.exp (r : EReal) = ((Real.exp r : ℝ) : EReal) := rfl
theorem exp_bot : Ideal.exp ⊥ = 0 := rfl
theorem exp_top : Ideal.exp ⊤ = ⊤ := rfl
theorem log_top : Ideal.log ⊤ = ⊤ := rfl
theorem log_bot : Ideal.log ⊥ = ⊥ := rfl
theorem log_pos {r : ℝ} (h : 0 < r) : Ideal.log (r : EReal) = ((Real.log r : ℝ) : EReal) := if_neg (not_le.mpr h)
theorem log_zero : Ideal.log 0 = ⊥ := if_pos (le_refl (0 : ℝ))
theorem div_pos {a b : ℝ} (h : b ≠ 0) : Ideal.div (a : EReal) (b : EReal) = ((a / b : ℝ) : EReal) := by
  rw [Ideal.div, if_neg (by exact_mod_cast h), ← EReal.coe_inv, ← EReal.coe_mul, div_eq_mul_inv]
theorem div_top (a : EReal) : Ideal.div a ⊤ = 0 := by
  rw [Ideal.div, if_neg (by simp), EReal.inv_top, mul_zero]

/-- The logarithm of the data term's quotient is a difference. -/
theorem log_data (z c : EReal) (hc : 0 ≤ c) :
    Ideal.log (Ideal.div (Ideal.exp z) (Ideal.exp z + c)) = z - Ideal.log (Ideal.exp z + c) := by
  induction z with
  | bot =>
    rw [exp_bot, zero_add, Ideal.div]
    split
    · next h => rw [if_neg (lt_irrefl _), h, log_bot, log_zero]; rfl
    · rw [zero_mul, log_zero, EReal.bot_sub]
  | top =>
    have e : (⊤ : EReal) + c = ⊤ := EReal.top_add_of_ne_bot (ne_of_gt (lt_of_lt_of_le EReal.bot_lt_zero hc))
    rw [exp_top, e, div_top, log_zero, log_top]; rfl
  | coe r =>
    induction c with
    | bot => exact absurd hc (by simp)
    | top => rw [exp_real, EReal.coe_add_top, div_top, log_zero, log_top]; rfl
    | coe c =>
      have h0 : (0 : ℝ) ≤ c := by exact_mod_cast hc
      have hp : 0 < Real.exp r + c := add_pos_of_pos_of_nonneg (Real.exp_pos r) h0
      rw [exp_real, ← EReal.coe_add, div_pos hp.ne', log_pos (_root_.div_pos (Real.exp_pos r) hp), log_pos hp, Real.log_div (Real.exp_pos r).ne' hp.ne', Real.log_exp, EReal.coe_sub]

/-- The logarithm of the noise term's quotient is a difference. -/
theorem log_noise (z c : EReal) (hc : 0 ≤ c) :
    Ideal.log (Ideal.div c (Ideal.exp z + c)) = Ideal.log c - Ideal.log (Ideal.exp z + c) := by
  induction c with
  | bot => exact absurd hc (by simp)
  | top =>
    have e : Ideal.exp z + ⊤ = ⊤ := by
      induction z with
      | bot => rw [exp_bot, zero_add]
      | top => rw [exp_top]; rfl
      | coe r => rw [exp_real, EReal.coe_add_top]
    rw [e, div_top, log_zero, log_top]; rfl
  | coe c =>
    have h0 : (0 : ℝ) ≤ c := by exact_mod_cast hc
    induction z with
    | bot =>
      rw [exp_bot, zero_add]
      rcases eq_or_lt_of_le h0 with h | h
      · subst h
        rw [EReal.coe_zero, Ideal.div, if_pos rfl, if_neg (lt_irrefl _), log_bot, log_zero]; rfl
      · rw [div_pos h.ne', div_self h.ne', log_pos one_pos, log_pos h, Real.log_one, ← EReal.coe_sub, sub_self]
    | top => rw [exp_top, EReal.top_add_coe, div_top, log_zero, log_top, EReal.sub_top]
    | coe r =>
      have hp : 0 < Real.exp r + c := add_pos_of_pos_of_nonneg (Real.exp_pos r) h0
      rw [exp_real, ← EReal.coe_add, div_pos hp.ne', log_pos hp]
      rcases eq_or_lt_of_le h0 with h | h
      · subst h; rw [zero_div, EReal.coe_zero, log_zero, EReal.bot_sub]
      · rw [log_pos (_root_.div_pos h hp), log_pos h, Real.log_div h.ne' hp.ne', EReal.coe_sub]

/-- Dividing minus a sum by the batch is scaling the sum by minus the batch's inverse. -/
theorem mean_eq (s : EReal) : Ideal.div (((-1 : ℝ) : EReal) * s) ((16384 : ℝ) : EReal) = s * ((-(1 / 16384) : ℝ) : EReal) := by
  rw [Ideal.div, if_neg (by norm_num), mul_comm _ s, mul_assoc, ← EReal.coe_inv, ← EReal.coe_mul]
  norm_num

end Cert.Proof.NceValue

end
-- ==== Proof.PayNoise.lean ====
/-
  What the noise body computes from its blocks, at exact arithmetic, read at an index.
-/
module

public import proofs.«01_k».proof.Proof.NoiseRun
public import proofs.«01_k».proof.Proof.Scalars
public import Idealize.ShloMosaic.Lib.Pointwise
@[expose] public section

noncomputable section

namespace Cert.Proof.NceValue

open Idealize.ShloMosaic Cert.KernelIdeal Cert.KernelIdeal.Gen
open scoped BigOperators

set_option maxRecDepth 16384

/-- A comparison's bit, widened and made a float, is one or zero. -/
theorem sitofp_eq (a b : BitVec 32) : FloatOps.sitofp (F := Ideal) .f32 (BitVec.setWidth 32 (IntOp.cmpi .eq a b)) = if a = b then 1 else 0 := by
  by_cases h : a = b
  · rw [if_pos h, h]
    have e : BitVec.setWidth 32 (IntOp.cmpi .eq b b) = 1#32 := by simp [IntOp.cmpi]
    rw [e]
    show (((1#32 : BitVec 32).toInt : ℝ) : EReal) = 1
    simp
  · rw [if_neg h]
    have e : BitVec.setWidth 32 (IntOp.cmpi .eq a b) = 0#32 := by simp [IntOp.cmpi, beq_eq_false_iff_ne.mpr h]
    rw [e]
    show (((0#32 : BitVec 32).toInt : ℝ) : EReal) = 0
    simp

/-- A sum against a row with a single one selects. -/
theorem sum_hot {n : ℕ} (v : Fin n) (f g : Fin n → EReal) (hf : ∀ x, f x = if x = v then 1 else 0) : ∑ x, f x * g x = g v := by
  rw [Finset.sum_eq_single v]
  · rw [hf, if_pos rfl, one_mul]
  · intro x _ h; rw [hf, if_neg h, zero_mul]
  · intro h; exact absurd (Finset.mem_univ v) h

theorem ofNat_eq_iff {a : ℕ} (ha : a < 2 ^ 32) (w : BitVec 32) : BitVec.ofNat 32 a = w ↔ a = w.toNat := by
  constructor
  · rintro rfl; rw [BitVec.toNat_ofNat, Nat.mod_eq_of_lt ha]
  · rintro rfl; exact BitVec.eq_of_toNat_eq (by rw [BitVec.toNat_ofNat, Nat.mod_eq_of_lt w.isLt])

theorem hot_apply (c : Vec Ideal S64x1 .i32) (k : Fin 64) (h : (c (ix2 k 0)).toNat < 1000) (v : Fin 1000) :
    k1_pay2 (F := Ideal) c (ix2 k v) = if v = ⟨(c (ix2 k 0)).toNat, h⟩ then 1 else 0 := by
  pointwise [k1_pay2]
  rw [sitofp_eq]
  refine if_congr ((ofNat_eq_iff (by omega) _).trans ?_) rfl rfl
  exact (Fin.ext_iff (a := v) (b := ⟨(c (ix2 k 0)).toNat, h⟩)).symm

theorem pay3_apply (c : Vec Ideal S64x1 .i32) (W : Vec Ideal S1000x128 .f32) (k : Fin 64) (e : Fin 128) (h : (c (ix2 k 0)).toNat < 1000) :
    k1_pay3 (F := Ideal) c W (ix2 k e) = W (ix2 ⟨(c (ix2 k 0)).toNat, h⟩ e) := by
  pointwise [k1_pay3]
  exact sum_hot ⟨_, h⟩ _ (fun x => W (ix2 x e)) (hot_apply c k h)

theorem pay4_apply (c : Vec Ideal S64x1 .i32) (A : Vec Ideal S1000x8 .f32) (k : Fin 64) (r : Fin 2) (h : (c (ix2 k 0)).toNat < 1000) :
    k1_pay4 (F := Ideal) c A (ix2 r k) = A (ix2 ⟨(c (ix2 k 0)).toNat, h⟩ ⟨r.val, by omega⟩) := by
  pointwise [k1_pay4]
  refine (sum_hot (⟨r.val, by omega⟩ : Fin 8) _ (fun y => ∑ x, k1_pay2 c (ix2 k x) * A (ix2 x y)) fun y => ?_).trans (sum_hot ⟨_, h⟩ _ (fun x => A (ix2 x ⟨r.val, _⟩)) (hot_apply c k h))
  rw [sitofp_eq]
  refine if_congr ((ofNat_eq_iff (by omega) _).trans ?_) rfl rfl
  rw [BitVec.toNat_ofNat, Nat.mod_eq_of_lt (by omega)]
  exact (Fin.ext_iff (a := y) (b := ⟨r.val, _⟩)).symm

/-- A masked sum over 64 columns is the sum over the first 50. -/
theorem sum_mask (f : Fin 64 → EReal) :
    ∑ x : Fin 64, Scalar.select (IntOp.cmpi .slt (BitVec.ofNat 32 x.val) 50#32) (f x) 0 = ∑ k : Fin 50, f ⟨k.val, by omega⟩ := by
  have hs : ∀ x : Fin 64, Scalar.select (IntOp.cmpi .slt (BitVec.ofNat 32 x.val) 50#32) (f x) 0 = if x.val < 50 then f x else 0 := by
    intro x
    have hx : IntOp.cmpi .slt (BitVec.ofNat 32 x.val) 50#32 = if x.val < 50 then 1#1 else 0#1 := by
      revert x; decide
    rw [hx]
    by_cases h : x.val < 50
    · rw [if_pos h, if_pos h]; rfl
    · rw [if_neg h, if_neg h]; rfl
  rw [Finset.sum_congr rfl fun x _ => hs x]
  rw [show (∑ x : Fin 64, if x.val < 50 then f x else 0) = ∑ x : Fin (50 + 14), (if x.val < 50 then f x else 0) from rfl, Fin.sum_univ_add]
  have h1 : ∀ i : Fin 50, (if (Fin.castAdd 14 i).val < 50 then f (Fin.castAdd 14 i) else 0) = f ⟨i.val, by omega⟩ := fun i => if_pos i.isLt
  have h2 : ∀ i : Fin 14, (if (Fin.natAdd 50 i).val < 50 then f (Fin.natAdd 50 i) else 0) = 0 := fun i => if_neg (by simp)
  rw [Finset.sum_congr rfl fun i _ => h1 i, Finset.sum_congr rfl fun i _ => h2 i, Finset.sum_const_zero, add_zero]

theorem pay5_apply (x : Vec Ideal S4096x128 .f32) (r0 r1 : Vec Ideal S1x64 .f32) (s : Vec Ideal S64x128 .f32) (j : S1x1.Idx) :
    k1_pay5 (F := Ideal) x r0 r1 s j = ∑ n : Fin 4096, ∑ k : Fin 50,
      (Ideal.log (((50 : ℝ) : EReal) * r1 (ix2 0 ⟨k.val, by omega⟩))
        - Ideal.log (Ideal.exp ((∑ e : Fin 128, x (ix2 n e) * s (ix2 ⟨k.val, by omega⟩ e)) + r0 (ix2 0 ⟨k.val, by omega⟩) - ((9 : ℝ) : EReal))
            + ((50 : ℝ) : EReal) * r1 (ix2 0 ⟨k.val, by omega⟩))) := by
  pointwise [k1_pay5]
  refine Finset.sum_congr rfl fun n _ => ?_
  refine (sum_mask _).trans ?_
  simp only [bits_fifty, bits_nine]

/-- Whether a grid coordinate's word is the zero word decides the select. -/
theorem select_zero {a : ℕ} (ha : a < 4) {α : Type} (y z : α) : Scalar.select (Scalar.cmpi .eq (BitVec.ofNat 32 a) 0#32) y z = if a = 0 then y else z := by
  have h : ∀ b : Fin 4, Scalar.cmpi .eq (BitVec.ofNat 32 b.val) 0#32 = if b.val = 0 then 1#1 else 0#1 := by decide
  rw [h ⟨a, ha⟩]
  by_cases h0 : a = 0
  · rw [if_pos h0, if_pos h0]; rfl
  · rw [if_neg h0, if_neg h0]; rfl

theorem pay6_apply (i : grid1.Coords) (hi : (i 0).val < 4) (y : Vec Ideal S1x1 .f32) (j : S1x1.Idx) :
    k1_pay6 (F := Ideal) i y j = if (i 0).val = 0 then 0 else y j := by
  pointwise [k1_pay6]
  exact select_zero hi _ _

theorem pay1_apply (v w : Vec Ideal S1x1 .f32) (j : S1x1.Idx) : k1_pay1 (F := Ideal) v w j = w j + v j := by
  pointwise [k1_pay1]

end Cert.Proof.NceValue

end
-- ==== Proof.PayData.lean ====
/-
  What the data body computes from its blocks, at exact arithmetic, read at an index.
-/
module

public import proofs.«01_k».proof.Proof.PayNoise
@[expose] public section

noncomputable section

namespace Cert.Proof.NceValue

open Idealize.ShloMosaic Cert.KernelIdeal Cert.KernelIdeal.Gen
open scoped BigOperators

set_option maxRecDepth 16384

theorem dpay1_apply (i : grid2.Coords) (hi : (i 0).val < 4) (x w : Vec Ideal S4096x128 .f32) (b nz : Vec Ideal S1x4096 .f32) (y : Vec Ideal S1x1 .f32) (j : S1x1.Idx) :
    k2_pay1 (F := Ideal) i x w b nz y j = (if (i 0).val = 0 then 0 else y j) + ∑ n : Fin 4096,
      (((∑ e : Fin 128, x (ix2 n e) * w (ix2 n e)) + b (ix2 0 n) - ((9 : ℝ) : EReal))
        - Ideal.log (Ideal.exp ((∑ e : Fin 128, x (ix2 n e) * w (ix2 n e)) + b (ix2 0 n) - ((9 : ℝ) : EReal)) + ((50 : ℝ) : EReal) * nz (ix2 0 n))) := by
  pointwise [k2_pay1]
  rw [select_zero hi]
  simp only [bits_fifty, bits_nine, bits_one, one_mul]

theorem dpay2_apply (v w : Vec Ideal S1x1 .f32) (j : S1x1.Idx) : k2_pay2 (F := Ideal) v w j = (v j + w j) * ((-(1/16384) : ℝ) : EReal) := by
  pointwise [k2_pay2]
  rw [bits_mean]

end Cert.Proof.NceValue

end
-- ==== Proof.Blocks.lean ====
/-
  The blocks the two TensorCore calls read, at coordinates of the arrays, and what the calls leave in their results.
-/
module

public import proofs.«01_k».proof.Proof.Main
public import proofs.«01_k».proof.Proof.PayData
public import Idealize.ShloMosaic.Lib.Pipeline.ValueKit.Geometry
@[expose] public section

noncomputable section

namespace Cert.Proof.NceValue

open Idealize.ShloMosaic Cert.KernelIdeal Cert.KernelIdeal.Gen
open scoped BigOperators

theorem ix2_same {n m : ℕ} (a : Fin n) (b : Fin m) : Nce.ix2 a b = ix2 a b := by
  funext c; match c with
  | ⟨0, _⟩ => rfl
  | ⟨1, _⟩ => rfl
theorem ix1_same {n : ℕ} (a : Fin n) : Nce.ix1 a = ix1 a := by
  funext c; match c with
  | ⟨0, _⟩ => rfl

variable (X : Dev nD → Valuation τ sig (Elt Ideal)) (c : Dev nD)

/-- Row `n` of block `t` of four. -/
def row (t : Fin 4) (n : Fin 4096) : Fin 16384 := ⟨t.val * 4096 + n.val, by omega⟩

/-! ## The noise call's blocks -/

theorem blk1_x (t : Fin cfg1.N) (n : Fin 4096) (e : Fin 128) (q : Fin 4) (hq : q.val = t.val) :
    Nce.blk1 X c 0 t (ix2 n e) = X c (Proc.devRef .tc main_arg0) (ix2 (row q n) e) := by
  have h : ∀ t : Fin cfg1.N, win1_0.index t = ![t.val, 0] := by decide +kernel
  unfold Nce.blk1
  blk_simp
  refine congrArg (X c (Proc.devRef .tc main_arg0)) (funext fun a => Fin.ext ?_)
  match a with
  | ⟨0, _⟩ => blk_simp [h]; exact congrArg (· * 4096 + n.val) hq.symm
  | ⟨1, _⟩ => blk_simp [h]

theorem blk1_w (t : Fin cfg1.N) (v : Fin 1000) (e : Fin 128) :
    Nce.blk1 X c 1 t (ix2 v e) = X c (Proc.devRef .tc main_arg2) (ix2 v e) := by
  have h : ∀ t : Fin cfg1.N, win1_1.index t = ![0, 0] := by decide +kernel
  unfold Nce.blk1
  blk_simp
  refine congrArg (X c (Proc.devRef .tc main_arg2)) (funext fun a => Fin.ext ?_)
  match a with
  | ⟨0, _⟩ => blk_simp [h]
  | ⟨1, _⟩ => blk_simp [h]

theorem blk1_s (t : Fin cfg1.N) (k : Fin 64) (e : Fin 8) :
    Nce.blk1 X c 2 t (ix2 k e) = X c (Proc.devRef .tc main_v3) (ix2 k e) := by
  have h : ∀ t : Fin cfg1.N, win1_2.index t = ![0, 0] := by decide +kernel
  unfold Nce.blk1
  blk_simp
  refine congrArg (X c (Proc.devRef .tc main_v3)) (funext fun a => Fin.ext ?_)
  match a with
  | ⟨0, _⟩ => blk_simp [h]
  | ⟨1, _⟩ => blk_simp [h]

theorem blk1_a (t : Fin cfg1.N) (v : Fin 1000) (e : Fin 8) :
    Nce.blk1 X c 3 t (ix2 v e) = X c (Proc.devRef .tc main_v7) (ix2 v e) := by
  have h : ∀ t : Fin cfg1.N, win1_3.index t = ![0, 0] := by decide +kernel
  unfold Nce.blk1
  blk_simp
  refine congrArg (X c (Proc.devRef .tc main_v7)) (funext fun a => Fin.ext ?_)
  match a with
  | ⟨0, _⟩ => blk_simp [h]
  | ⟨1, _⟩ => blk_simp [h]

/-! ## The data call's blocks -/

theorem blk2_x (t : Fin cfg2.N) (n : Fin 4096) (e : Fin 128) (q : Fin 4) (hq : q.val = t.val) :
    Nce.blk2 X c 0 t (ix2 n e) = X c (Proc.devRef .tc main_arg0) (ix2 (row q n) e) := by
  have h : ∀ t : Fin cfg2.N, win2_0.index t = ![t.val, 0] := by decide +kernel
  unfold Nce.blk2
  blk_simp
  refine congrArg (X c (Proc.devRef .tc main_arg0)) (funext fun a => Fin.ext ?_)
  match a with
  | ⟨0, _⟩ => blk_simp [h]; exact congrArg (· * 4096 + n.val) hq.symm
  | ⟨1, _⟩ => blk_simp [h]

theorem blk2_w (t : Fin cfg2.N) (n : Fin 4096) (e : Fin 128) (q : Fin 4) (hq : q.val = t.val) :
    Nce.blk2 X c 1 t (ix2 n e) = X c (Proc.devRef .tc main_v8_0) (ix2 (row q n) e) := by
  have h : ∀ t : Fin cfg2.N, win2_1.index t = ![t.val, 0] := by decide +kernel
  unfold Nce.blk2
  blk_simp
  refine congrArg (X c (Proc.devRef .tc main_v8_0)) (funext fun a => Fin.ext ?_)
  match a with
  | ⟨0, _⟩ => blk_simp [h]; exact congrArg (· * 4096 + n.val) hq.symm
  | ⟨1, _⟩ => blk_simp [h]

theorem blk2_a (t : Fin cfg2.N) (r : Fin 8) (n : Fin 4096) (q : Fin 4) (hq : q.val = t.val) :
    Nce.blk2 X c 2 t (ix2 r n) = X c (Proc.devRef .tc main_v8_1) (ix2 r (row q n)) := by
  have h : ∀ t : Fin cfg2.N, win2_2.index t = ![0, t.val] := by decide +kernel
  unfold Nce.blk2
  blk_simp
  refine congrArg (X c (Proc.devRef .tc main_v8_1)) (funext fun a => Fin.ext ?_)
  match a with
  | ⟨0, _⟩ => blk_simp [h]
  | ⟨1, _⟩ => blk_simp [h]; exact congrArg (· * 4096 + n.val) hq.symm

theorem blk2_n (t : Fin cfg2.N) (a b : Fin 1) : Nce.blk2 X c 3 t (ix2 a b) = X c (Proc.devRef .tc main_v9) (ix2 a b) := by
  have h : ∀ t : Fin cfg2.N, win2_3.index t = ![0, 0] := by decide +kernel
  unfold Nce.blk2
  blk_simp
  refine congrArg (X c (Proc.devRef .tc main_v9)) (funext fun a => Fin.ext ?_)
  match a with
  | ⟨0, _⟩ => blk_simp [h]
  | ⟨1, _⟩ => blk_simp [h]

/-! ## The calls' results -/

theorem out1_res : Nce.out1 X c (Proc.devRef .tc main_v9) = Nce.nzAcc X c 3 := by
  refine (Pipeline.afterRegion_arr (Nce.dat1 X c) (X c) (show Function.Injective (Pipeline.arrRef spec1) by decide) 4).trans ?_
  refine (Nce.dat1 X c).arrAt_eq_of_after_last 4 ⟨3, by decide⟩ (by decide +kernel) _ fun j => ?_
  rfl

theorem out2_res : Nce.out2 X c (Proc.devRef .tc main_v10) = Nce.dtOut X c 3 := by
  refine (Pipeline.afterRegion_arr (Nce.dat2 X c) (X c) (show Function.Injective (Pipeline.arrRef spec2) by decide) 4).trans ?_
  refine (Nce.dat2 X c).arrAt_eq_of_after_last 4 ⟨3, by decide⟩ (by decide +kernel) _ fun j => ?_
  rfl

end Cert.Proof.NceValue

end
-- ==== Proof.HostValue.lean ====
/-
  What the host operations around the calls leave: the padded noise words, the table of biases and noise values, and the result.
-/
module

public import proofs.«01_k».proof.Proof.Blocks
public import Idealize.ShloMosaic.Lib.StableHlo.Run
@[expose] public section

noncomputable section

namespace Cert.Proof.NceValue

open Idealize.ShloMosaic Cert.KernelIdeal Cert.KernelIdeal.Gen

/-- The noise words padded with zeros to 64, over eight columns. -/
def pads (s : IVec S50 32) : IVec S64x8 32 :=
  broadcastInDim S64x8 ![0, 1] bcast_S64x1_S64x8_0_1 (broadcastInDim S64x1 ![0] bcast_S64_S64x1_0
    (concatenate S64 0 [⟨S50, s⟩, ⟨S14, broadcastInDim S14 ![] bcast_S_S14 (constantI S_ 32 0#32)⟩] concatenates_S50_S14_S64_d0))
/-- The biases and the noise values as the first two columns of eight. -/
def cols (b nz : FVec Ideal S1000 .f32) : FVec Ideal S1000x8 .f32 :=
  concatenate S1000x8 1 [⟨S1000x1, broadcastInDim S1000x1 ![0] bcast_S1000_S1000x1_0 b⟩, ⟨S1000x1, broadcastInDim S1000x1 ![0] bcast_S1000_S1000x1_0 nz⟩,
    ⟨S1000x6, broadcastInDim S1000x6 ![] bcast_S_S1000x6 (constant S_ .f32 0x00000000#32)⟩] concatenates_S1000x1_S1000x1_S1000x6_S1000x8_d1

variable (m : (ℓ : Loc nD τ sig) → Buf (Elt Ideal) ℓ) (d : Dev nD)

theorem V1_words : Nce.V1 m d (Proc.devRef .tc main_v3) = pads (m (Nce.sLoc d)) := by
  unfold Nce.V1 Nce.pre
  after_results
  rfl

theorem V1_cols : Nce.V1 m d (Proc.devRef .tc main_v7) = cols (m (Nce.bLoc d)) (m (Nce.nLoc d)) := by
  unfold Nce.V1 Nce.pre
  after_results
  rfl

theorem pads_lt (s : IVec S50 32) (k : Fin 50) : pads s (ix2 ⟨k.val, by omega⟩ 0) = s (ix1 k) := by
  pointwise [pads]
theorem pads_range (s : IVec S50 32) (hs : ∀ i, (s i).toNat < 1000) (k : Fin 64) : (pads s (ix2 k 0)).toNat < 1000 := by
  pointwise [pads]
  split
  · exact hs _
  · decide
theorem cols_zero (b nz : FVec Ideal S1000 .f32) (v : Fin 1000) : cols b nz (ix2 v 0) = b (ix1 v) := by
  pointwise [cols]
theorem cols_one (b nz : FVec Ideal S1000 .f32) (v : Fin 1000) : cols b nz (ix2 v 1) = nz (ix1 v) := by
  pointwise [cols]

theorem V5_res (g : S8x16384.Idx → Elt Ideal .f32) (j : S_.Idx) :
    Nce.V5 m d g (Proc.devRef .tc main_v11) j = Nce.V4 m d g (Proc.devRef .tc main_v10) (ix2 0 0) := by
  have h : Nce.V5 m d g (Proc.devRef .tc main_v11) = shapeCast S_ (Nce.V4 m d g (Proc.devRef .tc main_v10)) shapeCasts_S1x1_S_ := by
    unfold Nce.V5 Nce.post
    rw [StableHlo.reshape_result]
    rfl
  rw [h]
  generalize Nce.V4 m d g (Proc.devRef .tc main_v10) = u
  change S1x1.Idx → EReal at u
  show shapeCast S_ u _ j = u (ix2 0 0)
  pointwise
end Cert.Proof.NceValue

end
-- ==== Proof.RefTerm.lean ====
/-
  The reference's result, cut at its own steps: the index arrays, the rows and values taken, the logits, the two log terms, the mean.
-/
module

public import proofs.«01_k».proof.Proof.Gen.ReferenceIdeal
public import proofs.«01_k».proof.Proof.Gen.ReferenceIdeal.Run
@[expose] public section

noncomputable section

namespace Cert.Proof.NceValue

open Idealize.ShloMosaic Cert.ReferenceIdeal Cert.ReferenceIdeal.Gen

variable {F : FTy → Type} [FloatOps F]

/-! ## The index arrays -/

/-- The noise samples, one row for every example, -/
def rNs (s : IVec S50 32) : IVec S16384x50 32 :=
  shapeCast _ (broadcastInDim S16384x1x1x50 ![0, 1, 2, 3] bcast_S1x1x1x50_S16384x1x1x50_0_1_2_3 (shapeCast _ (broadcastInDim S1x50 ![1] bcast_S50_S1x50_1 s) shapeCasts_S1x50_S1x1x1x50)) shapeCasts_S16384x1x1x50_S16384x50
/-- and with the target in front. -/
def rIdx (t : IVec S16384 32) (s : IVec S50 32) : IVec S16384x51 32 :=
  concatenate S16384x51 1 [⟨S16384x1, (broadcastInDim S16384x1 ![0] bcast_S16384_S16384x1_0 t)⟩, ⟨S16384x50, rNs s⟩] concatenates_S16384x1_S16384x50_S16384x51_d1

/-! ## What is taken at them -/

/-- A negative index counts from the end; -/
def wrap51 (x : IVec S16384x51 32) : IVec S16384x51x1 32 :=
  broadcastInDim S16384x51x1 ![0, 1] bcast_S16384x51_S16384x51x1_0_1 (select (cmpi .slt x (broadcastInDim S16384x51 ![] bcast_S_S16384x51 (constantI S_ 32 0#32))) (addi x (broadcastInDim S16384x51 ![] bcast_S_S16384x51 (constantI S_ 32 1000#32))) x)
def wrap50 (x : IVec S16384x50 32) : IVec S16384x50x1 32 :=
  broadcastInDim S16384x50x1 ![0, 1] bcast_S16384x50_S16384x50x1_0_1 (select (cmpi .slt x (broadcastInDim S16384x50 ![] bcast_S_S16384x50 (constantI S_ 32 0#32))) (addi x (broadcastInDim S16384x50 ![] bcast_S_S16384x50 (constantI S_ 32 1000#32))) x)
def wrap1 (x : IVec S16384 32) : IVec S16384x1 32 :=
  broadcastInDim S16384x1 ![0] bcast_S16384_S16384x1_0 (select (cmpi .slt x (broadcastInDim S16384 ![] bcast_S_S16384 (constantI S_ 32 0#32))) (addi x (broadcastInDim S16384 ![] bcast_S_S16384 (constantI S_ 32 1000#32))) x)

/-- an index is good within the table; -/
def good51 (x : IVec S16384x51x1 32) : IVec S16384x51 1 :=
  Host.reduce IntOp.andi (andi (cmpi .sge x (broadcastInDim S16384x51x1 ![] bcast_S_S16384x51x1 (constantI S_ 32 0#32))) (cmpi .sle x (broadcastInDim S16384x51x1 ![0, 1, 2] bcast_S1x1x1_S16384x51x1_0_1_2 (broadcastInDim S1x1x1 ![2] bcast_S1_S1x1x1_2 (constantI S1 32 999#32))))) (constantI S_ 1 1#1) reducesTo_S16384x51x1_S16384x51_d2 h_S_
def good50 (x : IVec S16384x50x1 32) : IVec S16384x50 1 :=
  Host.reduce IntOp.andi (andi (cmpi .sge x (broadcastInDim S16384x50x1 ![] bcast_S_S16384x50x1 (constantI S_ 32 0#32))) (cmpi .sle x (broadcastInDim S16384x50x1 ![0, 1, 2] bcast_S1x1x1_S16384x50x1_0_1_2 (broadcastInDim S1x1x1 ![2] bcast_S1_S1x1x1_2 (constantI S1 32 999#32))))) (constantI S_ 1 1#1) reducesTo_S16384x50x1_S16384x50_d2 h_S_
def good1 (x : IVec S16384x1 32) : IVec S16384 1 :=
  Host.reduce IntOp.andi (andi (cmpi .sge x (broadcastInDim S16384x1 ![] bcast_S_S16384x1 (constantI S_ 32 0#32))) (cmpi .sle x (broadcastInDim S16384x1 ![0, 1] bcast_S1x1_S16384x1_0_1 (broadcastInDim S1x1 ![1] bcast_S1_S1x1_1 (constantI S1 32 999#32))))) (constantI S_ 1 1#1) reducesTo_S16384x1_S16384_d1 h_S_

/-- the rows of a table at good indices, -/
def takeRows (W : FVec F S1000x128 .f32) (x : IVec S16384x51 32) : FVec F S16384x51x128 .f32 :=
  select (broadcastInDim S16384x51x128 ![0, 1] bcast_S16384x51_S16384x51x128_0_1 (good51 (wrap51 x))) (Host.gather gather_S1000x128_S16384x51x1_S16384x51x128_2_0_n_n_0_2_1128 W (wrap51 x)) (broadcastInDim S16384x51x128 ![] bcast_S_S16384x51x128 (constant S_ .f32 0x7FC00000#32))
/-- the values of one. -/
def take51 (b : FVec F S1000 .f32) (x : IVec S16384x51 32) : FVec F S16384x51 .f32 :=
  select (good51 (wrap51 x)) (Host.gather gather_S1000_S16384x51x1_S16384x51_n_0_n_n_0_2_1 b (wrap51 x)) (broadcastInDim S16384x51 ![] bcast_S_S16384x51 (constant S_ .f32 0x7FC00000#32))
def take50 (b : FVec F S1000 .f32) (x : IVec S16384x50 32) : FVec F S16384x50 .f32 :=
  select (good50 (wrap50 x)) (Host.gather gather_S1000_S16384x50x1_S16384x50_n_0_n_n_0_2_1 b (wrap50 x)) (broadcastInDim S16384x50 ![] bcast_S_S16384x50 (constant S_ .f32 0x7FC00000#32))
def take1 (b : FVec F S1000 .f32) (x : IVec S16384 32) : FVec F S16384 .f32 :=
  select (good1 (wrap1 x)) (Host.gather gather_S1000_S16384x1_S16384_n_0_n_n_0_1_1 b (wrap1 x)) (broadcastInDim S16384 ![] bcast_S_S16384 (constant S_ .f32 0x7FC00000#32))

/-! ## The loss -/

/-- The unnormalised probabilities. -/
def rProb (x : FVec F S16384x128 .f32) (t : IVec S16384 32) (W : FVec F S1000x128 .f32) (b : FVec F S1000 .f32) (s : IVec S50 32) : FVec F S16384x51 .f32 :=
  Host.exp (subf (addf (Host.dotGeneral dot_S16384x128_S16384x51x128_S16384x51_1_2_n_1_0_0 none x (takeRows W (rIdx t s))) (take51 b (rIdx t s))) (broadcastInDim S16384x51 ![] bcast_S_S16384x51 (constant S_ .f32 0x41100000#32)))
/-- The data terms. -/
def rData (p : FVec F S16384x51 .f32) (t : IVec S16384 32) (nz : FVec F S1000 .f32) : FVec F S16384 .f32 :=
  Host.log (Host.divf (shapeCast _ (extractStridedSlice S16384x1 ![0, 0] p slices_S16384x51_S16384x1_0_0) shapeCasts_S16384x1_S16384) (addf (shapeCast _ (extractStridedSlice S16384x1 ![0, 0] p slices_S16384x51_S16384x1_0_0) shapeCasts_S16384x1_S16384) (mulf (broadcastInDim S16384 ![] bcast_S_S16384 (constant S_ .f32 0x42480000#32)) (take1 nz t))))
/-- The noise terms. -/
def rNoise (p : FVec F S16384x51 .f32) (nz : FVec F S1000 .f32) (s : IVec S50 32) : FVec F S16384x50 .f32 :=
  Host.log (Host.divf (mulf (broadcastInDim S16384x50 ![] bcast_S_S16384x50 (constant S_ .f32 0x42480000#32)) (take50 nz (rNs s))) (addf (extractStridedSlice S16384x50 ![0, 1] p slices_S16384x51_S16384x50_0_1) (mulf (broadcastInDim S16384x50 ![] bcast_S_S16384x50 (constant S_ .f32 0x42480000#32)) (take50 nz (rNs s)))))
/-- Minus the mean of their sum. -/
def rLoss (l : FVec F S16384 .f32) (k : FVec F S16384x50 .f32) : FVec F S_ .f32 :=
  Host.divf (mulf (constant S_ .f32 0xBF800000#32) (Host.reduceAdd (addf l (Host.reduceAdd k (constant S_ .f32 0x00000000#32) reducesTo_S16384x50_S16384_d1 h_S_)) (constant S_ .f32 0x00000000#32) reducesTo_S16384_S_d0 h_S_)) (constant S_ .f32 0x46800000#32)
def rTerm (x : FVec F S16384x128 .f32) (t : IVec S16384 32) (W : FVec F S1000x128 .f32) (b nz : FVec F S1000 .f32) (s : IVec S50 32) : FVec F S_ .f32 :=
  rLoss (rData (rProb x t W b s) t nz) (rNoise (rProb x t W b s) nz s)

/-- The generated run's result is this term of the argument arrays. -/
theorem res_eq (m : (ℓ : Loc nD τ sig) → Buf (Elt F) ℓ) (c : Dev nD) :
    Value.res_main_v34 m c = rTerm (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  rfl

end Cert.Proof.NceValue

end
-- ==== Proof.RefTake.lean ====
/-
  What the reference takes at indices in range: the table's rows and values there.
-/
module

public import proofs.«01_k».proof.Proof.RefTerm
public import Idealize.ShloMosaic.Lib.Pointwise
public import Idealize.ShloMosaic.Lib.Tactic.WordOmega
@[expose] public section

noncomputable section

namespace Cert.Proof.NceValue

open Idealize.ShloMosaic Cert.ReferenceIdeal Cert.ReferenceIdeal.Gen

/-- The vocabulary row that an index word names. -/
def vocab (w : BitVec 32) : Fin 1000 := ⟨w.toNat % 1000, Nat.mod_lt _ (by decide)⟩

/-! ## Words in range -/

theorem word_nonneg {w : BitVec 32} (h : w.toNat < 1000) : w.slt 0#32 = false := by
  simp only [BitVec.slt_eq_decide, decide_eq_false_iff_not, BitVec.toInt_eq_toNat_cond, BitVec.reduceToNat]
  omega
theorem word_ge {w : BitVec 32} (h : w.toNat < 1000) : (0#32).sle w = true := by
  simp only [BitVec.sle_eq_decide, decide_eq_true_eq, BitVec.toInt_eq_toNat_cond, BitVec.reduceToNat]
  omega
theorem word_le {w : BitVec 32} (h : w.toNat < 1000) : w.sle 999#32 = true := by
  simp only [BitVec.sle_eq_decide, decide_eq_true_eq, BitVec.toInt_eq_toNat_cond, BitVec.reduceToNat]
  omega
theorem word_clamp {w : BitVec 32} (h : w.toNat < 1000) : min w.toInt.toNat 999 = w.toNat := by
  simp only [BitVec.toInt_eq_toNat_cond]
  omega

/-! ## The index arrays -/

theorem rNs_apply (s : IVec S50 32) (n : Fin 16384) (k : Fin 50) : rNs s (ix2 n k) = s (ix1 k) := by
  pointwise [rNs]

theorem rIdx_zero (t : IVec S16384 32) (s : IVec S50 32) (n : Fin 16384) : rIdx t s (ix2 n 0) = t (ix1 n) := by
  pointwise [rIdx]

theorem rIdx_succ (t : IVec S16384 32) (s : IVec S50 32) (n : Fin 16384) (k : Fin 50) : rIdx t s (ix2 n ⟨k.val + 1, by omega⟩) = s (ix1 k) := by
  pointwise [rIdx]
  exact rNs_apply s n k

/-- In range nothing wraps round. -/
theorem wrap51_apply (x : IVec S16384x51 32) (n : Fin 16384) (k : Fin 51) (h : (x (ix2 n k)).toNat < 1000) : wrap51 x (ix3 n k 0) = x (ix2 n k) := by
  pointwise [wrap51]
  simp [IntOp.cmpi, word_nonneg h, Scalar.select]
theorem wrap50_apply (x : IVec S16384x50 32) (n : Fin 16384) (k : Fin 50) (h : (x (ix2 n k)).toNat < 1000) : wrap50 x (ix3 n k 0) = x (ix2 n k) := by
  pointwise [wrap50]
  simp [IntOp.cmpi, word_nonneg h, Scalar.select]
theorem wrap1_apply (x : IVec S16384 32) (n : Fin 16384) (h : (x (ix1 n)).toNat < 1000) : wrap1 x (ix2 n 0) = x (ix1 n) := by
  pointwise [wrap1]
  simp [IntOp.cmpi, word_nonneg h, Scalar.select]

/-- In range every index is good. -/
theorem good51_apply (x : IVec S16384x51x1 32) (n : Fin 16384) (k : Fin 51) (h : (x (ix3 n k 0)).toNat < 1000) : good51 x (ix2 n k) = 1#1 := by
  pointwise [good51]
  simp [IntOp.cmpi, word_ge h, word_le h, IntOp.andi]
theorem good50_apply (x : IVec S16384x50x1 32) (n : Fin 16384) (k : Fin 50) (h : (x (ix3 n k 0)).toNat < 1000) : good50 x (ix2 n k) = 1#1 := by
  pointwise [good50]
  simp [IntOp.cmpi, word_ge h, word_le h, IntOp.andi]
theorem good1_apply (x : IVec S16384x1 32) (n : Fin 16384) (h : (x (ix2 n 0)).toNat < 1000) : good1 x (ix1 n) = 1#1 := by
  pointwise [good1]
  simp [IntOp.cmpi, word_ge h, word_le h, IntOp.andi]

/-! ## The gathers -/

variable {α : Type}

/-- A one-axis table: at an index in range, the value there. -/
theorem gather_one {si tt : Shape} (d : GatherDims S1000 si tt) (hb : d.operandBatchingDims = []) (hc : d.collapsedSliceDims = [0]) (hm : d.startIndexMap = [0])
    (hz : d.sliceSizes = ![1]) (b : S1000.Idx → α) (x : IVec si 32) (j : tt.Idx) (i : si.Idx) (hi : ∀ c, d.siIdx j c = i) (h : (x i).toNat < 1000) :
    Host.gather d b x j = b (ix1 (vocab (x i))) := by
  unfold Host.gather
  congr 1
  funext a
  obtain rfl : a = 0 := Subsingleton.elim _ _
  refine Fin.ext ?_
  show d.start j x 0 + d.batchCoord j 0 + d.offCoord j 0 = (x i).toNat % 1000
  rw [GatherDims.batchCoord_eq_zero _ _ _ (by rw [hb]; exact List.not_mem_nil), GatherDims.offCoord_eq_zero _ _ _ (fun h => ((GatherDims.mem_sKept _ _).mp h).1 (by rw [hc]; exact List.mem_singleton.mpr rfl))]
  unfold GatherDims.start
  rw [dif_pos (by rw [hm]; exact List.mem_singleton.mpr rfl), hi, hz, Nat.mod_eq_of_lt h]
  exact word_clamp h

theorem gather_51 (b : S1000.Idx → α) (x : IVec S16384x51x1 32) (n : Fin 16384) (k : Fin 51) (h : (x (ix3 n k 0)).toNat < 1000) :
    Host.gather gather_S1000_S16384x51x1_S16384x51_n_0_n_n_0_2_1 b x (ix2 n k) = b (ix1 (vocab (x (ix3 n k 0)))) := by
  refine gather_one _ rfl rfl rfl rfl b x _ _ (fun c => ?_) h
  obtain rfl : c = ⟨0, Nat.one_pos⟩ := Fin.ext (Nat.lt_one_iff.mp c.isLt)
  funext a; refine Fin.ext ?_
  match a with
  | ⟨0, _⟩ => rfl
  | ⟨1, _⟩ => rfl
  | ⟨2, _⟩ => rfl
theorem gather_50 (b : S1000.Idx → α) (x : IVec S16384x50x1 32) (n : Fin 16384) (k : Fin 50) (h : (x (ix3 n k 0)).toNat < 1000) :
    Host.gather gather_S1000_S16384x50x1_S16384x50_n_0_n_n_0_2_1 b x (ix2 n k) = b (ix1 (vocab (x (ix3 n k 0)))) := by
  refine gather_one _ rfl rfl rfl rfl b x _ _ (fun c => ?_) h
  obtain rfl : c = ⟨0, Nat.one_pos⟩ := Fin.ext (Nat.lt_one_iff.mp c.isLt)
  funext a; refine Fin.ext ?_
  match a with
  | ⟨0, _⟩ => rfl
  | ⟨1, _⟩ => rfl
  | ⟨2, _⟩ => rfl
theorem gather_1 (b : S1000.Idx → α) (x : IVec S16384x1 32) (n : Fin 16384) (h : (x (ix2 n 0)).toNat < 1000) :
    Host.gather gather_S1000_S16384x1_S16384_n_0_n_n_0_1_1 b x (ix1 n) = b (ix1 (vocab (x (ix2 n 0)))) := by
  refine gather_one _ rfl rfl rfl rfl b x _ _ (fun c => ?_) h
  obtain rfl : c = ⟨0, Nat.one_pos⟩ := Fin.ext (Nat.lt_one_iff.mp c.isLt)
  funext a; refine Fin.ext ?_
  match a with
  | ⟨0, _⟩ => rfl
  | ⟨1, _⟩ => rfl

/-- The two-axis table: at an index in range, the row there. -/
theorem gather_rows (W : S1000x128.Idx → α) (x : IVec S16384x51x1 32) (n : Fin 16384) (k : Fin 51) (e : Fin 128) (h : (x (ix3 n k 0)).toNat < 1000) :
    Host.gather gather_S1000x128_S16384x51x1_S16384x51x128_2_0_n_n_0_2_1128 W x (ix3 n k e) = W (ix2 (vocab (x (ix3 n k 0))) e) := by
  have hi : ∀ c, gather_S1000x128_S16384x51x1_S16384x51x128_2_0_n_n_0_2_1128.siIdx (ix3 n k e) c = ix3 n k 0 := fun c => by
    obtain rfl : c = ⟨0, Nat.one_pos⟩ := Fin.ext (Nat.lt_one_iff.mp c.isLt)
    funext a; refine Fin.ext ?_
    match a with
    | ⟨0, _⟩ => rfl
    | ⟨1, _⟩ => rfl
    | ⟨2, _⟩ => rfl
  unfold Host.gather
  congr 1
  funext a; refine Fin.ext ?_
  match a with
  | ⟨0, _⟩ =>
    show GatherDims.start _ (ix3 n k e) x 0 + GatherDims.batchCoord _ (ix3 n k e) 0 + GatherDims.offCoord _ (ix3 n k e) 0 = (x (ix3 n k 0)).toNat % 1000
    rw [GatherDims.batchCoord_eq_zero _ _ _ (by exact List.not_mem_nil), GatherDims.offCoord_eq_zero _ _ _ (fun h => ((GatherDims.mem_sKept _ _).mp h).1 (List.mem_singleton.mpr rfl))]
    unfold GatherDims.start
    rw [dif_pos (by exact List.mem_singleton.mpr rfl), hi, Nat.mod_eq_of_lt h]
    exact word_clamp h
  | ⟨1, _⟩ =>
    show GatherDims.start _ (ix3 n k e) x 1 + GatherDims.batchCoord _ (ix3 n k e) 1 + GatherDims.offCoord _ (ix3 n k e) 1 = e.val
    rw [GatherDims.batchCoord_eq_zero _ _ _ (by exact List.not_mem_nil)]
    unfold GatherDims.start
    rw [dif_neg (by decide)]
    exact Nat.zero_add _

/-! ## What is taken -/

variable {F : FTy → Type} [FloatOps F]

theorem takeRows_apply (W : FVec F S1000x128 .f32) (x : IVec S16384x51 32) (n : Fin 16384) (k : Fin 51) (e : Fin 128) (h : (x (ix2 n k)).toNat < 1000) :
    takeRows W x (ix3 n k e) = W (ix2 (vocab (x (ix2 n k))) e) := by
  have hw := wrap51_apply x n k h
  have h' : (wrap51 x (ix3 n k 0)).toNat < 1000 := by rw [hw]; exact h
  pointwise [takeRows]
  rw [good51_apply _ n k h', gather_rows W _ n k e h', hw]
  rfl
theorem take51_apply (b : FVec F S1000 .f32) (x : IVec S16384x51 32) (n : Fin 16384) (k : Fin 51) (h : (x (ix2 n k)).toNat < 1000) :
    take51 b x (ix2 n k) = b (ix1 (vocab (x (ix2 n k)))) := by
  have hw := wrap51_apply x n k h
  have h' : (wrap51 x (ix3 n k 0)).toNat < 1000 := by rw [hw]; exact h
  pointwise [take51]
  rw [good51_apply _ n k h', gather_51 b _ n k h', hw]
  rfl
theorem take50_apply (b : FVec F S1000 .f32) (x : IVec S16384x50 32) (n : Fin 16384) (k : Fin 50) (h : (x (ix2 n k)).toNat < 1000) :
    take50 b x (ix2 n k) = b (ix1 (vocab (x (ix2 n k)))) := by
  have hw := wrap50_apply x n k h
  have h' : (wrap50 x (ix3 n k 0)).toNat < 1000 := by rw [hw]; exact h
  pointwise [take50]
  rw [good50_apply _ n k h', gather_50 b _ n k h', hw]
  rfl
theorem take1_apply (b : FVec F S1000 .f32) (x : IVec S16384 32) (n : Fin 16384) (h : (x (ix1 n)).toNat < 1000) :
    take1 b x (ix1 n) = b (ix1 (vocab (x (ix1 n)))) := by
  have hw := wrap1_apply x n h
  have h' : (wrap1 x (ix2 n 0)).toNat < 1000 := by rw [hw]; exact h
  pointwise [take1]
  rw [good1_apply _ n h', gather_1 b _ n h', hw]
  rfl

end Cert.Proof.NceValue

end
-- ==== Proof.RefValue.lean ====
/-
  The reference's result at exact arithmetic, in closed form.
-/
module

public import proofs.«01_k».proof.Proof.RefTake
public import proofs.«01_k».proof.Proof.Scalars
@[expose] public section

noncomputable section

namespace Cert.Proof.NceValue

open Idealize.ShloMosaic Cert.ReferenceIdeal Cert.ReferenceIdeal.Gen
open scoped BigOperators

section
variable (x : FVec Ideal S16384x128 .f32) (t : IVec S16384 32) (W : FVec Ideal S1000x128 .f32) (b nz : FVec Ideal S1000 .f32) (s : IVec S50 32)

/-- The shifted logit of example `n` at vocabulary entry `v`. -/
def lgt (n : Fin 16384) (v : Fin 1000) : EReal := ((∑ e : Fin 128, x (ix2 n e) * W (ix2 v e)) + b (ix1 v)) - ((9 : ℝ) : EReal)
/-- Fifty times the noise value. -/
def nse (v : Fin 1000) : EReal := ((50 : ℝ) : EReal) * nz (ix1 v)

/-- The loss in closed form. -/
def lossOf : EReal :=
  Ideal.div (((-1 : ℝ) : EReal) * ∑ n : Fin 16384,
    (Ideal.log (Ideal.div (Ideal.exp (lgt x W b n (vocab (t (ix1 n))))) (Ideal.exp (lgt x W b n (vocab (t (ix1 n)))) + nse nz (vocab (t (ix1 n)))))
      + ∑ k : Fin 50, Ideal.log (Ideal.div (nse nz (vocab (s (ix1 k)))) (Ideal.exp (lgt x W b n (vocab (s (ix1 k)))) + nse nz (vocab (s (ix1 k)))))))
    ((16384 : ℝ) : EReal)

variable {x t W b nz s}

theorem rProb_apply (n : Fin 16384) (k : Fin 51) (v : BitVec 32) (hv : rIdx t s (ix2 n k) = v) (h : v.toNat < 1000) :
    rProb x t W b s (ix2 n k) = Ideal.exp (lgt x W b n (vocab v)) := by
  subst hv
  pointwise [rProb]
  simp only [takeRows_apply W _ n k _ h, take51_apply b _ n k h, bits_nine, lgt]

theorem rProb_zero (ht : ∀ i, (t i).toNat < 1000) (n : Fin 16384) : rProb x t W b s (ix2 n 0) = Ideal.exp (lgt x W b n (vocab (t (ix1 n)))) :=
  rProb_apply n 0 _ (rIdx_zero t s n) (ht _)
theorem rProb_succ (hs : ∀ i, (s i).toNat < 1000) (n : Fin 16384) (k : Fin 50) :
    rProb x t W b s (ix2 n ⟨1 + k.val, by omega⟩) = Ideal.exp (lgt x W b n (vocab (s (ix1 k)))) :=
  rProb_apply n _ _ ((congrArg (fun q => rIdx t s (ix2 n q)) (Fin.ext (Nat.add_comm 1 k.val))).trans (rIdx_succ t s n k)) (hs _)

theorem rData_apply (ht : ∀ i, (t i).toNat < 1000) (n : Fin 16384) :
    rData (rProb x t W b s) t nz (ix1 n) = Ideal.log (Ideal.div (Ideal.exp (lgt x W b n (vocab (t (ix1 n))))) (Ideal.exp (lgt x W b n (vocab (t (ix1 n)))) + nse nz (vocab (t (ix1 n))))) := by
  pointwise [rData]
  simp only [rProb_zero ht, take1_apply nz t n (ht _), bits_fifty, nse]

theorem rNoise_apply (hs : ∀ i, (s i).toNat < 1000) (n : Fin 16384) (k : Fin 50) :
    rNoise (rProb x t W b s) nz s (ix2 n k) = Ideal.log (Ideal.div (nse nz (vocab (s (ix1 k)))) (Ideal.exp (lgt x W b n (vocab (s (ix1 k)))) + nse nz (vocab (s (ix1 k))))) := by
  have h' : (rNs s (ix2 n k)).toNat < 1000 := by rw [rNs_apply]; exact hs _
  pointwise [rNoise]
  simp only [rProb_succ hs, take50_apply nz _ n k h', rNs_apply, bits_fifty, nse]

theorem rTerm_eq (ht : ∀ i, (t i).toNat < 1000) (hs : ∀ i, (s i).toNat < 1000) (j : S_.Idx) : rTerm (F := Ideal) x t W b nz s j = lossOf x t W b nz s := by
  pointwise [rTerm, rLoss]
  simp only [rData_apply ht, rNoise_apply hs, bits_neg_one, bits_batch, lossOf]
end

end Cert.Proof.NceValue

end
-- ==== Proof.KernelValue.lean ====
/-
  The kernel's result at exact arithmetic, in closed form: the two sums the TensorCore calls accumulate, added and scaled.
-/
module

public import proofs.«01_k».proof.Proof.HostValue
public import proofs.«01_k».proof.Proof.RefValue
public import proofs.«01_k».proof.Proof.Run
public import Idealize.ShloMosaic.Lib.Pipeline.ValueKit.Acc
@[expose] public section

noncomputable section

namespace Cert.Proof.NceValue

open Idealize.ShloMosaic Cert.KernelIdeal Cert.KernelIdeal.Gen
open scoped BigOperators

/-- The four blocks of rows are the rows. -/
theorem sum_rows (f : Fin 16384 → EReal) : ∑ t : Fin 4, ∑ n : Fin 4096, f (row t n) = ∑ n : Fin 16384, f n :=
  Fin.sum_mul_add_congr (fun _ _ _ => rfl) (by decide)

section
variable (x : FVec Ideal S16384x128 .f32) (t : IVec S16384 32) (W : FVec Ideal S1000x128 .f32) (b nz : FVec Ideal S1000 .f32) (s : IVec S50 32)

/-- The noise term of example `n` and sample `k`, and the data term of example `n`, as the kernel computes them. -/
def nTerm (n : Fin 16384) (k : Fin 50) : EReal :=
  Ideal.log (nse nz (vocab (s (ix1 k)))) - Ideal.log (Ideal.exp (lgt x W b n (vocab (s (ix1 k)))) + nse nz (vocab (s (ix1 k))))
def dTerm (n : Fin 16384) : EReal :=
  lgt x W b n (vocab (t (ix1 n))) - Ideal.log (Ideal.exp (lgt x W b n (vocab (t (ix1 n)))) + nse nz (vocab (t (ix1 n))))

/-- The closed loss as the kernel computes it. -/
theorem loss_split (h : ∀ i, (0 : EReal) ≤ nz i) :
    lossOf x t W b nz s = (∑ n, dTerm x t W b nz n + ∑ n, ∑ k, nTerm x W b nz s n k) * ((-(1/16384) : ℝ) : EReal) := by
  have hn : ∀ v, 0 ≤ nse nz v := fun v => mul_nonneg fifty_nonneg (h _)
  have h1 : ∀ z v, Ideal.log (Ideal.div (Ideal.exp z) (Ideal.exp z + nse nz v)) = z - Ideal.log (Ideal.exp z + nse nz v) := fun z v => log_data z _ (hn v)
  have h2 : ∀ z v, Ideal.log (Ideal.div (nse nz v) (Ideal.exp z + nse nz v)) = Ideal.log (nse nz v) - Ideal.log (Ideal.exp z + nse nz v) := fun z v => log_noise z _ (hn v)
  unfold lossOf
  rw [mean_eq, ← Finset.sum_add_distrib]
  simp only [h1, h2, dTerm, nTerm]
end

variable (m : (ℓ : Loc nD τ sig) → Buf (Elt Ideal) ℓ) (d : Dev nD) (g : S8x16384.Idx → Elt Ideal .f32)

/-! ## The launch memory's arrays -/

abbrev aX : FVec Ideal S16384x128 .f32 := m (Nce.xLoc d)
abbrev aT : IVec S16384 32 := m (Nce.tLoc d)
abbrev aW : FVec Ideal S1000x128 .f32 := m (Nce.wLoc d)
abbrev aB : FVec Ideal S1000 .f32 := m (Nce.bLoc d)
abbrev aN : FVec Ideal S1000 .f32 := m (Nce.nLoc d)
abbrev aS : IVec S50 32 := m (Nce.sLoc d)

/-! ## What the SparseCore call gathered, at coordinates -/

theorem gather_at (W : FVec Ideal S1000x128 .f32) (t : IVec S16384 32) (n : Fin 16384) (e : Fin 128) : Nce.gWr (F := Ideal) W t (ix2 n e) = W (ix2 (vocab (t (ix1 n))) e) := by
  show W (Nce.ix2 (Nce.voc (t (Nce.ix1 n))) e) = _
  rw [ix2_same, ix1_same]; rfl
theorem bias_at {b nz : FVec Ideal S1000 .f32} {t : IVec S16384 32} {g : FVec Ideal S8x16384 .f32} (h : Nce.BnOK (F := Ideal) b nz t Finset.univ g) (n : Fin 16384) :
    g (ix2 0 n) = b (ix1 (vocab (t (ix1 n)))) := by
  refine ((h (ix2 0 n) (Finset.mem_univ _)).1 rfl).trans ?_
  show b (Nce.ix1 (Nce.voc (t (Nce.ix1 n)))) = _
  rw [ix1_same, ix1_same]; rfl
theorem noise_at {b nz : FVec Ideal S1000 .f32} {t : IVec S16384 32} {g : FVec Ideal S8x16384 .f32} (h : Nce.BnOK (F := Ideal) b nz t Finset.univ g) (n : Fin 16384) :
    g (ix2 1 n) = nz (ix1 (vocab (t (ix1 n)))) := by
  refine ((h (ix2 1 n) (Finset.mem_univ _)).2 rfl).trans ?_
  show nz (Nce.ix1 (Nce.voc (t (Nce.ix1 n)))) = _
  rw [ix1_same, ix1_same]; rfl
/-- Two logits over equal factors are equal. -/
theorem lgt_congr {u u' v v' : Fin 128 → EReal} (hu : ∀ e, u e = u' e) (hv : ∀ e, v e = v' e) (b : EReal) :
    (∑ e, u e * v e) + b - ((9 : ℝ) : EReal) = (∑ e, u' e * v' e) + b - ((9 : ℝ) : EReal) := by
  rw [funext hu, funext hv]

/-! ## The noise call -/

section
variable (hs : ∀ i, (aS m d i).toNat < 1000)

theorem first_col (f : S64x8.Idx → BitVec 32) (k : Fin 64) : Nce.colOf f (ix2 k 0) = f (ix2 k 0) := congrArg f (ix2_same _ _)
theorem row_of {n m : ℕ} {α : Type} (f : (⟨2, ![n, m]⟩ : Shape).Idx → α) (r : Fin n) (k : Fin m) : Nce.rowOf r f (ix2 0 k) = f (ix2 r k) := congrArg f (ix2_same _ _)

/-- The sampled word of column `k`. -/
theorem word_at (k : Fin 64) : Nce.colOf (Nce.blk1 (fun _ => Nce.V2 m d g) d 2 (Nce.pnt1 0)) (ix2 k 0) = pads (aS m d) (ix2 k 0) := by
  refine (first_col _ k).trans ((blk1_s _ d _ k 0).trans ?_)
  rw [Nce.V2_of m d g _ (by decide) (by decide), V1_words]

include hs in
theorem word_range (k : Fin 64) : (Nce.colOf (Nce.blk1 (fun _ => Nce.V2 m d g) d 2 (Nce.pnt1 0)) (ix2 k 0)).toNat < 1000 := by
  rw [word_at]; exact pads_range _ hs k

include hs in
theorem word_voc (k : Fin 50) (h : (Nce.colOf (Nce.blk1 (fun _ => Nce.V2 m d g) d 2 (Nce.pnt1 0)) (ix2 ⟨k.val, by omega⟩ 0)).toNat < 1000) :
    (⟨_, h⟩ : Fin 1000) = vocab (aS m d (ix1 k)) := by
  apply Fin.ext
  show (Nce.colOf _ _ : BitVec 32).toNat = _ % 1000
  rw [word_at, pads_lt, Nat.mod_eq_of_lt (hs _)]

include hs in
theorem smpW_apply (k : Fin 50) (e : Fin 128) :
    Nce.smpW (fun _ => Nce.V2 m d g) d (ix2 ⟨k.val, by omega⟩ e) = aW m d (ix2 (vocab (aS m d (ix1 k))) e) := by
  refine (pay3_apply _ _ ⟨k.val, by omega⟩ e (word_range m d g hs _)).trans ?_
  rw [word_voc m d g hs k]
  refine (blk1_w _ d _ _ e).trans ?_
  rw [Nce.V2_arg m d g main_arg2 (by decide) (by decide) (by decide)]

include hs in
theorem smpA_zero (k : Fin 50) :
    Nce.smpA (fun _ => Nce.V2 m d g) d (ix2 0 ⟨k.val, by omega⟩) = aB m d (ix1 (vocab (aS m d (ix1 k)))) := by
  refine (pay4_apply _ _ ⟨k.val, by omega⟩ 0 (word_range m d g hs _)).trans ?_
  rw [word_voc m d g hs k]
  refine (blk1_a _ d _ _ _).trans ?_
  rw [Nce.V2_of m d g _ (by decide) (by decide), V1_cols]
  exact cols_zero _ _ _

include hs in
theorem smpA_one (k : Fin 50) :
    Nce.smpA (fun _ => Nce.V2 m d g) d (ix2 1 ⟨k.val, by omega⟩) = aN m d (ix1 (vocab (aS m d (ix1 k)))) := by
  refine (pay4_apply _ _ ⟨k.val, by omega⟩ 1 (word_range m d g hs _)).trans ?_
  rw [word_voc m d g hs k]
  refine (blk1_a _ d _ _ _).trans ?_
  rw [Nce.V2_of m d g _ (by decide) (by decide), V1_cols]
  exact cols_one _ _ _

theorem point1 (n : ℕ) (q : Fin 4) (hq : q.val = n) : (grid1.coords (Nce.pnt1 n) 0).val = q.val := by
  have e0 : (grid1.coords (Nce.pnt1 n) 0).val = (Nce.pnt1 n).val / 1 % 4 := Pipeline.Grid.coords_val (Nce.pnt1 n) 0 (by decide) rfl
  rw [e0]; show n % 4 / 1 % 4 = _; omega

include hs in
/-- One point's step adds its rows' noise terms. -/
theorem step1 (n : ℕ) (q : Fin 4) (hq : q.val = n) (y : Vec Ideal S1x1 .f32) (j : S1x1.Idx) :
    Nce.nzStep (grid1.coords (Nce.pnt1 n)) (Nce.blk1 (fun _ => Nce.V2 m d g) d 0 (Nce.pnt1 n)) (Nce.smpW (fun _ => Nce.V2 m d g) d) (Nce.smpA (fun _ => Nce.V2 m d g) d) y j
      = (if q.val = 0 then 0 else y j) + ∑ r : Fin 4096, ∑ k : Fin 50, nTerm (aX m d) (aW m d) (aB m d) (aN m d) (aS m d) (row q r) k := by
  unfold Nce.nzStep
  rw [pay1_apply, pay6_apply _ (by rw [point1 n q hq]; exact q.isLt), pay5_apply, point1 n q hq]
  refine congrArg (_ + ·) (Finset.sum_congr rfl fun r _ => Finset.sum_congr rfl fun k _ => ?_)
  rw [row_of, row_of, smpA_zero m d g hs, smpA_one m d g hs]
  have hx : ∀ e, Nce.blk1 (fun _ => Nce.V2 m d g) d 0 (Nce.pnt1 n) (ix2 r e) = aX m d (ix2 (row q r) e) := fun e => by
    refine (blk1_x _ d _ r e q (by show q.val = n % 4; omega)).trans ?_
    rw [Nce.V2_arg m d g main_arg0 (by decide) (by decide) (by decide)]
  unfold nTerm nse lgt
  rw [lgt_congr hx (smpW_apply m d g hs k)]

include hs in
theorem noise_sum (j : S1x1.Idx) : Nce.V3 m d g (Proc.devRef .tc main_v9) j
    = ∑ n, ∑ k, nTerm (aX m d) (aW m d) (aB m d) (aN m d) (aS m d) n k := by
  refine (congrFun (out1_res (fun _ => Nce.V2 m d g) d) j).trans ?_
  rw [← sum_rows, Fin.sum_univ_four]
  refine (step1 m d g hs 3 3 rfl _ j).trans ?_
  rw [if_neg (by decide)]; refine congrArg (· + _) ?_
  refine (step1 m d g hs 2 2 rfl _ j).trans ?_
  rw [if_neg (by decide)]; refine congrArg (· + _) ?_
  refine (step1 m d g hs 1 1 rfl _ j).trans ?_
  rw [if_neg (by decide)]; refine congrArg (· + _) ?_
  refine (step1 m d g hs 0 0 rfl _ j).trans ?_
  rw [if_pos (show (0 : Fin 4).val = 0 from rfl), zero_add]
end

/-! ## The data call -/

section
variable (hg : Nce.BnOK (aB m d) (aN m d) (aT m d) Finset.univ g)

theorem point2 (n : ℕ) (q : Fin 4) (hq : q.val = n) : (grid2.coords (Nce.pnt2 n) 0).val = q.val := by
  have e0 : (grid2.coords (Nce.pnt2 n) 0).val = (Nce.pnt2 n).val / 1 % 4 := Pipeline.Grid.coords_val (Nce.pnt2 n) 0 (by decide) rfl
  rw [e0]; show n % 4 / 1 % 4 = _; omega

theorem V3_of (r : Ref sig .tc) (h : r ≠ main_v9) : Nce.V3 m d g (Proc.devRef .tc r) = Nce.V2 m d g (Proc.devRef .tc r) := Nce.out1_of (fun _ => Nce.V2 m d g) d r h

theorem data_x (n : ℕ) (q : Fin 4) (hq : q.val = n) (r : Fin 4096) (e : Fin 128) :
    Nce.blk2 (fun _ => Nce.V3 m d g) d 0 (Nce.pnt2 n) (ix2 r e) = aX m d (ix2 (row q r) e) := by
  refine (blk2_x _ d _ r e q (by show q.val = n % 4; omega)).trans ?_
  rw [V3_of m d g main_arg0 (by decide), Nce.V2_arg m d g main_arg0 (by decide) (by decide) (by decide)]

theorem data_w (n : ℕ) (q : Fin 4) (hq : q.val = n) (r : Fin 4096) (e : Fin 128) :
    Nce.blk2 (fun _ => Nce.V3 m d g) d 1 (Nce.pnt2 n) (ix2 r e)
      = aW m d (ix2 (vocab (aT m d (ix1 (row q r)))) e) := by
  refine (blk2_w _ d _ r e q (by show q.val = n % 4; omega)).trans ?_
  rw [V3_of m d g main_v8_0 (by decide), Nce.V2_rows]
  exact gather_at _ _ _ _

include hg in
theorem data_b (n : ℕ) (q : Fin 4) (hq : q.val = n) (r : Fin 4096) :
    Nce.rowOf 0 (Nce.blk2 (fun _ => Nce.V3 m d g) d 2 (Nce.pnt2 n)) (ix2 0 r)
      = aB m d (ix1 (vocab (aT m d (ix1 (row q r))))) := by
  refine (row_of _ _ _).trans ((blk2_a _ d _ 0 r q (by show q.val = n % 4; omega)).trans ?_)
  rw [V3_of m d g main_v8_1 (by decide), Nce.V2_bnt]
  exact bias_at hg _

include hg in
theorem data_n (n : ℕ) (q : Fin 4) (hq : q.val = n) (r : Fin 4096) :
    Nce.rowOf 1 (Nce.blk2 (fun _ => Nce.V3 m d g) d 2 (Nce.pnt2 n)) (ix2 0 r)
      = aN m d (ix1 (vocab (aT m d (ix1 (row q r))))) := by
  refine (row_of _ _ _).trans ((blk2_a _ d _ 1 r q (by show q.val = n % 4; omega)).trans ?_)
  rw [V3_of m d g main_v8_1 (by decide), Nce.V2_bnt]
  exact noise_at hg _

include hg in
/-- One point's step adds its rows' data terms. -/
theorem step2 (n : ℕ) (q : Fin 4) (hq : q.val = n) (y : Vec Ideal S1x1 .f32) (j : S1x1.Idx) :
    k2_pay1 (grid2.coords (Nce.pnt2 n)) (Nce.blk2 (fun _ => Nce.V3 m d g) d 0 (Nce.pnt2 n)) (Nce.blk2 (fun _ => Nce.V3 m d g) d 1 (Nce.pnt2 n))
        (Nce.rowOf 0 (Nce.blk2 (fun _ => Nce.V3 m d g) d 2 (Nce.pnt2 n))) (Nce.rowOf 1 (Nce.blk2 (fun _ => Nce.V3 m d g) d 2 (Nce.pnt2 n))) y j
      = (if q.val = 0 then 0 else y j) + ∑ r : Fin 4096, dTerm (aX m d) (aT m d) (aW m d) (aB m d) (aN m d) (row q r) := by
  rw [dpay1_apply _ (by rw [point2 n q hq]; exact q.isLt), point2 n q hq]
  refine congrArg (_ + ·) (Finset.sum_congr rfl fun r _ => ?_)
  rw [data_b m d g hg n q hq, data_n m d g hg n q hq]
  unfold dTerm nse lgt
  rw [lgt_congr (data_x m d g n q hq r) (data_w m d g n q hq r)]

include hg in
theorem data_sum (j : S1x1.Idx) : Nce.dtAcc (fun _ => Nce.V3 m d g) d 3 j
    = ∑ n, dTerm (aX m d) (aT m d) (aW m d) (aB m d) (aN m d) n := by
  rw [← sum_rows, Fin.sum_univ_four]
  refine (step2 m d g hg 3 3 rfl _ j).trans ?_
  rw [if_neg (by decide)]; refine congrArg (· + _) ?_
  refine (step2 m d g hg 2 2 rfl _ j).trans ?_
  rw [if_neg (by decide)]; refine congrArg (· + _) ?_
  refine (step2 m d g hg 1 1 rfl _ j).trans ?_
  rw [if_neg (by decide)]; refine congrArg (· + _) ?_
  refine (step2 m d g hg 0 0 rfl _ j).trans ?_
  rw [if_pos (show (0 : Fin 4).val = 0 from rfl), zero_add]
end

/-- The kernel's result is the closed loss. -/
theorem kernel_loss (hs : ∀ i, (aS m d i).toNat < 1000) (hn : ∀ i, (0 : EReal) ≤ aN m d i)
    (hg : Nce.BnOK (aB m d) (aN m d) (aT m d) Finset.univ g) (j : S_.Idx) :
    Nce.V5 m d g (Proc.devRef .tc main_v11) j = lossOf (aX m d) (aT m d) (aW m d) (aB m d) (aN m d) (aS m d) := by
  rw [V5_res, loss_split _ _ _ _ _ _ hn]
  refine (congrFun (out2_res (fun _ => Nce.V3 m d g) d) _).trans ?_
  unfold Nce.dtOut
  rw [if_pos rfl, dpay2_apply, data_sum m d g hg]
  refine congrArg (fun u => (_ + u) * _) ?_
  exact (blk2_n _ d _ 0 0).trans (noise_sum m d g hs _)

end Cert.Proof.NceValue

end
-- ==== Proof.Algebraic.lean ====
/-
  The value claim: at exact arithmetic the kernel and the reference end with the same loss.
-/
module

public import proofs.«01_k».proof.Proof.KernelValue
public import proofs.«01_k».proof.Proof.Domain
@[expose] public section

noncomputable section

namespace Cert.Proof.NceValue

open Idealize.ShloMosaic Idealize.SL.Sem

attribute [local instance] Cert.Pre_in_domain.Gen.facts Cert.KernelIdeal.Gen.facts Cert.ReferenceIdeal.Gen.facts

theorem algebraic : Cert.algebraic_KernelIdeal_ReferenceIdeal_pre_in_domain := by
  intro m ρ m' ρ' hpre hargs
  refine ⟨fun c _ => lossOf (aX m c) (aT m c) (aW m c) (aB m c) (aN m c) (aS m c), ?_, ?_⟩
  · refine (θ_run Cert.KernelIdeal.defs _ _).mono (fun r h c => ?_) (Nce.run_main (F := Ideal) m ρ fun d => (Nce.range_of_domain _ _ _ _ _ _ (hpre d)).1)
    obtain ⟨ha, g, hg, hv⟩ := h.1 c
    refine ⟨hv.trans (funext fun j => ?_), ha⟩
    exact kernel_loss m c g (Nce.range_of_domain _ _ _ _ _ _ (hpre c)).2 (Nce.noise_of_domain _ _ _ _ _ _ (hpre c)) hg j
  · refine (θ_run Cert.ReferenceIdeal.defs _ _).mono (fun r h c => ?_) (Cert.ReferenceIdeal.Value.run (F := Ideal) m' ρ')
    refine ⟨(h c).1.trans ?_, (h c).2⟩
    obtain ⟨e0, e1, e2, e3, e4, e5⟩ := hargs c
    rw [res_eq, e0, e1, e2, e3, e4, e5]
    have hr := Nce.range_of_domain _ _ _ _ _ _ (hpre c)
    exact funext fun j => rTerm_eq hr.1 hr.2 j

end Cert.Proof.NceValue

end
-- ==== Proof.lean ====
/- The claim's proof: the frames, the preserved reading and the value claim, from the runs and the sums that the modules beside it prove. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_in_range
public import proofs.«01_k».proof.Proof.Gen.Pre_in_domain
public import proofs.«01_k».proof.Proof.Frames
public import proofs.«01_k».proof.Proof.Domain
public import proofs.«01_k».proof.Proof.Algebraic

@[expose] public section

noncomputable section

namespace Cert.Proof

theorem claim : Cert.Claim := ⟨Cert.Kernel.Gen.facts, Cert.KernelIdeal.Gen.facts, Cert.ReferenceIdeal.Gen.facts, Cert.Pre_in_range.Gen.facts, Cert.Pre_in_domain.Gen.facts,
  Nce.frame_kernel, Nce.frame_ideal, Nce.frame_ideal_domain, Nce.frame_reference, Nce.frame_reference_domain, trivial, NceValue.algebraic⟩

end Cert.Proof

end
